-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v31_0) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2880 : Shape := ⟨3, ![2, 128, 2880]⟩
abbrev S11520x2880 : Shape := ⟨2, ![11520, 2880]⟩
abbrev S16 : Shape := ⟨1, ![16]⟩
abbrev S256x2880 : Shape := ⟨2, ![256, 2880]⟩
abbrev S720x1536 : Shape := ⟨2, ![720, 1536]⟩
abbrev S256x3072 : Shape := ⟨2, ![256, 3072]⟩
abbrev S16x1536 : Shape := ⟨2, ![16, 1536]⟩
abbrev S256x256 : Shape := ⟨2, ![256, 256]⟩
abbrev S1 : Shape := ⟨1, ![1]⟩
abbrev S256x64 : Shape := ⟨2, ![256, 64]⟩
abbrev S64x256 : Shape := ⟨2, ![64, 256]⟩
abbrev S256x128 : Shape := ⟨2, ![256, 128]⟩
abbrev S16x16x128 : Shape := ⟨3, ![16, 16, 128]⟩
abbrev S16x128 : Shape := ⟨2, ![16, 128]⟩
abbrev S720x180 : Shape := ⟨2, ![720, 180]⟩
abbrev S1x1 : Shape := ⟨2, ![1, 1]⟩
abbrev S1x720x1536 : Shape := ⟨3, ![1, 720, 1536]⟩
abbrev S1x1x1 : Shape := ⟨3, ![1, 1, 1]⟩
abbrev S128x128 : Shape := ⟨2, ![128, 128]⟩
abbrev S720x128 : Shape := ⟨2, ![720, 128]⟩
abbrev S1536x180 : Shape := ⟨2, ![1536, 180]⟩
abbrev S256x11520 : Shape := ⟨2, ![256, 11520]⟩
abbrev S11520x1440 : Shape := ⟨2, ![11520, 1440]⟩
abbrev S2880x5760 : Shape := ⟨2, ![2880, 5760]⟩
abbrev S256x1440 : Shape := ⟨2, ![256, 1440]⟩
abbrev S2880x128 : Shape := ⟨2, ![2880, 128]⟩
abbrev S16x1x128 : Shape := ⟨3, ![16, 1, 128]⟩
abbrev S64x128 : Shape := ⟨2, ![64, 128]⟩
abbrev S256x32 : Shape := ⟨2, ![256, 32]⟩
abbrev S2x128x11520 : Shape := ⟨3, ![2, 128, 11520]⟩

abbrev nBuf : Space → Nat
  | .hbm => 15
  | .vmem => 27
  | .smem => 3
  | _ => 0

abbrev bufTy : (tb : Table) → Fin (tcTables nBuf tb) → BufTy
  | .hbm, ⟨0, _⟩ => ⟨S2x128x2880, .bf16⟩
  | .hbm, ⟨1, _⟩ => ⟨S11520x2880, .bf16⟩
  | .hbm, ⟨2, _⟩ => ⟨S16, .f32⟩
  | .hbm, ⟨3, _⟩ => ⟨S256x2880, .bf16⟩
  | .hbm, ⟨4, _⟩ => ⟨S720x1536, .f32⟩
  | .hbm, ⟨5, _⟩ => ⟨S256x3072, .bf16⟩
  | .hbm, ⟨6, _⟩ => ⟨S720x1536, .f32⟩
  | .hbm, ⟨7, _⟩ => ⟨S720x180, .fp8e4m3⟩
  | .hbm, ⟨8, _⟩ => ⟨S720x1536, .bf16⟩
  | .hbm, ⟨9, _⟩ => ⟨S1x1, .f32⟩
  | .hbm, ⟨10, _⟩ => ⟨S1, .f32⟩
  | .hbm, ⟨11, _⟩ => ⟨S256x11520, .bf16⟩
  | .hbm, ⟨12, _⟩ => ⟨S11520x1440, .i8⟩
  | .hbm, ⟨13, _⟩ => ⟨S2880x5760, .i8⟩
  | .hbm, ⟨14, _⟩ => ⟨S2x128x11520, .bf16⟩
  | .local _ .vmem, ⟨0, _⟩ => ⟨S256x2880, .bf16⟩
  | .local _ .vmem, ⟨1, _⟩ => ⟨S256x2880, .bf16⟩
  | .local _ .vmem, ⟨2, _⟩ => ⟨S256x2880, .bf16⟩
  | .local _ .vmem, ⟨3, _⟩ => ⟨S16x1536, .f32⟩
  | .local _ .vmem, ⟨4, _⟩ => ⟨S16x1536, .f32⟩
  | .local _ .vmem, ⟨5, _⟩ => ⟨S256x3072, .bf16⟩
  | .local _ .vmem, ⟨6, _⟩ => ⟨S256x256, .bf16⟩
  | .local _ .vmem, ⟨7, _⟩ => ⟨S720x1536, .f32⟩
  | .local _ .vmem, ⟨8, _⟩ => ⟨S720x1536, .f32⟩
  | .local _ .vmem, ⟨9, _⟩ => ⟨S720x180, .fp8e4m3⟩
  | .local _ .vmem, ⟨10, _⟩ => ⟨S720x1536, .bf16⟩
  | .local _ .vmem, ⟨11, _⟩ => ⟨S1x1, .f32⟩
  | .local _ .vmem, ⟨12, _⟩ => ⟨S256x3072, .bf16⟩
  | .local _ .vmem, ⟨13, _⟩ => ⟨S256x2880, .bf16⟩
  | .local _ .vmem, ⟨14, _⟩ => ⟨S256x2880, .bf16⟩
  | .local _ .vmem, ⟨15, _⟩ => ⟨S16x1536, .f32⟩
  | .local _ .vmem, ⟨16, _⟩ => ⟨S16x1536, .f32⟩
  | .local _ .vmem, ⟨17, _⟩ => ⟨S16x1536, .bf16⟩
  | .local _ .vmem, ⟨18, _⟩ => ⟨S16x1536, .bf16⟩
  | .local _ .vmem, ⟨19, _⟩ => ⟨S256x256, .bf16⟩
  | .local _ .vmem, ⟨20, _⟩ => ⟨S256x256, .bf16⟩
  | .local _ .vmem, ⟨21, _⟩ => ⟨S256x1440, .i8⟩
  | .local _ .vmem, ⟨22, _⟩ => ⟨S256x1440, .i8⟩
  | .local _ .vmem, ⟨23, _⟩ => ⟨S2880x128, .i8⟩
  | .local _ .vmem, ⟨24, _⟩ => ⟨S2880x128, .i8⟩
  | .local _ .vmem, ⟨25, _⟩ => ⟨S256x256, .bf16⟩
  | .local _ .vmem, ⟨26, _⟩ => ⟨S256x3072, .bf16⟩
  | .local _ .smem, ⟨0, _⟩ => ⟨S16, .f32⟩
  | .local _ .smem, ⟨1, _⟩ => ⟨S16, .f32⟩
  | .local _ .smem, ⟨2, _⟩ => ⟨S1, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc2_stg6_0 : Ref sig .tc := ⟨.vmem, 19, rfl⟩
abbrev cc2_stg6_1 : Ref sig .tc := ⟨.vmem, 20, rfl⟩
abbrev cc2_stg7_0 : Ref sig .tc := ⟨.vmem, 21, rfl⟩
abbrev cc2_stg7_1 : Ref sig .tc := ⟨.vmem, 22, rfl⟩
abbrev cc2_stg8_0 : Ref sig .tc := ⟨.vmem, 23, rfl⟩
abbrev cc2_stg8_1 : Ref sig .tc := ⟨.vmem, 24, rfl⟩
abbrev cc2_scratch0 : Ref sig .tc := ⟨.vmem, 25, rfl⟩
abbrev cc2_scratch1 : Ref sig .tc := ⟨.vmem, 26, rfl⟩
abbrev cc0_stg0_0 : Ref sig .tc := ⟨.smem, 0, rfl⟩
abbrev cc2_stg0_0 : Ref sig .tc := ⟨.smem, 1, rfl⟩
abbrev cc2_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26

abbrev nD : Nat := 1
abbrev τ : Topo := Topo.v7x

variable {F : FTy → Type} [FloatOps F]

abbrev grid0 : Pipeline.Grid := ⟨1, ![45], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2880 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S720x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S720x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S720x180 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S720x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![45], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .smem S16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x3072 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2880 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x1536 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S16x1536 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1440 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2880x128 .i8 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S2x128x2880 : Shape := ⟨3, ![2, 128, 2880]⟩
abbrev S11520x2880 : Shape := ⟨2, ![11520, 2880]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S11520x180x16 : Shape := ⟨3, ![11520, 180, 16]⟩
abbrev S1 : Shape := ⟨1, ![1]⟩
abbrev S720x16x180x16 : Shape := ⟨4, ![720, 16, 180, 16]⟩
abbrev S720x180 : Shape := ⟨2, ![720, 180]⟩
abbrev S720x1x180x1 : Shape := ⟨4, ![720, 1, 180, 1]⟩
abbrev S11520x1440 : Shape := ⟨2, ![11520, 1440]⟩
abbrev S5760x2880 : Shape := ⟨2, ![5760, 2880]⟩
abbrev S2880x5760 : Shape := ⟨2, ![2880, 5760]⟩
abbrev S2x128x180x16 : Shape := ⟨4, ![2, 128, 180, 16]⟩
abbrev S720x16x180x8 : Shape := ⟨4, ![720, 16, 180, 8]⟩
abbrev S2x128x1440 : Shape := ⟨3, ![2, 128, 1440]⟩
abbrev S2x128x11520 : Shape := ⟨3, ![2, 128, 11520]⟩

abbrev nBuf : Space → Nat
  | .hbm => 173
  | .vmem => 4
  | .smem => 1
  | _ => 0

abbrev hbmTy0_0 (i : Nat) : BufTy := match i % 128 with
  | 0 => ⟨S2x128x2880, .bf16⟩
  | 1 => ⟨S11520x2880, .bf16⟩
  | 2 => ⟨S16, .f32⟩
  | 3 => ⟨S16, .i32⟩
  | 4 => ⟨S16x1, .i32⟩
  | 5 => ⟨S16, .i32⟩
  | 6 => ⟨S1x16, .i32⟩
  | 7 => ⟨S16x16, .i32⟩
  | 8 => ⟨S16x16, .i32⟩
  | 9 => ⟨S16x16, .i32⟩
  | 10 => ⟨S16x16, .i32⟩
  | 11 => ⟨S_, .i32⟩
  | 12 => ⟨S16x16, .i32⟩
  | 13 => ⟨S16x16, .i32⟩
  | 14 => ⟨S16x1, .f32⟩
  | 15 => ⟨S_, .i32⟩
  | 16 => ⟨S16x16, .i32⟩
  | 17 => ⟨S16x16, .i32⟩
  | 18 => ⟨S_, .i32⟩
  | 19 => ⟨S16x16, .i32⟩
  | 20 => ⟨S16x16, .i32⟩
  | 21 => ⟨S16x16, .f32⟩
  | 22 => ⟨S16x16, .f32⟩
  | 23 => ⟨S16x16, .f32⟩
  | 24 => ⟨S_, .f32⟩
  | 25 => ⟨S16x16, .f32⟩
  | 26 => ⟨S16x16, .f32⟩
  | 27 => ⟨S11520x2880, .f32⟩
  | 28 => ⟨S11520x180x16, .f32⟩
  | 29 => ⟨S11520x180x16, .f32⟩
  | 30 => ⟨S11520x2880, .f32⟩
  | 31 => ⟨S11520x2880, .f32⟩
  | 32 => ⟨S_, .f32⟩
  | 33 => ⟨S_, .f32⟩
  | 34 => ⟨S_, .f32⟩
  | 35 => ⟨S_, .f32⟩
  | 36 => ⟨S1, .f32⟩
  | 37 => ⟨S720x16x180x16, .f32⟩
  | 38 => ⟨S720x16x180x16, .f32⟩
  | 39 => ⟨S_, .f32⟩
  | 40 => ⟨S720x180, .f32⟩
  | 41 => ⟨S720x180, .fp8e4m3⟩
  | 42 => ⟨S720x180, .f32⟩
  | 43 => ⟨S720x180, .bf16⟩
  | 44 => ⟨S_, .f32⟩
  | 45 => ⟨S720x180, .f32⟩
  | 46 => ⟨S720x180, .f32⟩
  | 47 => ⟨S720x1x180x1, .f32⟩
  | 48 => ⟨S_, .f32⟩
  | 49 => ⟨S720x1x180x1, .f32⟩
  | 50 => ⟨S720x1x180x1, .i1⟩
  | 51 => ⟨S_, .f32⟩
  | 52 => ⟨S_, .f32⟩
  | 53 => ⟨S720x1x180x1, .f32⟩
  | 54 => ⟨S720x1x180x1, .f32⟩
  | 55 => ⟨S720x16x180x16, .f32⟩
  | 56 => ⟨S720x16x180x16, .f32⟩
  | 57 => ⟨S_, .f32⟩
  | 58 => ⟨S_, .f32⟩
  | 59 => ⟨S720x16x180x16, .i1⟩
  | 60 => ⟨S720x16x180x16, .f32⟩
  | 61 => ⟨S720x16x180x16, .f32⟩
  | 62 => ⟨S_, .f32⟩
  | 63 => ⟨S_, .f32⟩
  | 64 => ⟨S_, .f32⟩
  | 65 => ⟨S720x16x180x16, .f32⟩
  | 66 => ⟨S720x16x180x16, .f32⟩
  | 67 => ⟨S_, .f32⟩
  | 68 => ⟨S720x16x180x16, .f32⟩
  | 69 => ⟨S720x16x180x16, .f32⟩
  | 70 => ⟨S720x16x180x16, .f32⟩
  | 71 => ⟨S_, .f32⟩
  | 72 => ⟨S720x16x180x16, .f32⟩
  | 73 => ⟨S720x16x180x16, .i1⟩
  | 74 => ⟨S_, .f32⟩
  | 75 => ⟨S720x16x180x16, .f32⟩
  | 76 => ⟨S720x16x180x16, .f32⟩
  | 77 => ⟨S720x16x180x16, .f32⟩
  | 78 => ⟨S_, .f32⟩
  | 79 => ⟨S720x16x180x16, .f32⟩
  | 80 => ⟨S720x16x180x16, .f32⟩
  | 81 => ⟨S_, .f32⟩
  | 82 => ⟨S720x16x180x16, .f32⟩
  | 83 => ⟨S720x16x180x16, .i1⟩
  | 84 => ⟨S720x16x180x16, .f32⟩
  | 85 => ⟨S_, .f32⟩
  | 86 => ⟨S720x16x180x16, .f32⟩
  | 87 => ⟨S720x16x180x16, .f32⟩
  | 88 => ⟨S720x16x180x16, .f32⟩
  | 89 => ⟨S_, .f32⟩
  | 90 => ⟨S720x16x180x16, .f32⟩
  | 91 => ⟨S720x16x180x16, .f32⟩
  | 92 => ⟨S720x16x180x16, .f32⟩
  | 93 => ⟨S720x16x180x16, .f32⟩
  | 94 => ⟨S_, .f32⟩
  | 95 => ⟨S720x16x180x16, .f32⟩
  | 96 => ⟨S720x16x180x16, .i1⟩
  | 97 => ⟨S_, .f32⟩
  | 98 => ⟨S720x16x180x16, .f32⟩
  | 99 => ⟨S720x16x180x16, .f32⟩
  | 100 => ⟨S_, .f32⟩
  | 101 => ⟨S720x16x180x16, .f32⟩
  | 102 => ⟨S720x16x180x16, .i1⟩
  | 103 => ⟨S_, .f32⟩
  | 104 => ⟨S720x16x180x16, .f32⟩
  | 105 => ⟨S720x16x180x16, .f32⟩
  | 106 => ⟨S_, .f32⟩
  | 107 => ⟨S720x16x180x16, .f32⟩
  | 108 => ⟨S720x16x180x16, .f32⟩
  | 109 => ⟨S_, .f32⟩
  | 110 => ⟨S720x16x180x16, .f32⟩
  | 111 => ⟨S720x16x180x16, .f32⟩
  | 112 => ⟨S720x16x180x16, .f32⟩
  | 113 => ⟨S720x16x180x16, .f32⟩
  | 114 => ⟨S720x16x180x16, .i32⟩
  | 115 => ⟨S_, .f32⟩
  | 116 => ⟨S720x16x180x16, .f32⟩
  | 117 => ⟨S720x16x180x16, .i1⟩
  | 118 => ⟨S720x16x180x16, .i32⟩
  | 119 => ⟨S_, .i32⟩
  | 120 => ⟨S720x16x180x16, .i32⟩
  | 121 => ⟨S720x16x180x16, .i32⟩
  | 122 => ⟨S720x16x180x16, .i32⟩
  | 123 => ⟨S11520x2880, .i32⟩
  | 124 => ⟨S11520x1440, .i32⟩
  | 125 => ⟨S11520x1440, .i32⟩
  | 126 => ⟨S_, .i32⟩
  | 127 => ⟨S11520x1440, .i32⟩
  | _ => ⟨S2x128x2880, .bf16⟩

abbrev hbmTy0_1 (i : Nat) : BufTy := match i % 128 with
  | 0 => ⟨S11520x1440, .i32⟩
  | 1 => ⟨S11520x1440, .i32⟩
  | 2 => ⟨S5760x2880, .i32⟩
  | 3 => ⟨S5760x2880, .i32⟩
  | 4 => ⟨S_, .i32⟩
  | 5 => ⟨S5760x2880, .i32⟩
  | 6 => ⟨S5760x2880, .i32⟩
  | 7 => ⟨S5760x2880, .i32⟩
  | 8 => ⟨S2880x5760, .i32⟩
  | 9 => ⟨S_, .f32⟩
  | 10 => ⟨S720x16x180x16, .f32⟩
  | 11 => ⟨S720x16x180x16, .i1⟩
  | 12 => ⟨S720x16x180x16, .f32⟩
  | 13 => ⟨S720x16x180x16, .f32⟩
  | 14 => ⟨S11520x2880, .f32⟩
  | 15 => ⟨S2x128x2880, .f32⟩
  | 16 => ⟨S2x128x180x16, .f32⟩
  | 17 => ⟨S2x128x180x16, .f32⟩
  | 18 => ⟨S2x128x2880, .f32⟩
  | 19 => ⟨S2x128x2880, .bf16⟩
  | 20 => ⟨S11520x1440, .f32⟩
  | 21 => ⟨S11520x1440, .bf16⟩
  | 22 => ⟨S720x16x180x8, .bf16⟩
  | 23 => ⟨S720x1x180x1, .bf16⟩
  | 24 => ⟨S720x16x180x8, .bf16⟩
  | 25 => ⟨S720x16x180x8, .bf16⟩
  | 26 => ⟨S11520x1440, .bf16⟩
  | 27 => ⟨S11520x1440, .f32⟩
  | 28 => ⟨S11520x1440, .bf16⟩
  | 29 => ⟨S720x16x180x8, .bf16⟩
  | 30 => ⟨S720x1x180x1, .bf16⟩
  | 31 => ⟨S720x16x180x8, .bf16⟩
  | 32 => ⟨S720x16x180x8, .bf16⟩
  | 33 => ⟨S11520x1440, .bf16⟩
  | 34 => ⟨S2x128x1440, .bf16⟩
  | 35 => ⟨S2x128x11520, .f32⟩
  | 36 => ⟨S2x128x1440, .bf16⟩
  | 37 => ⟨S2x128x11520, .f32⟩
  | 38 => ⟨S2x128x11520, .f32⟩
  | 39 => ⟨S_, .f32⟩
  | 40 => ⟨S2x128x11520, .f32⟩
  | 41 => ⟨S2x128x11520, .f32⟩
  | 42 => ⟨S2x128x11520, .bf16⟩
  | 43 => ⟨S11520x1440, .i8⟩
  | 44 => ⟨S2880x5760, .i8⟩
  | _ => ⟨S2x128x2880, .bf16⟩

abbrev hbmTy (i : Nat) : BufTy := match i / 128 with
  | 0 => hbmTy0_0 i
  | 1 => hbmTy0_1 i
  | _ => ⟨S2x128x2880, .bf16⟩

abbrev bufTy : (tb : Table) → Fin (tcTables nBuf tb) → BufTy
  | .hbm, ⟨i, _⟩ => hbmTy i
  | .local _ .vmem, ⟨0, _⟩ => ⟨S720x180, .f32⟩
  | .local _ .vmem, ⟨1, _⟩ => ⟨S720x180, .fp8e4m3⟩
  | .local _ .vmem, ⟨2, _⟩ => ⟨S720x180, .f32⟩
  | .local _ .vmem, ⟨3, _⟩ => ⟨S720x180, .bf16⟩
  | .local _ .smem, ⟨0, _⟩ => ⟨S1, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v41 : Ref sig .tc := ⟨.hbm, 61, rfl⟩
abbrev main_cst_8 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_16 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_cst_18 : Ref sig .tc := ⟨.hbm, 100, rfl⟩
abbrev main_v65 : Ref sig .tc := ⟨.hbm, 101, rfl⟩
abbrev main_v66 : Ref sig .tc := ⟨.hbm, 102, rfl⟩
abbrev main_cst_19 : Ref sig .tc := ⟨.hbm, 103, rfl⟩
abbrev main_v67 : Ref sig .tc := ⟨.hbm, 104, rfl⟩
abbrev main_v68 : Ref sig .tc := ⟨.hbm, 105, rfl⟩
abbrev main_cst_20 : Ref sig .tc := ⟨.hbm, 106, rfl⟩
abbrev main_v69 : Ref sig .tc := ⟨.hbm, 107, rfl⟩
abbrev main_v70 : Ref sig .tc := ⟨.hbm, 108, rfl⟩
abbrev main_cst_21 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_23 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_24 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_25 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_26 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S720x180 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S720x180 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S720x180 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S720x180 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.HandKernel.Tiles.lean ====
module

public import proofs.«01_k».proof.Proof.Gen.Kernel.Skeleton
public import Idealize.ShloMosaic.Lib.Pipeline.FrameBody
public import Idealize.ShloMosaic.Lib.Tactic
public import Idealize.ShloMosaic.Lib.Pipeline.Value

/-! The pure steps of the kernel, one definition per step: the rotation matrix, the block maxima of one column tile,
and the quantiser of one column tile (values, codes, packed codes, scaled values). -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The lane of a column inside its half of the tile: the column modulo 128. -/
def rotLane : IVec S256x256 32 :=
  have v196 : IVec S256x256 32 := iota .tc S256x256 32 [1] iota_S256x256_d1_w32
  have c128_i32 : BitVec 32 := 128#32
  have c0_i32_111 : BitVec 32 := 0#32
  have v197 : BitVec 1 := Scalar.cmpi .eq c128_i32 c0_i32_111
  have c1_i32_112 : BitVec 32 := 1#32
  have v198 : BitVec 32 := Scalar.select v197 c1_i32_112 c128_i32
  have v199 : IVec S256x256 32 := broadcast S256x256 v198
  have v200 : IVec S256x256 32 := remsi v196 v199
  have c0_i32_113 : BitVec 32 := 0#32
  have v201 : IVec S256x256 32 := broadcast S256x256 c0_i32_113
  have v202 : IVec S256x256 1 := cmpi .ne v200 v201
  have c0_i32_114 : BitVec 32 := 0#32
  have v203 : IVec S256x256 32 := broadcast S256x256 c0_i32_114
  have v204 : IVec S256x256 1 := cmpi .slt v200 v203
  have c0_i32_115 : BitVec 32 := 0#32
  have v205 : BitVec 1 := Scalar.cmpi .slt v198 c0_i32_115
  have v206 : IVec S256x256 1 := broadcast S256x256 v205
  have v207 : IVec S256x256 1 := broadcastTo S256x256 v206 broadcasts_S256x256_S256x256
  have v208 : IVec S256x256 1 := xori v204 v207
  have v209 : IVec S256x256 1 := andi v208 v202
  have v210 : IVec S256x256 32 := broadcast S256x256 v198
  have v211 : IVec S256x256 32 := addi v200 v210
  have v212 : IVec S256x256 32 := select v209 v211 v200
  v212

/-- The row inside its block of 16. -/
def rotI : IVec S256x256 32 :=
  have v195 : IVec S256x256 32 := iota .tc S256x256 32 [0] iota_S256x256_d0_w32
  have c16_i32 : BitVec 32 := 16#32
  have c0_i32_116 : BitVec 32 := 0#32
  have v213 : BitVec 1 := Scalar.cmpi .eq c16_i32 c0_i32_116
  have c1_i32_117 : BitVec 32 := 1#32
  have v214 : BitVec 32 := Scalar.select v213 c1_i32_117 c16_i32
  have v215 : IVec S256x256 32 := broadcast S256x256 v214
  have v216 : IVec S256x256 32 := remsi v195 v215
  have c0_i32_118 : BitVec 32 := 0#32
  have v217 : IVec S256x256 32 := broadcast S256x256 c0_i32_118
  have v218 : IVec S256x256 1 := cmpi .ne v216 v217
  have c0_i32_119 : BitVec 32 := 0#32
  have v219 : IVec S256x256 32 := broadcast S256x256 c0_i32_119
  have v220 : IVec S256x256 1 := cmpi .slt v216 v219
  have c0_i32_120 : BitVec 32 := 0#32
  have v221 : BitVec 1 := Scalar.cmpi .slt v214 c0_i32_120
  have v222 : IVec S256x256 1 := broadcast S256x256 v221
  have v223 : IVec S256x256 1 := broadcastTo S256x256 v222 broadcasts_S256x256_S256x256
  have v224 : IVec S256x256 1 := xori v220 v223
  have v225 : IVec S256x256 1 := andi v224 v218
  have v226 : IVec S256x256 32 := broadcast S256x256 v214
  have v227 : IVec S256x256 32 := addi v216 v226
  have v228 : IVec S256x256 32 := select v225 v227 v216
  v228

/-- The original column inside its block of 16. -/
def rotJ : IVec S256x256 32 :=
  have v196 : IVec S256x256 32 := iota .tc S256x256 32 [1] iota_S256x256_d1_w32
  have c8_i32 : BitVec 32 := 8#32
  have c0_i32_121 : BitVec 32 := 0#32
  have v229 : BitVec 1 := Scalar.cmpi .eq c8_i32 c0_i32_121
  have c1_i32_122 : BitVec 32 := 1#32
  have v230 : BitVec 32 := Scalar.select v229 c1_i32_122 c8_i32
  have v231 : IVec S256x256 32 := broadcast S256x256 v230
  have v232 : IVec S256x256 32 := remsi rotLane v231
  have c0_i32_123 : BitVec 32 := 0#32
  have v233 : IVec S256x256 32 := broadcast S256x256 c0_i32_123
  have v234 : IVec S256x256 1 := cmpi .ne v232 v233
  have c0_i32_124 : BitVec 32 := 0#32
  have v235 : IVec S256x256 32 := broadcast S256x256 c0_i32_124
  have v236 : IVec S256x256 1 := cmpi .slt v232 v235
  have c0_i32_125 : BitVec 32 := 0#32
  have v237 : BitVec 1 := Scalar.cmpi .slt v230 c0_i32_125
  have v238 : IVec S256x256 1 := broadcast S256x256 v237
  have v239 : IVec S256x256 1 := broadcastTo S256x256 v238 broadcasts_S256x256_S256x256
  have v240 : IVec S256x256 1 := xori v236 v239
  have v241 : IVec S256x256 1 := andi v240 v234
  have v242 : IVec S256x256 32 := broadcast S256x256 v230
  have v243 : IVec S256x256 32 := addi v232 v242
  have v244 : IVec S256x256 32 := select v241 v243 v232
  have c2_i32_126 : BitVec 32 := 2#32
  have v245 : IVec S256x256 32 := broadcast S256x256 c2_i32_126
  have v246 : IVec S256x256 32 := muli v245 v244
  have c128_i32_127 : BitVec 32 := 128#32
  have v247 : IVec S256x256 32 := broadcast S256x256 c128_i32_127
  have v248 : IVec S256x256 32 := divsi v196 v247
  have c0_i32_128 : BitVec 32 := 0#32
  have v249 : IVec S256x256 32 := broadcast S256x256 c0_i32_128
  have v250 : IVec S256x256 1 := cmpi .sgt v196 v249
  have v251 : IVec S256x256 32 := extui 32 v250 natLt_1_32
  have c0_i32_129 : BitVec 32 := 0#32
  have v252 : IVec S256x256 32 := broadcast S256x256 c0_i32_129
  have v253 : IVec S256x256 1 := cmpi .slt v196 v252
  have v254 : IVec S256x256 32 := extui 32 v253 natLt_1_32
  have v255 : IVec S256x256 32 := subi v251 v254
  have c0_i32_130 : BitVec 32 := 0#32
  have v256 : BitVec 1 := Scalar.cmpi .sgt c128_i32_127 c0_i32_130
  have v257 : BitVec 32 := Scalar.extui v256
  have c0_i32_131 : BitVec 32 := 0#32
  have v258 : BitVec 1 := Scalar.cmpi .slt c128_i32_127 c0_i32_131
  have v259 : BitVec 32 := Scalar.extui v258
  have v260 : BitVec 32 := Scalar.subi v257 v259
  have v261 : IVec S256x256 32 := broadcast S256x256 v260
  have v262 : IVec S256x256 1 := cmpi .ne v255 v261
  have v263 : IVec S256x256 32 := broadcast S256x256 c128_i32_127
  have v264 : IVec S256x256 32 := remsi v196 v263
  have c0_i32_132 : BitVec 32 := 0#32
  have v265 : IVec S256x256 32 := broadcast S256x256 c0_i32_132
  have v266 : IVec S256x256 1 := cmpi .ne v264 v265
  have v267 : IVec S256x256 1 := andi v262 v266
  have c1_i32_133 : BitVec 32 := 1#32
  have v268 : IVec S256x256 32 := broadcast S256x256 c1_i32_133
  have v269 : IVec S256x256 32 := subi v248 v268
  have v270 : IVec S256x256 32 := select v267 v269 v248
  have v271 : IVec S256x256 32 := addi v246 v270
  v271

/-- Whether row and column belong to the same block of 16. -/
def rotSame : IVec S256x256 1 :=
  have v195 : IVec S256x256 32 := iota .tc S256x256 32 [0] iota_S256x256_d0_w32
  have c16_i32_134 : BitVec 32 := 16#32
  have v272 : IVec S256x256 32 := broadcast S256x256 c16_i32_134
  have v273 : IVec S256x256 32 := divsi v195 v272
  have c0_i32_135 : BitVec 32 := 0#32
  have v274 : IVec S256x256 32 := broadcast S256x256 c0_i32_135
  have v275 : IVec S256x256 1 := cmpi .sgt v195 v274
  have v276 : IVec S256x256 32 := extui 32 v275 natLt_1_32
  have c0_i32_136 : BitVec 32 := 0#32
  have v277 : IVec S256x256 32 := broadcast S256x256 c0_i32_136
  have v278 : IVec S256x256 1 := cmpi .slt v195 v277
  have v279 : IVec S256x256 32 := extui 32 v278 natLt_1_32
  have v280 : IVec S256x256 32 := subi v276 v279
  have c0_i32_137 : BitVec 32 := 0#32
  have v281 : BitVec 1 := Scalar.cmpi .sgt c16_i32_134 c0_i32_137
  have v282 : BitVec 32 := Scalar.extui v281
  have c0_i32_138 : BitVec 32 := 0#32
  have v283 : BitVec 1 := Scalar.cmpi .slt c16_i32_134 c0_i32_138
  have v284 : BitVec 32 := Scalar.extui v283
  have v285 : BitVec 32 := Scalar.subi v282 v284
  have v286 : IVec S256x256 32 := broadcast S256x256 v285
  have v287 : IVec S256x256 1 := cmpi .ne v280 v286
  have v288 : IVec S256x256 32 := broadcast S256x256 c16_i32_134
  have v289 : IVec S256x256 32 := remsi v195 v288
  have c0_i32_139 : BitVec 32 := 0#32
  have v290 : IVec S256x256 32 := broadcast S256x256 c0_i32_139
  have v291 : IVec S256x256 1 := cmpi .ne v289 v290
  have v292 : IVec S256x256 1 := andi v287 v291
  have c1_i32_140 : BitVec 32 := 1#32
  have v293 : IVec S256x256 32 := broadcast S256x256 c1_i32_140
  have v294 : IVec S256x256 32 := subi v273 v293
  have v295 : IVec S256x256 32 := select v292 v294 v273
  have c8_i32_141 : BitVec 32 := 8#32
  have v296 : IVec S256x256 32 := broadcast S256x256 c8_i32_141
  have v297 : IVec S256x256 32 := divsi rotLane v296
  have c0_i32_142 : BitVec 32 := 0#32
  have v298 : IVec S256x256 32 := broadcast S256x256 c0_i32_142
  have v299 : IVec S256x256 1 := cmpi .sgt rotLane v298
  have v300 : IVec S256x256 32 := extui 32 v299 natLt_1_32
  have c0_i32_143 : BitVec 32 := 0#32
  have v301 : IVec S256x256 32 := broadcast S256x256 c0_i32_143
  have v302 : IVec S256x256 1 := cmpi .slt rotLane v301
  have v303 : IVec S256x256 32 := extui 32 v302 natLt_1_32
  have v304 : IVec S256x256 32 := subi v300 v303
  have c0_i32_144 : BitVec 32 := 0#32
  have v305 : BitVec 1 := Scalar.cmpi .sgt c8_i32_141 c0_i32_144
  have v306 : BitVec 32 := Scalar.extui v305
  have c0_i32_145 : BitVec 32 := 0#32
  have v307 : BitVec 1 := Scalar.cmpi .slt c8_i32_141 c0_i32_145
  have v308 : BitVec 32 := Scalar.extui v307
  have v309 : BitVec 32 := Scalar.subi v306 v308
  have v310 : IVec S256x256 32 := broadcast S256x256 v309
  have v311 : IVec S256x256 1 := cmpi .ne v304 v310
  have v312 : IVec S256x256 32 := broadcast S256x256 c8_i32_141
  have v313 : IVec S256x256 32 := remsi rotLane v312
  have c0_i32_146 : BitVec 32 := 0#32
  have v314 : IVec S256x256 32 := broadcast S256x256 c0_i32_146
  have v315 : IVec S256x256 1 := cmpi .ne v313 v314
  have v316 : IVec S256x256 1 := andi v311 v315
  have c1_i32_147 : BitVec 32 := 1#32
  have v317 : IVec S256x256 32 := broadcast S256x256 c1_i32_147
  have v318 : IVec S256x256 32 := subi v297 v317
  have v319 : IVec S256x256 32 := select v316 v318 v297
  have v320 : IVec S256x256 1 := cmpi .eq v295 v319
  v320

/-- Whether the bits shared by row and column are even in number. -/
def rotEven : IVec S256x256 1 :=
  have v321 : IVec S256x256 32 := andi rotI rotJ
  have c2_i32_148 : BitVec 32 := 2#32
  have v322 : IVec S256x256 32 := broadcast S256x256 c2_i32_148
  have v323 : IVec S256x256 32 := shrsi v321 v322
  have v324 : IVec S256x256 32 := xori v321 v323
  have c1_i32_149 : BitVec 32 := 1#32
  have v325 : IVec S256x256 32 := broadcast S256x256 c1_i32_149
  have v326 : IVec S256x256 32 := shrsi v324 v325
  have v327 : IVec S256x256 32 := xori v324 v326
  have c1_i32_157 : BitVec 32 := 1#32
  have v409 : IVec S256x256 32 := broadcast S256x256 c1_i32_157
  have v410 : IVec S256x256 32 := andi v327 v409
  have c0_i32_158 : BitVec 32 := 0#32
  have v411 : IVec S256x256 32 := broadcast S256x256 c0_i32_158
  have v412 : IVec S256x256 1 := cmpi .eq v410 v411
  v412

/-- The sign of the row, chosen among the sixteen. -/
def rotSign (g : Fin 16 → F .f32) : FVec F S256x256 .f32 :=
  have cst_150 : F .f32 := Scalar.ofBits .f32 0x00000000#32
  have v328 : FVec F S256x256 .f32 := broadcast S256x256 cst_150
  have c0_i32_151 : BitVec 32 := 0#32
  have v329 : IVec S256x256 32 := broadcast S256x256 c0_i32_151
  have v330 : IVec S256x256 1 := cmpi .eq rotI v329
  have v332 : FVec F S256x256 .f32 := broadcast S256x256 (g 0)
  have v333 : FVec F S256x256 .f32 := select v330 v332 v328
  have c1_i32_153 : BitVec 32 := 1#32
  have v334 : IVec S256x256 32 := broadcast S256x256 c1_i32_153
  have v335 : IVec S256x256 1 := cmpi .eq rotI v334
  have v337 : FVec F S256x256 .f32 := broadcast S256x256 (g 1)
  have v338 : FVec F S256x256 .f32 := select v335 v337 v333
  have c2_i32_154 : BitVec 32 := 2#32
  have v339 : IVec S256x256 32 := broadcast S256x256 c2_i32_154
  have v340 : IVec S256x256 1 := cmpi .eq rotI v339
  have v342 : FVec F S256x256 .f32 := broadcast S256x256 (g 2)
  have v343 : FVec F S256x256 .f32 := select v340 v342 v338
  have c3_i32 : BitVec 32 := 3#32
  have v344 : IVec S256x256 32 := broadcast S256x256 c3_i32
  have v345 : IVec S256x256 1 := cmpi .eq rotI v344
  have v347 : FVec F S256x256 .f32 := broadcast S256x256 (g 3)
  have v348 : FVec F S256x256 .f32 := select v345 v347 v343
  have c4_i32_155 : BitVec 32 := 4#32
  have v349 : IVec S256x256 32 := broadcast S256x256 c4_i32_155
  have v350 : IVec S256x256 1 := cmpi .eq rotI v349
  have v352 : FVec F S256x256 .f32 := broadcast S256x256 (g 4)
  have v353 : FVec F S256x256 .f32 := select v350 v352 v348
  have c5_i32 : BitVec 32 := 5#32
  have v354 : IVec S256x256 32 := broadcast S256x256 c5_i32
  have v355 : IVec S256x256 1 := cmpi .eq rotI v354
  have v357 : FVec F S256x256 .f32 := broadcast S256x256 (g 5)
  have v358 : FVec F S256x256 .f32 := select v355 v357 v353
  have c6_i32 : BitVec 32 := 6#32
  have v359 : IVec S256x256 32 := broadcast S256x256 c6_i32
  have v360 : IVec S256x256 1 := cmpi .eq rotI v359
  have v362 : FVec F S256x256 .f32 := broadcast S256x256 (g 6)
  have v363 : FVec F S256x256 .f32 := select v360 v362 v358
  have c7_i32 : BitVec 32 := 7#32
  have v364 : IVec S256x256 32 := broadcast S256x256 c7_i32
  have v365 : IVec S256x256 1 := cmpi .eq rotI v364
  have v367 : FVec F S256x256 .f32 := broadcast S256x256 (g 7)
  have v368 : FVec F S256x256 .f32 := select v365 v367 v363
  have c8_i32_156 : BitVec 32 := 8#32
  have v369 : IVec S256x256 32 := broadcast S256x256 c8_i32_156
  have v370 : IVec S256x256 1 := cmpi .eq rotI v369
  have v372 : FVec F S256x256 .f32 := broadcast S256x256 (g 8)
  have v373 : FVec F S256x256 .f32 := select v370 v372 v368
  have c9_i32 : BitVec 32 := 9#32
  have v374 : IVec S256x256 32 := broadcast S256x256 c9_i32
  have v375 : IVec S256x256 1 := cmpi .eq rotI v374
  have v377 : FVec F S256x256 .f32 := broadcast S256x256 (g 9)
  have v378 : FVec F S256x256 .f32 := select v375 v377 v373
  have c10_i32 : BitVec 32 := 10#32
  have v379 : IVec S256x256 32 := broadcast S256x256 c10_i32
  have v380 : IVec S256x256 1 := cmpi .eq rotI v379
  have v382 : FVec F S256x256 .f32 := broadcast S256x256 (g 10)
  have v383 : FVec F S256x256 .f32 := select v380 v382 v378
  have c11_i32 : BitVec 32 := 11#32
  have v384 : IVec S256x256 32 := broadcast S256x256 c11_i32
  have v385 : IVec S256x256 1 := cmpi .eq rotI v384
  have v387 : FVec F S256x256 .f32 := broadcast S256x256 (g 11)
  have v388 : FVec F S256x256 .f32 := select v385 v387 v383
  have c12_i32 : BitVec 32 := 12#32
  have v389 : IVec S256x256 32 := broadcast S256x256 c12_i32
  have v390 : IVec S256x256 1 := cmpi .eq rotI v389
  have v392 : FVec F S256x256 .f32 := broadcast S256x256 (g 12)
  have v393 : FVec F S256x256 .f32 := select v390 v392 v388
  have c13_i32 : BitVec 32 := 13#32
  have v394 : IVec S256x256 32 := broadcast S256x256 c13_i32
  have v395 : IVec S256x256 1 := cmpi .eq rotI v394
  have v397 : FVec F S256x256 .f32 := broadcast S256x256 (g 13)
  have v398 : FVec F S256x256 .f32 := select v395 v397 v393
  have c14_i32 : BitVec 32 := 14#32
  have v399 : IVec S256x256 32 := broadcast S256x256 c14_i32
  have v400 : IVec S256x256 1 := cmpi .eq rotI v399
  have v402 : FVec F S256x256 .f32 := broadcast S256x256 (g 14)
  have v403 : FVec F S256x256 .f32 := select v400 v402 v398
  have c15_i32 : BitVec 32 := 15#32
  have v404 : IVec S256x256 32 := broadcast S256x256 c15_i32
  have v405 : IVec S256x256 1 := cmpi .eq rotI v404
  have v407 : FVec F S256x256 .f32 := broadcast S256x256 (g 15)
  have v408 : FVec F S256x256 .f32 := select v405 v407 v403
  v408

/-- The rotation matrix of a whole column tile: sixteen by sixteen blocks, columns permuted, zero off the blocks. -/
def rotTile (g : Fin 16 → F .f32) : FVec F S256x256 .bf16 :=
  have cst_159 : F .f32 := Scalar.ofBits .f32 0x3E800000#32
  have cst_160 : F .f32 := Scalar.ofBits .f32 0xBE800000#32
  have v413 : FVec F S256x256 .f32 := broadcast S256x256 cst_159
  have v414 : FVec F S256x256 .f32 := broadcast S256x256 cst_160
  have v415 : FVec F S256x256 .f32 := select rotEven v413 v414
  have v416 : FVec F S256x256 .f32 := mulf v415 (rotSign g)
  have cst_161 : F .f32 := Scalar.ofBits .f32 0x00000000#32
  have v417 : FVec F S256x256 .f32 := broadcast S256x256 cst_161
  have v418 : FVec F S256x256 .f32 := select rotSame v416 v417
  have v419 : FVec F S256x256 .bf16 := truncf .bf16 v418 bitsLt_bf16_f32
  have v422 : FVec F S256x256 .bf16 := shapeCast S256x256 v419 shapeCasts_S256x256_S256x256
  v422

/-- One column tile of the rotated activations. -/
def xpTile (a : Vec F S256x256 .bf16) (R : Vec F S256x256 .bf16) : FVec F S256x256 .bf16 :=
  truncf .bf16 (matmul dot_S256x256_S256x256_S256x256_1_0_0_1_n_n none (shapeCast S256x256 a shapeCasts_S256x256_S256x256) R (constant S256x256 .f32 0x00000000#32)) bitsLt_bf16_f32

/-- The last, 64 columns wide, column tile of the rotated activations. -/
def xpTail (a : Vec F S256x64 .bf16) (R : Vec F S64x256 .bf16) : FVec F S256x256 .bf16 :=
  truncf .bf16 (matmul dot_S256x64_S64x256_S256x256_1_0_0_1_n_n none (shapeCast S256x64 a shapeCasts_S256x64_S256x64) R (constant S256x256 .f32 0x00000000#32)) bitsLt_bf16_f32

/-- The block maxima of one rotated column tile: lane `8 b + 7` holds the maximum over block `b`. -/
def amaxOf (v5 : FVec F S256x256 .f32) : FVec F S16x128 .f32 :=
  have v6 : FVec F S256x256 .f32 := absf v5
  have v7 : FVec F S256x128 .f32 := extractStridedSlice S256x128 ![0, 0] v6 slices_S256x256_o0_0_S256x128
  have v8 : FVec F S256x128 .f32 := extractStridedSlice S256x128 ![0, 128] v6 slices_S256x256_o0_128_S256x128
  have v9 : FVec F S256x128 .f32 := maximumf v7 v8
  have v10 : FVec F S16x16x128 .f32 := shapeCast S16x16x128 v9 shapeCasts_S256x128_S16x16x128
  have v11 : FVec F S16x128 .f32 := multiReduction .maximumf [1] S16x128 v10 0xFF800000#32 reduces_S16x16x128_S16x128 (.inl rfl) rfl
  have c1_i32 : BitVec 32 := 1#32
  have v12 : FVec F S16x128 .f32 := dynamicRotate 1 c1_i32 none v11 rotates_S16x128_d1
  have v13 : FVec F S16x128 .f32 := maximumf v11 v12
  have c2_i32 : BitVec 32 := 2#32
  have v14 : FVec F S16x128 .f32 := dynamicRotate 1 c2_i32 none v13 rotates_S16x128_d1
  have v15 : FVec F S16x128 .f32 := maximumf v13 v14
  have c4_i32 : BitVec 32 := 4#32
  have v16 : FVec F S16x128 .f32 := dynamicRotate 1 c4_i32 none v15 rotates_S16x128_d1
  have v17 : FVec F S16x128 .f32 := maximumf v15 v16
  v17

/-- The block maxima of one column tile of the weights. -/
def amaxTile (a : Vec F S256x256 .bf16) (R : Vec F S256x256 .bf16) : FVec F S16x128 .f32 :=
  amaxOf (matmul dot_S256x256_S256x256_S256x256_1_0_0_1_n_n none a R (constant S256x256 .f32 0x00000000#32))

/-- The block maxima of the last column tile of the weights. -/
def amaxTail (a : Vec F S256x64 .bf16) (R : Vec F S64x256 .bf16) : FVec F S16x128 .f32 :=
  amaxOf (matmul dot_S256x64_S64x256_S256x256_1_0_0_1_n_n none a R (constant S256x256 .f32 0x00000000#32))

/-- The rotated tile times the inverse scale of its block, clipped to [-6, 6]. -/
def quantV (v3 : Vec F S16x128 .f32) (v11 : FVec F S256x256 .f32) : FVec F S256x256 .f32 :=
  have v4 : FVec F S16x128 .f32 := shapeCast S16x128 v3 shapeCasts_S16x128_S16x128
  have v5 : FVec F S16x1x128 .f32 := shapeCast S16x1x128 v4 shapeCasts_S16x128_S16x1x128
  have v6 : FVec F S16x1x128 .f32 := shapeCast S16x1x128 v5 shapeCasts_S16x1x128_S16x1x128
  have v7 : FVec F S16x16x128 .f32 := broadcastTo S16x16x128 v6 broadcasts_S16x1x128_S16x16x128
  have v8 : FVec F S256x128 .f32 := shapeCast S256x128 v7 shapeCasts_S16x16x128_S256x128
  have v12 : FVec F S256x256 .f32 := concatenate S256x256 1 [⟨S256x128, v8⟩, ⟨S256x128, v8⟩] concatenates_S256x128_S256x128_S256x256_d1
  have v13 : FVec F S256x256 .f32 := mulf v11 v12
  have cst_6 : F .f32 := Scalar.ofBits .f32 0xC0C00000#32
  have cst_7 : F .f32 := Scalar.ofBits .f32 0x40C00000#32
  have v14 : FVec F S256x256 .f32 := broadcast S256x256 cst_6
  have v15 : FVec F S256x256 .f32 := maximumf v14 v13
  have v16 : FVec F S256x256 .f32 := broadcast S256x256 cst_7
  have v17 : FVec F S256x256 .f32 := minimumf v16 v15
  have cst_8 : F .f32 := Scalar.ofBits .f32 0x00000000#32
  have v18 : FVec F S256x256 .f32 := broadcast S256x256 cst_8
  have v19 : FVec F S256x256 .f32 := addf v17 v18
  v19

/-- The nearest four-bit value, by thresholds. -/
def quantQ (v19 : FVec F S256x256 .f32) : FVec F S256x256 .f32 :=
  have v20 : FVec F S256x256 .f32 := absf v19
  have cst_9 : F .f32 := Scalar.ofBits .f32 0x00000000#32
  have v21 : FVec F S256x256 .f32 := broadcast S256x256 cst_9
  have cst_11 : F .f32 := Scalar.ofBits .f32 0x3E800000#32
  have v23 : FVec F S256x256 .f32 := broadcast S256x256 cst_11
  have v24 : IVec S256x256 1 := cmpf .ogt v20 v23
  have cst_12 : F .f32 := Scalar.ofBits .f32 0x3F400000#32
  have v25 : FVec F S256x256 .f32 := broadcast S256x256 cst_12
  have v26 : IVec S256x256 1 := cmpf .oge v20 v25
  have cst_13 : F .f32 := Scalar.ofBits .f32 0x3FA00000#32
  have v27 : FVec F S256x256 .f32 := broadcast S256x256 cst_13
  have v28 : IVec S256x256 1 := cmpf .ogt v20 v27
  have cst_14 : F .f32 := Scalar.ofBits .f32 0x3FE00000#32
  have v29 : FVec F S256x256 .f32 := broadcast S256x256 cst_14
  have v30 : IVec S256x256 1 := cmpf .oge v20 v29
  have cst_15 : F .f32 := Scalar.ofBits .f32 0x40200000#32
  have v31 : FVec F S256x256 .f32 := broadcast S256x256 cst_15
  have v32 : IVec S256x256 1 := cmpf .ogt v20 v31
  have cst_16 : F .f32 := Scalar.ofBits .f32 0x40600000#32
  have v33 : FVec F S256x256 .f32 := broadcast S256x256 cst_16
  have v34 : IVec S256x256 1 := cmpf .oge v20 v33
  have cst_17 : F .f32 := Scalar.ofBits .f32 0x40A00000#32
  have v35 : FVec F S256x256 .f32 := broadcast S256x256 cst_17
  have v36 : IVec S256x256 1 := cmpf .ogt v20 v35
  have cst_18 : F .f32 := Scalar.ofBits .f32 0x3F000000#32
  have v37 : FVec F S256x256 .f32 := broadcast S256x256 cst_18
  have v38 : FVec F S256x256 .f32 := select v24 v37 v21
  have cst_19 : F .f32 := Scalar.ofBits .f32 0x3F800000#32
  have v41 : FVec F S256x256 .f32 := broadcast S256x256 cst_19
  have v42 : FVec F S256x256 .f32 := select v26 v41 v38
  have cst_20 : F .f32 := Scalar.ofBits .f32 0x3FC00000#32
  have v45 : FVec F S256x256 .f32 := broadcast S256x256 cst_20
  have v46 : FVec F S256x256 .f32 := select v28 v45 v42
  have cst_21 : F .f32 := Scalar.ofBits .f32 0x40000000#32
  have v49 : FVec F S256x256 .f32 := broadcast S256x256 cst_21
  have v50 : FVec F S256x256 .f32 := select v30 v49 v46
  have cst_22 : F .f32 := Scalar.ofBits .f32 0x40400000#32
  have v53 : FVec F S256x256 .f32 := broadcast S256x256 cst_22
  have v54 : FVec F S256x256 .f32 := select v32 v53 v50
  have cst_23 : F .f32 := Scalar.ofBits .f32 0x40800000#32
  have v57 : FVec F S256x256 .f32 := broadcast S256x256 cst_23
  have v58 : FVec F S256x256 .f32 := select v34 v57 v54
  have cst_24 : F .f32 := Scalar.ofBits .f32 0x40C00000#32
  have v61 : FVec F S256x256 .f32 := broadcast S256x256 cst_24
  have v62 : FVec F S256x256 .f32 := select v36 v61 v58
  have cst_25 : F .f32 := Scalar.ofBits .f32 0x00000000#32
  have v65 : FVec F S256x256 .f32 := broadcast S256x256 cst_25
  have v66 : IVec S256x256 1 := cmpf .olt v19 v65
  have cst_26 : F .f32 := Scalar.ofBits .f32 0x00000000#32
  have v67 : FVec F S256x256 .f32 := broadcast S256x256 cst_26
  have v68 : FVec F S256x256 .f32 := subf v67 v62
  have v69 : FVec F S256x256 .f32 := select v66 v68 v62
  v69

/-- The four-bit code of the nearest value, by thresholds. -/
def quantC (v19 : FVec F S256x256 .f32) : IVec S256x256 8 :=
  have v20 : FVec F S256x256 .f32 := absf v19
  have c0_i32_10 : BitVec 32 := 0#32
  have v22 : IVec S256x256 32 := broadcast S256x256 c0_i32_10
  have cst_11 : F .f32 := Scalar.ofBits .f32 0x3E800000#32
  have v23 : FVec F S256x256 .f32 := broadcast S256x256 cst_11
  have v24 : IVec S256x256 1 := cmpf .ogt v20 v23
  have cst_12 : F .f32 := Scalar.ofBits .f32 0x3F400000#32
  have v25 : FVec F S256x256 .f32 := broadcast S256x256 cst_12
  have v26 : IVec S256x256 1 := cmpf .oge v20 v25
  have cst_13 : F .f32 := Scalar.ofBits .f32 0x3FA00000#32
  have v27 : FVec F S256x256 .f32 := broadcast S256x256 cst_13
  have v28 : IVec S256x256 1 := cmpf .ogt v20 v27
  have cst_14 : F .f32 := Scalar.ofBits .f32 0x3FE00000#32
  have v29 : FVec F S256x256 .f32 := broadcast S256x256 cst_14
  have v30 : IVec S256x256 1 := cmpf .oge v20 v29
  have cst_15 : F .f32 := Scalar.ofBits .f32 0x40200000#32
  have v31 : FVec F S256x256 .f32 := broadcast S256x256 cst_15
  have v32 : IVec S256x256 1 := cmpf .ogt v20 v31
  have cst_16 : F .f32 := Scalar.ofBits .f32 0x40600000#32
  have v33 : FVec F S256x256 .f32 := broadcast S256x256 cst_16
  have v34 : IVec S256x256 1 := cmpf .oge v20 v33
  have cst_17 : F .f32 := Scalar.ofBits .f32 0x40A00000#32
  have v35 : FVec F S256x256 .f32 := broadcast S256x256 cst_17
  have v36 : IVec S256x256 1 := cmpf .ogt v20 v35
  have c1_i32 : BitVec 32 := 1#32
  have v39 : IVec S256x256 32 := broadcast S256x256 c1_i32
  have v40 : IVec S256x256 32 := select v24 v39 v22
  have c2_i32 : BitVec 32 := 2#32
  have v43 : IVec S256x256 32 := broadcast S256x256 c2_i32
  have v44 : IVec S256x256 32 := select v26 v43 v40
  have c3_i32 : BitVec 32 := 3#32
  have v47 : IVec S256x256 32 := broadcast S256x256 c3_i32
  have v48 : IVec S256x256 32 := select v28 v47 v44
  have c4_i32 : BitVec 32 := 4#32
  have v51 : IVec S256x256 32 := broadcast S256x256 c4_i32
  have v52 : IVec S256x256 32 := select v30 v51 v48
  have c5_i32 : BitVec 32 := 5#32
  have v55 : IVec S256x256 32 := broadcast S256x256 c5_i32
  have v56 : IVec S256x256 32 := select v32 v55 v52
  have c6_i32 : BitVec 32 := 6#32
  have v59 : IVec S256x256 32 := broadcast S256x256 c6_i32
  have v60 : IVec S256x256 32 := select v34 v59 v56
  have c7_i32 : BitVec 32 := 7#32
  have v63 : IVec S256x256 32 := broadcast S256x256 c7_i32
  have v64 : IVec S256x256 32 := select v36 v63 v60
  have cst_25 : F .f32 := Scalar.ofBits .f32 0x00000000#32
  have v65 : FVec F S256x256 .f32 := broadcast S256x256 cst_25
  have v66 : IVec S256x256 1 := cmpf .olt v19 v65
  have c8_i32 : BitVec 32 := 8#32
  have v70 : IVec S256x256 32 := broadcast S256x256 c8_i32
  have v71 : IVec S256x256 32 := addi v64 v70
  have v72 : IVec S256x256 32 := select v66 v71 v64
  have v73 : IVec S256x256 8 := trunci 8 v72 natLt_8_32
  v73

/-- The four-bit values times the scale of their block. -/
def dqOf (v69 : FVec F S256x256 .f32) (v74 : Vec F S16x128 .bf16) : FVec F S256x256 .bf16 :=
  have v75 : FVec F S16x128 .bf16 := shapeCast S16x128 v74 shapeCasts_S16x128_S16x128
  have v76 : FVec F S16x1x128 .bf16 := shapeCast S16x1x128 v75 shapeCasts_S16x128_S16x1x128
  have v77 : FVec F S16x1x128 .bf16 := shapeCast S16x1x128 v76 shapeCasts_S16x1x128_S16x1x128
  have v78 : FVec F S16x16x128 .bf16 := broadcastTo S16x16x128 v77 broadcasts_S16x1x128_S16x16x128
  have v79 : FVec F S256x128 .bf16 := shapeCast S256x128 v78 shapeCasts_S16x16x128_S256x128
  have v80 : FVec F S256x256 .bf16 := truncf .bf16 v69 bitsLt_bf16_f32
  have v81 : FVec F S256x256 .bf16 := concatenate S256x256 1 [⟨S256x128, v79⟩, ⟨S256x128, v79⟩] concatenates_S256x128_S256x128_S256x256_d1
  have v82 : FVec F S256x256 .bf16 := mulf v80 v81
  have v85 : FVec F S256x256 .bf16 := shapeCast S256x256 v82 shapeCasts_S256x256_S256x256
  v85

/-- Codes packed in pairs of neighbouring columns. -/
def ckOf (v73 : IVec S256x256 8) : IVec S256x128 8 :=
  have v86 : IVec S256x128 8 := extractStridedSlice S256x128 ![0, 0] v73 slices_S256x256_o0_0_S256x128
  have v87 : IVec S256x128 8 := extractStridedSlice S256x128 ![0, 128] v73 slices_S256x256_o0_128_S256x128
  have v88 : IVec S64x128 32 := bitcast S64x128 32 v86 bitcasts_S256x128_w8_S64x128_w32
  have v89 : IVec S64x128 32 := bitcast S64x128 32 v87 bitcasts_S256x128_w8_S64x128_w32
  have c4_i32_31 : BitVec 32 := 4#32
  have v90 : IVec S64x128 32 := broadcast S64x128 c4_i32_31
  have v91 : IVec S64x128 32 := shli v89 v90
  have v92 : IVec S64x128 32 := ori v88 v91
  have v93 : IVec S256x128 8 := bitcast S256x128 8 v92 bitcasts_S64x128_w32_S256x128_w8
  v93

/-- Codes packed in pairs of neighbouring rows, transposed. -/
def cnOf (v73 : IVec S256x256 8) : IVec S256x128 8 :=
  have v86 : IVec S256x128 8 := extractStridedSlice S256x128 ![0, 0] v73 slices_S256x256_o0_0_S256x128
  have v87 : IVec S256x128 8 := extractStridedSlice S256x128 ![0, 128] v73 slices_S256x256_o0_128_S256x128
  have v95 : IVec S64x128 32 := bitcast S64x128 32 v86 bitcasts_S256x128_w8_S64x128_w32
  have v96 : IVec S128x128 16 := bitcast S128x128 16 v95 bitcasts_S64x128_w32_S128x128_w16
  have v97 : IVec S128x128 32 := extui 32 v96 natLt_16_32
  have c4_i32_34 : BitVec 32 := 4#32
  have v98 : IVec S128x128 32 := broadcast S128x128 c4_i32_34
  have v99 : IVec S128x128 32 := shrsi v97 v98
  have v100 : IVec S128x128 32 := ori v97 v99
  have v101 : IVec S128x128 8 := trunci 8 v100 natLt_8_32
  have v102 : IVec S128x128 16 := extui 16 v101 natLt_8_16
  have v103 : IVec S64x128 32 := bitcast S64x128 32 v87 bitcasts_S256x128_w8_S64x128_w32
  have v104 : IVec S128x128 16 := bitcast S128x128 16 v103 bitcasts_S64x128_w32_S128x128_w16
  have v105 : IVec S128x128 32 := extui 32 v104 natLt_16_32
  have c4_i32_35 : BitVec 32 := 4#32
  have v106 : IVec S128x128 32 := broadcast S128x128 c4_i32_35
  have v107 : IVec S128x128 32 := shrsi v105 v106
  have v108 : IVec S128x128 32 := ori v105 v107
  have v109 : IVec S128x128 8 := trunci 8 v108 natLt_8_32
  have v110 : IVec S128x128 16 := extui 16 v109 natLt_8_16
  have c8_i16 : BitVec 16 := 8#16
  have v111 : IVec S128x128 16 := broadcast S128x128 c8_i16
  have v112 : IVec S128x128 16 := shli v110 v111
  have v113 : IVec S128x128 16 := ori v102 v112
  have v114 : IVec S128x128 16 := transpose S128x128 [1, 0] v113 transposes_S128x128_p1_0_S128x128
  have v115 : IVec S64x128 32 := bitcast S64x128 32 v114 bitcasts_S128x128_w16_S64x128_w32
  have v116 : IVec S256x128 8 := bitcast S256x128 8 v115 bitcasts_S64x128_w32_S256x128_w8
  v116

/-- The scaled and clipped values of one column tile of the weights. -/
def quantTile (v3 : Vec F S16x128 .f32) (a : Vec F S256x256 .bf16) (R : Vec F S256x256 .bf16) : FVec F S256x256 .f32 :=
  quantV v3 (matmul dot_S256x256_S256x256_S256x256_1_0_0_1_n_n none a R (constant S256x256 .f32 0x00000000#32))

/-- The scaled and clipped values of the last column tile of the weights. -/
def quantTail (v3 : Vec F S16x128 .f32) (a : Vec F S256x64 .bf16) (R : Vec F S64x256 .bf16) : FVec F S256x256 .f32 :=
  quantV v3 (matmul dot_S256x64_S64x256_S256x256_1_0_0_1_n_n none a R (constant S256x256 .f32 0x00000000#32))

/-- One output tile: activations times scaled weights, times the tensor scale. -/
def yOf (x : Vec F S256x3072 .bf16) (w : Vec F S256x3072 .bf16) (st : Elt F .f32) : FVec F S256x256 .bf16 :=
  truncf .bf16 (mulf (matmul dot_S256x3072_S256x3072_S256x256_1_1_0_0_n_n none (shapeCast S256x3072 x shapeCasts_S256x3072_S256x3072) w (constant S256x256 .f32 0x00000000#32)) (broadcast S256x256 st)) bitsLt_bf16_f32

/-- The twelve pieces the amax pass leaves in its block of the block-maxima array (last first). -/
def amaxPiecesL (W : Vec F S256x256 .bf16) (T : Vec F S64x256 .bf16) (x2 : Vec F S256x2880 .bf16) : List (View.Piece (Elt F) S16x1536 .f32) :=
  [⟨(Rect.unit (s := S16x1536) ![0, 1408] S16x128.size inb_S16x1536_S16x128_0_1408), amaxTail (View.ld x2 (Rect.unit (s := S256x2880) ![0, 2816] S256x64.size inb_S256x2880_S256x64_0_2816)) T⟩,
   ⟨(Rect.unit (s := S16x1536) ![0, 1280] S16x128.size inb_S16x1536_S16x128_0_1280), amaxTile (View.ld x2 (Rect.unit (s := S256x2880) ![0, 2560] S256x256.size inb_S256x2880_S256x256_0_2560)) W⟩,
   ⟨(Rect.unit (s := S16x1536) ![0, 1152] S16x128.size inb_S16x1536_S16x128_0_1152), amaxTile (View.ld x2 (Rect.unit (s := S256x2880) ![0, 2304] S256x256.size inb_S256x2880_S256x256_0_2304)) W⟩,
   ⟨(Rect.unit (s := S16x1536) ![0, 1024] S16x128.size inb_S16x1536_S16x128_0_1024), amaxTile (View.ld x2 (Rect.unit (s := S256x2880) ![0, 2048] S256x256.size inb_S256x2880_S256x256_0_2048)) W⟩,
   ⟨(Rect.unit (s := S16x1536) ![0, 896] S16x128.size inb_S16x1536_S16x128_0_896), amaxTile (View.ld x2 (Rect.unit (s := S256x2880) ![0, 1792] S256x256.size inb_S256x2880_S256x256_0_1792)) W⟩,
   ⟨(Rect.unit (s := S16x1536) ![0, 768] S16x128.size inb_S16x1536_S16x128_0_768), amaxTile (View.ld x2 (Rect.unit (s := S256x2880) ![0, 1536] S256x256.size inb_S256x2880_S256x256_0_1536)) W⟩,
   ⟨(Rect.unit (s := S16x1536) ![0, 640] S16x128.size inb_S16x1536_S16x128_0_640), amaxTile (View.ld x2 (Rect.unit (s := S256x2880) ![0, 1280] S256x256.size inb_S256x2880_S256x256_0_1280)) W⟩,
   ⟨(Rect.unit (s := S16x1536) ![0, 512] S16x128.size inb_S16x1536_S16x128_0_512), amaxTile (View.ld x2 (Rect.unit (s := S256x2880) ![0, 1024] S256x256.size inb_S256x2880_S256x256_0_1024)) W⟩,
   ⟨(Rect.unit (s := S16x1536) ![0, 384] S16x128.size inb_S16x1536_S16x128_0_384), amaxTile (View.ld x2 (Rect.unit (s := S256x2880) ![0, 768] S256x256.size inb_S256x2880_S256x256_0_768)) W⟩,
   ⟨(Rect.unit (s := S16x1536) ![0, 256] S16x128.size inb_S16x1536_S16x128_0_256), amaxTile (View.ld x2 (Rect.unit (s := S256x2880) ![0, 512] S256x256.size inb_S256x2880_S256x256_0_512)) W⟩,
   ⟨(Rect.unit (s := S16x1536) ![0, 128] S16x128.size inb_S16x1536_S16x128_0_128), amaxTile (View.ld x2 (Rect.unit (s := S256x2880) ![0, 256] S256x256.size inb_S256x2880_S256x256_0_256)) W⟩,
   ⟨(Rect.unit (s := S16x1536) ![0, 0] S16x128.size inb_S16x1536_S16x128_0_0), amaxTile (View.ld x2 (Rect.unit (s := S256x2880) ![0, 0] S256x256.size inb_S256x2880_S256x256_0_0)) W⟩]

/-- The twelve pieces the amax pass leaves in the rotated activations (last first). -/
def xpPiecesL (W : Vec F S256x256 .bf16) (T : Vec F S64x256 .bf16) (x1 : Vec F S256x2880 .bf16) : List (View.Piece (Elt F) S256x3072 .bf16) :=
  [⟨(Rect.unit (s := S256x3072) ![0, 2816] S256x256.size inb_S256x3072_S256x256_0_2816), xpTail (View.ld x1 (Rect.unit (s := S256x2880) ![0, 2816] S256x64.size inb_S256x2880_S256x64_0_2816)) T⟩,
   ⟨(Rect.unit (s := S256x3072) ![0, 2560] S256x256.size inb_S256x3072_S256x256_0_2560), xpTile (View.ld x1 (Rect.unit (s := S256x2880) ![0, 2560] S256x256.size inb_S256x2880_S256x256_0_2560)) W⟩,
   ⟨(Rect.unit (s := S256x3072) ![0, 2304] S256x256.size inb_S256x3072_S256x256_0_2304), xpTile (View.ld x1 (Rect.unit (s := S256x2880) ![0, 2304] S256x256.size inb_S256x2880_S256x256_0_2304)) W⟩,
   ⟨(Rect.unit (s := S256x3072) ![0, 2048] S256x256.size inb_S256x3072_S256x256_0_2048), xpTile (View.ld x1 (Rect.unit (s := S256x2880) ![0, 2048] S256x256.size inb_S256x2880_S256x256_0_2048)) W⟩,
   ⟨(Rect.unit (s := S256x3072) ![0, 1792] S256x256.size inb_S256x3072_S256x256_0_1792), xpTile (View.ld x1 (Rect.unit (s := S256x2880) ![0, 1792] S256x256.size inb_S256x2880_S256x256_0_1792)) W⟩,
   ⟨(Rect.unit (s := S256x3072) ![0, 1536] S256x256.size inb_S256x3072_S256x256_0_1536), xpTile (View.ld x1 (Rect.unit (s := S256x2880) ![0, 1536] S256x256.size inb_S256x2880_S256x256_0_1536)) W⟩,
   ⟨(Rect.unit (s := S256x3072) ![0, 1280] S256x256.size inb_S256x3072_S256x256_0_1280), xpTile (View.ld x1 (Rect.unit (s := S256x2880) ![0, 1280] S256x256.size inb_S256x2880_S256x256_0_1280)) W⟩,
   ⟨(Rect.unit (s := S256x3072) ![0, 1024] S256x256.size inb_S256x3072_S256x256_0_1024), xpTile (View.ld x1 (Rect.unit (s := S256x2880) ![0, 1024] S256x256.size inb_S256x2880_S256x256_0_1024)) W⟩,
   ⟨(Rect.unit (s := S256x3072) ![0, 768] S256x256.size inb_S256x3072_S256x256_0_768), xpTile (View.ld x1 (Rect.unit (s := S256x2880) ![0, 768] S256x256.size inb_S256x2880_S256x256_0_768)) W⟩,
   ⟨(Rect.unit (s := S256x3072) ![0, 512] S256x256.size inb_S256x3072_S256x256_0_512), xpTile (View.ld x1 (Rect.unit (s := S256x2880) ![0, 512] S256x256.size inb_S256x2880_S256x256_0_512)) W⟩,
   ⟨(Rect.unit (s := S256x3072) ![0, 256] S256x256.size inb_S256x3072_S256x256_0_256), xpTile (View.ld x1 (Rect.unit (s := S256x2880) ![0, 256] S256x256.size inb_S256x2880_S256x256_0_256)) W⟩,
   ⟨(Rect.unit (s := S256x3072) ![0, 0] S256x256.size inb_S256x3072_S256x256_0_0), xpTile (View.ld x1 (Rect.unit (s := S256x2880) ![0, 0] S256x256.size inb_S256x2880_S256x256_0_0)) W⟩]

/-- The twelve pieces of the scaled four-bit weights in the scratch of the quantising pass (last first). -/
def wdPiecesL (W : Vec F S256x256 .bf16) (T : Vec F S64x256 .bf16) (x3 : Vec F S256x2880 .bf16) (x4 : Vec F S16x1536 .f32) (x5 : Vec F S16x1536 .bf16) : List (View.Piece (Elt F) S256x3072 .bf16) :=
  [⟨(Rect.unit (s := S256x3072) ![0, 2816] S256x256.size inb_S256x3072_S256x256_0_2816), dqOf (quantQ (quantTail (View.ld x4 (Rect.unit (s := S16x1536) ![0, 1408] S16x128.size inb_S16x1536_S16x128_0_1408)) (View.ld x3 (Rect.unit (s := S256x2880) ![0, 2816] S256x64.size inb_S256x2880_S256x64_0_2816)) T)) (View.ld x5 (Rect.unit (s := S16x1536) ![0, 1408] S16x128.size inb_S16x1536_S16x128_0_1408))⟩,
   ⟨(Rect.unit (s := S256x3072) ![0, 2560] S256x256.size inb_S256x3072_S256x256_0_2560), dqOf (quantQ (quantTile (View.ld x4 (Rect.unit (s := S16x1536) ![0, 1280] S16x128.size inb_S16x1536_S16x128_0_1280)) (View.ld x3 (Rect.unit (s := S256x2880) ![0, 2560] S256x256.size inb_S256x2880_S256x256_0_2560)) W)) (View.ld x5 (Rect.unit (s := S16x1536) ![0, 1280] S16x128.size inb_S16x1536_S16x128_0_1280))⟩,
   ⟨(Rect.unit (s := S256x3072) ![0, 2304] S256x256.size inb_S256x3072_S256x256_0_2304), dqOf (quantQ (quantTile (View.ld x4 (Rect.unit (s := S16x1536) ![0, 1152] S16x128.size inb_S16x1536_S16x128_0_1152)) (View.ld x3 (Rect.unit (s := S256x2880) ![0, 2304] S256x256.size inb_S256x2880_S256x256_0_2304)) W)) (View.ld x5 (Rect.unit (s := S16x1536) ![0, 1152] S16x128.size inb_S16x1536_S16x128_0_1152))⟩,
   ⟨(Rect.unit (s := S256x3072) ![0, 2048] S256x256.size inb_S256x3072_S256x256_0_2048), dqOf (quantQ (quantTile (View.ld x4 (Rect.unit (s := S16x1536) ![0, 1024] S16x128.size inb_S16x1536_S16x128_0_1024)) (View.ld x3 (Rect.unit (s := S256x2880) ![0, 2048] S256x256.size inb_S256x2880_S256x256_0_2048)) W)) (View.ld x5 (Rect.unit (s := S16x1536) ![0, 1024] S16x128.size inb_S16x1536_S16x128_0_1024))⟩,
   ⟨(Rect.unit (s := S256x3072) ![0, 1792] S256x256.size inb_S256x3072_S256x256_0_1792), dqOf (quantQ (quantTile (View.ld x4 (Rect.unit (s := S16x1536) ![0, 896] S16x128.size inb_S16x1536_S16x128_0_896)) (View.ld x3 (Rect.unit (s := S256x2880) ![0, 1792] S256x256.size inb_S256x2880_S256x256_0_1792)) W)) (View.ld x5 (Rect.unit (s := S16x1536) ![0, 896] S16x128.size inb_S16x1536_S16x128_0_896))⟩,
   ⟨(Rect.unit (s := S256x3072) ![0, 1536] S256x256.size inb_S256x3072_S256x256_0_1536), dqOf (quantQ (quantTile (View.ld x4 (Rect.unit (s := S16x1536) ![0, 768] S16x128.size inb_S16x1536_S16x128_0_768)) (View.ld x3 (Rect.unit (s := S256x2880) ![0, 1536] S256x256.size inb_S256x2880_S256x256_0_1536)) W)) (View.ld x5 (Rect.unit (s := S16x1536) ![0, 768] S16x128.size inb_S16x1536_S16x128_0_768))⟩,
   ⟨(Rect.unit (s := S256x3072) ![0, 1280] S256x256.size inb_S256x3072_S256x256_0_1280), dqOf (quantQ (quantTile (View.ld x4 (Rect.unit (s := S16x1536) ![0, 640] S16x128.size inb_S16x1536_S16x128_0_640)) (View.ld x3 (Rect.unit (s := S256x2880) ![0, 1280] S256x256.size inb_S256x2880_S256x256_0_1280)) W)) (View.ld x5 (Rect.unit (s := S16x1536) ![0, 640] S16x128.size inb_S16x1536_S16x128_0_640))⟩,
   ⟨(Rect.unit (s := S256x3072) ![0, 1024] S256x256.size inb_S256x3072_S256x256_0_1024), dqOf (quantQ (quantTile (View.ld x4 (Rect.unit (s := S16x1536) ![0, 512] S16x128.size inb_S16x1536_S16x128_0_512)) (View.ld x3 (Rect.unit (s := S256x2880) ![0, 1024] S256x256.size inb_S256x2880_S256x256_0_1024)) W)) (View.ld x5 (Rect.unit (s := S16x1536) ![0, 512] S16x128.size inb_S16x1536_S16x128_0_512))⟩,
   ⟨(Rect.unit (s := S256x3072) ![0, 768] S256x256.size inb_S256x3072_S256x256_0_768), dqOf (quantQ (quantTile (View.ld x4 (Rect.unit (s := S16x1536) ![0, 384] S16x128.size inb_S16x1536_S16x128_0_384)) (View.ld x3 (Rect.unit (s := S256x2880) ![0, 768] S256x256.size inb_S256x2880_S256x256_0_768)) W)) (View.ld x5 (Rect.unit (s := S16x1536) ![0, 384] S16x128.size inb_S16x1536_S16x128_0_384))⟩,
   ⟨(Rect.unit (s := S256x3072) ![0, 512] S256x256.size inb_S256x3072_S256x256_0_512), dqOf (quantQ (quantTile (View.ld x4 (Rect.unit (s := S16x1536) ![0, 256] S16x128.size inb_S16x1536_S16x128_0_256)) (View.ld x3 (Rect.unit (s := S256x2880) ![0, 512] S256x256.size inb_S256x2880_S256x256_0_512)) W)) (View.ld x5 (Rect.unit (s := S16x1536) ![0, 256] S16x128.size inb_S16x1536_S16x128_0_256))⟩,
   ⟨(Rect.unit (s := S256x3072) ![0, 256] S256x256.size inb_S256x3072_S256x256_0_256), dqOf (quantQ (quantTile (View.ld x4 (Rect.unit (s := S16x1536) ![0, 128] S16x128.size inb_S16x1536_S16x128_0_128)) (View.ld x3 (Rect.unit (s := S256x2880) ![0, 256] S256x256.size inb_S256x2880_S256x256_0_256)) W)) (View.ld x5 (Rect.unit (s := S16x1536) ![0, 128] S16x128.size inb_S16x1536_S16x128_0_128))⟩,
   ⟨(Rect.unit (s := S256x3072) ![0, 0] S256x256.size inb_S256x3072_S256x256_0_0), dqOf (quantQ (quantTile (View.ld x4 (Rect.unit (s := S16x1536) ![0, 0] S16x128.size inb_S16x1536_S16x128_0_0)) (View.ld x3 (Rect.unit (s := S256x2880) ![0, 0] S256x256.size inb_S256x2880_S256x256_0_0)) W)) (View.ld x5 (Rect.unit (s := S16x1536) ![0, 0] S16x128.size inb_S16x1536_S16x128_0_0))⟩]

/-- The twelve pieces of the codes packed along the columns (last first). -/
def ckPiecesL (W : Vec F S256x256 .bf16) (T : Vec F S64x256 .bf16) (x3 : Vec F S256x2880 .bf16) (x4 : Vec F S16x1536 .f32) : List (View.Piece (Elt F) S256x1440 .i8) :=
  [⟨(Rect.unit (s := S256x1440) ![0, 1408] S256x32.size inb_S256x1440_S256x32_0_1408), extractStridedSlice S256x32 ![0, 0] (ckOf (quantC (quantTail (View.ld x4 (Rect.unit (s := S16x1536) ![0, 1408] S16x128.size inb_S16x1536_S16x128_0_1408)) (View.ld x3 (Rect.unit (s := S256x2880) ![0, 2816] S256x64.size inb_S256x2880_S256x64_0_2816)) T))) slices_S256x128_o0_0_S256x32⟩,
   ⟨(Rect.unit (s := S256x1440) ![0, 1280] S256x128.size inb_S256x1440_S256x128_0_1280), ckOf (quantC (quantTile (View.ld x4 (Rect.unit (s := S16x1536) ![0, 1280] S16x128.size inb_S16x1536_S16x128_0_1280)) (View.ld x3 (Rect.unit (s := S256x2880) ![0, 2560] S256x256.size inb_S256x2880_S256x256_0_2560)) W))⟩,
   ⟨(Rect.unit (s := S256x1440) ![0, 1152] S256x128.size inb_S256x1440_S256x128_0_1152), ckOf (quantC (quantTile (View.ld x4 (Rect.unit (s := S16x1536) ![0, 1152] S16x128.size inb_S16x1536_S16x128_0_1152)) (View.ld x3 (Rect.unit (s := S256x2880) ![0, 2304] S256x256.size inb_S256x2880_S256x256_0_2304)) W))⟩,
   ⟨(Rect.unit (s := S256x1440) ![0, 1024] S256x128.size inb_S256x1440_S256x128_0_1024), ckOf (quantC (quantTile (View.ld x4 (Rect.unit (s := S16x1536) ![0, 1024] S16x128.size inb_S16x1536_S16x128_0_1024)) (View.ld x3 (Rect.unit (s := S256x2880) ![0, 2048] S256x256.size inb_S256x2880_S256x256_0_2048)) W))⟩,
   ⟨(Rect.unit (s := S256x1440) ![0, 896] S256x128.size inb_S256x1440_S256x128_0_896), ckOf (quantC (quantTile (View.ld x4 (Rect.unit (s := S16x1536) ![0, 896] S16x128.size inb_S16x1536_S16x128_0_896)) (View.ld x3 (Rect.unit (s := S256x2880) ![0, 1792] S256x256.size inb_S256x2880_S256x256_0_1792)) W))⟩,
   ⟨(Rect.unit (s := S256x1440) ![0, 768] S256x128.size inb_S256x1440_S256x128_0_768), ckOf (quantC (quantTile (View.ld x4 (Rect.unit (s := S16x1536) ![0, 768] S16x128.size inb_S16x1536_S16x128_0_768)) (View.ld x3 (Rect.unit (s := S256x2880) ![0, 1536] S256x256.size inb_S256x2880_S256x256_0_1536)) W))⟩,
   ⟨(Rect.unit (s := S256x1440) ![0, 640] S256x128.size inb_S256x1440_S256x128_0_640), ckOf (quantC (quantTile (View.ld x4 (Rect.unit (s := S16x1536) ![0, 640] S16x128.size inb_S16x1536_S16x128_0_640)) (View.ld x3 (Rect.unit (s := S256x2880) ![0, 1280] S256x256.size inb_S256x2880_S256x256_0_1280)) W))⟩,
   ⟨(Rect.unit (s := S256x1440) ![0, 512] S256x128.size inb_S256x1440_S256x128_0_512), ckOf (quantC (quantTile (View.ld x4 (Rect.unit (s := S16x1536) ![0, 512] S16x128.size inb_S16x1536_S16x128_0_512)) (View.ld x3 (Rect.unit (s := S256x2880) ![0, 1024] S256x256.size inb_S256x2880_S256x256_0_1024)) W))⟩,
   ⟨(Rect.unit (s := S256x1440) ![0, 384] S256x128.size inb_S256x1440_S256x128_0_384), ckOf (quantC (quantTile (View.ld x4 (Rect.unit (s := S16x1536) ![0, 384] S16x128.size inb_S16x1536_S16x128_0_384)) (View.ld x3 (Rect.unit (s := S256x2880) ![0, 768] S256x256.size inb_S256x2880_S256x256_0_768)) W))⟩,
   ⟨(Rect.unit (s := S256x1440) ![0, 256] S256x128.size inb_S256x1440_S256x128_0_256), ckOf (quantC (quantTile (View.ld x4 (Rect.unit (s := S16x1536) ![0, 256] S16x128.size inb_S16x1536_S16x128_0_256)) (View.ld x3 (Rect.unit (s := S256x2880) ![0, 512] S256x256.size inb_S256x2880_S256x256_0_512)) W))⟩,
   ⟨(Rect.unit (s := S256x1440) ![0, 128] S256x128.size inb_S256x1440_S256x128_0_128), ckOf (quantC (quantTile (View.ld x4 (Rect.unit (s := S16x1536) ![0, 128] S16x128.size inb_S16x1536_S16x128_0_128)) (View.ld x3 (Rect.unit (s := S256x2880) ![0, 256] S256x256.size inb_S256x2880_S256x256_0_256)) W))⟩,
   ⟨(Rect.unit (s := S256x1440) ![0, 0] S256x128.size inb_S256x1440_S256x128_0_0), ckOf (quantC (quantTile (View.ld x4 (Rect.unit (s := S16x1536) ![0, 0] S16x128.size inb_S16x1536_S16x128_0_0)) (View.ld x3 (Rect.unit (s := S256x2880) ![0, 0] S256x256.size inb_S256x2880_S256x256_0_0)) W))⟩]

/-- The twelve pieces of the codes packed along the rows (last first). -/
def cnPiecesL (W : Vec F S256x256 .bf16) (T : Vec F S64x256 .bf16) (x3 : Vec F S256x2880 .bf16) (x4 : Vec F S16x1536 .f32) : List (View.Piece (Elt F) S2880x128 .i8) :=
  [⟨(Rect.unit (s := S2880x128) ![2816, 0] S64x128.size inb_S2880x128_S64x128_2816_0), extractStridedSlice S64x128 ![0, 0] (cnOf (quantC (quantTail (View.ld x4 (Rect.unit (s := S16x1536) ![0, 1408] S16x128.size inb_S16x1536_S16x128_0_1408)) (View.ld x3 (Rect.unit (s := S256x2880) ![0, 2816] S256x64.size inb_S256x2880_S256x64_0_2816)) T))) slices_S256x128_o0_0_S64x128⟩,
   ⟨(Rect.unit (s := S2880x128) ![2560, 0] S256x128.size inb_S2880x128_S256x128_2560_0), cnOf (quantC (quantTile (View.ld x4 (Rect.unit (s := S16x1536) ![0, 1280] S16x128.size inb_S16x1536_S16x128_0_1280)) (View.ld x3 (Rect.unit (s := S256x2880) ![0, 2560] S256x256.size inb_S256x2880_S256x256_0_2560)) W))⟩,
   ⟨(Rect.unit (s := S2880x128) ![2304, 0] S256x128.size inb_S2880x128_S256x128_2304_0), cnOf (quantC (quantTile (View.ld x4 (Rect.unit (s := S16x1536) ![0, 1152] S16x128.size inb_S16x1536_S16x128_0_1152)) (View.ld x3 (Rect.unit (s := S256x2880) ![0, 2304] S256x256.size inb_S256x2880_S256x256_0_2304)) W))⟩,
   ⟨(Rect.unit (s := S2880x128) ![2048, 0] S256x128.size inb_S2880x128_S256x128_2048_0), cnOf (quantC (quantTile (View.ld x4 (Rect.unit (s := S16x1536) ![0, 1024] S16x128.size inb_S16x1536_S16x128_0_1024)) (View.ld x3 (Rect.unit (s := S256x2880) ![0, 2048] S256x256.size inb_S256x2880_S256x256_0_2048)) W))⟩,
   ⟨(Rect.unit (s := S2880x128) ![1792, 0] S256x128.size inb_S2880x128_S256x128_1792_0), cnOf (quantC (quantTile (View.ld x4 (Rect.unit (s := S16x1536) ![0, 896] S16x128.size inb_S16x1536_S16x128_0_896)) (View.ld x3 (Rect.unit (s := S256x2880) ![0, 1792] S256x256.size inb_S256x2880_S256x256_0_1792)) W))⟩,
   ⟨(Rect.unit (s := S2880x128) ![1536, 0] S256x128.size inb_S2880x128_S256x128_1536_0), cnOf (quantC (quantTile (View.ld x4 (Rect.unit (s := S16x1536) ![0, 768] S16x128.size inb_S16x1536_S16x128_0_768)) (View.ld x3 (Rect.unit (s := S256x2880) ![0, 1536] S256x256.size inb_S256x2880_S256x256_0_1536)) W))⟩,
   ⟨(Rect.unit (s := S2880x128) ![1280, 0] S256x128.size inb_S2880x128_S256x128_1280_0), cnOf (quantC (quantTile (View.ld x4 (Rect.unit (s := S16x1536) ![0, 640] S16x128.size inb_S16x1536_S16x128_0_640)) (View.ld x3 (Rect.unit (s := S256x2880) ![0, 1280] S256x256.size inb_S256x2880_S256x256_0_1280)) W))⟩,
   ⟨(Rect.unit (s := S2880x128) ![1024, 0] S256x128.size inb_S2880x128_S256x128_1024_0), cnOf (quantC (quantTile (View.ld x4 (Rect.unit (s := S16x1536) ![0, 512] S16x128.size inb_S16x1536_S16x128_0_512)) (View.ld x3 (Rect.unit (s := S256x2880) ![0, 1024] S256x256.size inb_S256x2880_S256x256_0_1024)) W))⟩,
   ⟨(Rect.unit (s := S2880x128) ![768, 0] S256x128.size inb_S2880x128_S256x128_768_0), cnOf (quantC (quantTile (View.ld x4 (Rect.unit (s := S16x1536) ![0, 384] S16x128.size inb_S16x1536_S16x128_0_384)) (View.ld x3 (Rect.unit (s := S256x2880) ![0, 768] S256x256.size inb_S256x2880_S256x256_0_768)) W))⟩,
   ⟨(Rect.unit (s := S2880x128) ![512, 0] S256x128.size inb_S2880x128_S256x128_512_0), cnOf (quantC (quantTile (View.ld x4 (Rect.unit (s := S16x1536) ![0, 256] S16x128.size inb_S16x1536_S16x128_0_256)) (View.ld x3 (Rect.unit (s := S256x2880) ![0, 512] S256x256.size inb_S256x2880_S256x256_0_512)) W))⟩,
   ⟨(Rect.unit (s := S2880x128) ![256, 0] S256x128.size inb_S2880x128_S256x128_256_0), cnOf (quantC (quantTile (View.ld x4 (Rect.unit (s := S16x1536) ![0, 128] S16x128.size inb_S16x1536_S16x128_0_128)) (View.ld x3 (Rect.unit (s := S256x2880) ![0, 256] S256x256.size inb_S256x2880_S256x256_0_256)) W))⟩,
   ⟨(Rect.unit (s := S2880x128) ![0, 0] S256x128.size inb_S2880x128_S256x128_0_0), cnOf (quantC (quantTile (View.ld x4 (Rect.unit (s := S16x1536) ![0, 0] S16x128.size inb_S16x1536_S16x128_0_0)) (View.ld x3 (Rect.unit (s := S256x2880) ![0, 0] S256x256.size inb_S256x2880_S256x256_0_0)) W))⟩]

/-- The same pieces with the two parts of the rotation matrix read from its array. -/
def amaxPieces (R : Vec F S256x256 .bf16) (x2 : Vec F S256x2880 .bf16) : List (View.Piece (Elt F) S16x1536 .f32) :=
  amaxPiecesL (View.ld R (Rect.unit (s := S256x256) ![0, 0] S256x256.size inb_S256x256_S256x256_0_0)) (View.ld R (Rect.unit (s := S256x256) ![0, 0] S64x256.size inb_S256x256_S64x256_0_0)) x2

/-- The same pieces with the two parts of the rotation matrix read from its array. -/
def xpPieces (R : Vec F S256x256 .bf16) (x1 : Vec F S256x2880 .bf16) : List (View.Piece (Elt F) S256x3072 .bf16) :=
  xpPiecesL (View.ld R (Rect.unit (s := S256x256) ![0, 0] S256x256.size inb_S256x256_S256x256_0_0)) (View.ld R (Rect.unit (s := S256x256) ![0, 0] S64x256.size inb_S256x256_S64x256_0_0)) x1

/-- The same pieces with the two parts of the rotation matrix read from its array. -/
def wdPieces (R : Vec F S256x256 .bf16) (x3 : Vec F S256x2880 .bf16) (x4 : Vec F S16x1536 .f32) (x5 : Vec F S16x1536 .bf16) : List (View.Piece (Elt F) S256x3072 .bf16) :=
  wdPiecesL (View.ld R (Rect.unit (s := S256x256) ![0, 0] S256x256.size inb_S256x256_S256x256_0_0)) (View.ld R (Rect.unit (s := S256x256) ![0, 0] S64x256.size inb_S256x256_S64x256_0_0)) x3 x4 x5

/-- The same pieces with the two parts of the rotation matrix read from its array. -/
def ckPieces (R : Vec F S256x256 .bf16) (x3 : Vec F S256x2880 .bf16) (x4 : Vec F S16x1536 .f32) : List (View.Piece (Elt F) S256x1440 .i8) :=
  ckPiecesL (View.ld R (Rect.unit (s := S256x256) ![0, 0] S256x256.size inb_S256x256_S256x256_0_0)) (View.ld R (Rect.unit (s := S256x256) ![0, 0] S64x256.size inb_S256x256_S64x256_0_0)) x3 x4

/-- The same pieces with the two parts of the rotation matrix read from its array. -/
def cnPieces (R : Vec F S256x256 .bf16) (x3 : Vec F S256x2880 .bf16) (x4 : Vec F S16x1536 .f32) : List (View.Piece (Elt F) S2880x128 .i8) :=
  cnPiecesL (View.ld R (Rect.unit (s := S256x256) ![0, 0] S256x256.size inb_S256x256_S256x256_0_0)) (View.ld R (Rect.unit (s := S256x256) ![0, 0] S64x256.size inb_S256x256_S64x256_0_0)) x3 x4

/-- The weights' scratch after the twelve stores. -/
def wdOf (R : Vec F S256x256 .bf16) (x3 : Vec F S256x2880 .bf16) (x4 : Vec F S16x1536 .f32) (x5 : Vec F S16x1536 .bf16) : Vec F S256x3072 .bf16 := View.canon (wdPieces R x3 x4 x5)

/-- The output tile from the loads it is made of. -/
def yTile (R : Vec F S256x256 .bf16) (x1 : Vec F S1 .f32) (x2 : Vec F S256x3072 .bf16) (x3 : Vec F S256x2880 .bf16) (x4 : Vec F S16x1536 .f32) (x5 : Vec F S16x1536 .bf16) : FVec F S256x256 .bf16 :=
  yOf (View.ld x2 (Rect.unit (s := S256x3072) ![0, 0] S256x3072.size inb_S256x3072_S256x3072_0_0)) (View.ld (wdOf R x3 x4 x5) (Rect.unit (s := S256x3072) ![0, 0] S256x3072.size inb_S256x3072_S256x3072_0_0)) (View.ld x1 (Rect.unit (s := S1) ![0] S1.size inb_S1_S1_0) (Shape.Idx.first (numel1_S1.symm ▸ Nat.one_pos)))

/-- Sixteen signs read one by one from their array. -/
def signs (x0 : Vec F S16 .f32) : Fin 16 → F .f32 :=
  ![View.ld x0 (Rect.unit (s := S16) ![0] S1.size inb_S16_S1_0) (Shape.Idx.first (numel1_S1.symm ▸ Nat.one_pos)),
    View.ld x0 (Rect.unit (s := S16) ![1] S1.size inb_S16_S1_1) (Shape.Idx.first (numel1_S1.symm ▸ Nat.one_pos)),
    View.ld x0 (Rect.unit (s := S16) ![2] S1.size inb_S16_S1_2) (Shape.Idx.first (numel1_S1.symm ▸ Nat.one_pos)),
    View.ld x0 (Rect.unit (s := S16) ![3] S1.size inb_S16_S1_3) (Shape.Idx.first (numel1_S1.symm ▸ Nat.one_pos)),
    View.ld x0 (Rect.unit (s := S16) ![4] S1.size inb_S16_S1_4) (Shape.Idx.first (numel1_S1.symm ▸ Nat.one_pos)),
    View.ld x0 (Rect.unit (s := S16) ![5] S1.size inb_S16_S1_5) (Shape.Idx.first (numel1_S1.symm ▸ Nat.one_pos)),
    View.ld x0 (Rect.unit (s := S16) ![6] S1.size inb_S16_S1_6) (Shape.Idx.first (numel1_S1.symm ▸ Nat.one_pos)),
    View.ld x0 (Rect.unit (s := S16) ![7] S1.size inb_S16_S1_7) (Shape.Idx.first (numel1_S1.symm ▸ Nat.one_pos)),
    View.ld x0 (Rect.unit (s := S16) ![8] S1.size inb_S16_S1_8) (Shape.Idx.first (numel1_S1.symm ▸ Nat.one_pos)),
    View.ld x0 (Rect.unit (s := S16) ![9] S1.size inb_S16_S1_9) (Shape.Idx.first (numel1_S1.symm ▸ Nat.one_pos)),
    View.ld x0 (Rect.unit (s := S16) ![10] S1.size inb_S16_S1_10) (Shape.Idx.first (numel1_S1.symm ▸ Nat.one_pos)),
    View.ld x0 (Rect.unit (s := S16) ![11] S1.size inb_S16_S1_11) (Shape.Idx.first (numel1_S1.symm ▸ Nat.one_pos)),
    View.ld x0 (Rect.unit (s := S16) ![12] S1.size inb_S16_S1_12) (Shape.Idx.first (numel1_S1.symm ▸ Nat.one_pos)),
    View.ld x0 (Rect.unit (s := S16) ![13] S1.size inb_S16_S1_13) (Shape.Idx.first (numel1_S1.symm ▸ Nat.one_pos)),
    View.ld x0 (Rect.unit (s := S16) ![14] S1.size inb_S16_S1_14) (Shape.Idx.first (numel1_S1.symm ▸ Nat.one_pos)),
    View.ld x0 (Rect.unit (s := S16) ![15] S1.size inb_S16_S1_15) (Shape.Idx.first (numel1_S1.symm ▸ Nat.one_pos))]

/-- The two zero offsets, spelt as a constant function. -/
theorem off00 : (![0, 0] : Fin 2 → Nat) = fun _ => 0 := by funext a; fin_cases a <;> rfl

/-- One store over the whole shape leaves what it stores. -/
theorem canon_whole {s : Shape} {e : EltTy} {off : Fin s.rank → Nat} (h : off = fun _ => 0) (inb : ∀ a, off a + s.size a ≤ s.size a) (w : s.Idx → Elt F e) :
    View.canon (Val := Elt F) [(⟨Rect.unit off s.size inb, w⟩ : View.Piece (Elt F) s e)] = w := View.canon_unit_zero h inb w

end Cert.Kernel.Hand

end
-- ==== Proof.HandKernel.AmaxFirst.lean ====
module

public import proofs.«01_k».proof.Proof.HandKernel.Tiles
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the amax pass at a point, run on any staging buffers: what it leaves in each of them. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the rotation matrix is built and kept in the scratch, the activations are rotated, the block maxima are written. -/
theorem sound0_A (c : Dev nD) (i : grid0.Coords) (arg1 : Memref sig .tc .smem S16 .f32) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S16x1536 .f32) (harg4 : arg4.IsWhole) (arg5 : Memref sig .tc .vmem S256x3072 .bf16) (harg5 : arg5.IsWhole) (arg6 : Memref sig .tc .vmem S256x256 .bf16) (harg6 : arg6.IsWhole)
    (x0 : Vec F S16 .f32) (x1 : Vec F S256x2880 .bf16) (x2 : Vec F S256x2880 .bf16) (hc : k0_cond1 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (iprop(owns (c : Thread nD τ) arg1 fullShare x0 ∗ owns (c : Thread nD τ) arg2 fullShare x1 ∗ owns (c : Thread nD τ) arg3 fullShare x2 ∗ owns (c : Thread nD τ) arg4 fullShare (View.canon (amaxPieces (rotTile (signs x0)) x2)) ∗ owns (c : Thread nD τ) arg5 fullShare (View.canon (xpPieces (rotTile (signs x0)) x1)) ∗ owns (c : Thread nD τ) arg6 fullShare (rotTile (signs x0))) -∗ K ⟨⟩))
      ⊢ wp frame (wpE (defs₀ (F := F)) Variants.none c none) E (cc0_amax_pass i arg1 harg1 arg2 harg2 arg3 harg3 arg4 harg4 arg5 harg5 arg6 harg6) K := by
  simp only [cc0_amax_pass_eq_skeleton]; unfold cc0_amax_pass_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  subst hf0; subst hf1; subst hf2
  sl_exec (disch := first | sl_exact hc)
  sl_step
  have hC : View.canon (sound0_A.sl.HS_1 c arg1 f0) = rotTile (signs (arg1.view.read (Elt F) f0)) := by
    unfold sound0_A.sl.HS_1
    refine (canon_whole off00 _ _).trans ?_
    sl_kernel_rfl
  have hR : sound0_A.sl.v425 c arg1 arg6 f0 = View.ld (rotTile (signs (arg1.view.read (Elt F) f0))) (Rect.unit (s := S256x256) ![0, 0] S256x256.size inb_S256x256_S256x256_0_0) :=
    (View.readCov_eq_canon_ld arg6.view (sound0_A.sl.HS_1 c arg1 f0) _ (View.cover_of_tiledL _ S256x256.size (by sl_kernel_rfl))).trans (by rw [hC])
  have hT : sound0_A.sl.v180 c arg1 arg6 f0 = View.ld (rotTile (signs (arg1.view.read (Elt F) f0))) (Rect.unit (s := S256x256) ![0, 0] S64x256.size inb_S256x256_S64x256_0_0) :=
    (View.readCov_eq_canon_ld arg6.view (sound0_A.sl.HS_1 c arg1 f0) _ (View.cover_of_tiledL _ S256x256.size (by sl_kernel_rfl))).trans (by rw [hC])
  have hX : sound0_A.sl.v491 c arg1 arg6 f0 = View.ld (rotTile (signs (arg1.view.read (Elt F) f0))) (Rect.unit (s := S256x256) ![0, 0] S64x256.size inb_S256x256_S64x256_0_0) :=
    (View.readCov_eq_canon_ld arg6.view (sound0_A.sl.HS_1 c arg1 f0) _ (View.cover_of_tiledL _ S256x256.size (by sl_kernel_rfl))).trans (by rw [hC])
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ ?_).trans ?_
    · exact View.cover_of_tiledL _ S16x128.size (by sl_kernel_rfl)
    refine Eq.trans (b := View.canon (amaxPiecesL (sound0_A.sl.v425 c arg1 arg6 f0) (sound0_A.sl.v180 c arg1 arg6 f0) (arg3.view.read (Elt F) f2))) (by sl_kernel_rfl) ?_
    rw [hR, hT]; rfl
  isplitl [H4]
  · iexists _; isplitr
    swap; · iexact H4
    ipureintro
    refine (View.read_writes_eq_canon _ _ _ ?_).trans ?_
    · exact View.cover_of_tiledL _ S256x256.size (by sl_kernel_rfl)
    refine Eq.trans (b := View.canon (xpPiecesL (sound0_A.sl.v425 c arg1 arg6 f0) (sound0_A.sl.v491 c arg1 arg6 f0) (arg2.view.read (Elt F) f1))) (by sl_kernel_rfl) ?_
    rw [hR, hX]; rfl
  iexists _; isplitr
  swap; · iexact HS
  ipureintro
  refine (View.read_writes_eq_canon _ _ _ ?_).trans hC
  exact View.cover_of_tiledL _ S256x256.size (by sl_kernel_rfl)

end Cert.Kernel.Hand

end
-- ==== Proof.HandKernel.AmaxNext.lean ====
module

public import proofs.«01_k».proof.Proof.HandKernel.Tiles
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the amax pass at a point, run on any staging buffers: what it leaves in each of them. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The twelve pieces cover the block-maxima block. -/
theorem amax_cover (R : Vec F S256x256 .bf16) (x2 : Vec F S256x2880 .bf16) (y : S16x1536.Idx) :
    ∃ pc ∈ amaxPieces R x2, y ∈ pc.1.set :=
  View.cover_of_tiledL (amaxPieces R x2) S16x128.size (by sl_kernel_rfl) y

/-- The twelve pieces cover the rotated activations. -/
theorem xp_cover (R : Vec F S256x256 .bf16) (x1 : Vec F S256x2880 .bf16) (y : S256x3072.Idx) :
    ∃ pc ∈ xpPieces R x1, y ∈ pc.1.set :=
  View.cover_of_tiledL (xpPieces R x1) S256x256.size (by sl_kernel_rfl) y

set_option maxHeartbeats 2000000 in
/-- A later point: the rotation matrix is read from the scratch, the block maxima are written. -/
theorem sound0_B (c : Dev nD) (i : grid0.Coords) (arg1 : Memref sig .tc .smem S16 .f32) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S16x1536 .f32) (harg4 : arg4.IsWhole) (arg5 : Memref sig .tc .vmem S256x3072 .bf16) (harg5 : arg5.IsWhole) (arg6 : Memref sig .tc .vmem S256x256 .bf16) (harg6 : arg6.IsWhole)
    (x0 : Vec F S16 .f32) (x1 : Vec F S256x2880 .bf16) (x2 : Vec F S256x2880 .bf16) (R : Vec F S256x256 .bf16) (hc : ¬ (k0_cond1 i = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg6 fullShare R ∗ (iprop(owns (c : Thread nD τ) arg1 fullShare x0 ∗ owns (c : Thread nD τ) arg2 fullShare x1 ∗ owns (c : Thread nD τ) arg3 fullShare x2 ∗ owns (c : Thread nD τ) arg4 fullShare (View.canon (amaxPieces R x2)) ∗ owns (c : Thread nD τ) arg6 fullShare R) -∗ K ⟨⟩))
      ⊢ wp frame (wpE (defs₀ (F := F)) Variants.none c none) E (cc0_amax_pass i arg1 harg1 arg2 harg2 arg3 harg3 arg4 harg4 arg5 harg5 arg6 harg6) K := by
  simp only [cc0_amax_pass_eq_skeleton]; unfold cc0_amax_pass_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; refine (View.read_writes_eq_canon _ _ _ (amax_cover _ _)).trans ?_; rfl
  iexists fs; isplitr; · ipureintro; rfl
  iexact HS

end Cert.Kernel.Hand

end
-- ==== Proof.HandKernel.Region0.lean ====
module

public import proofs.«01_k».proof.Proof.HandKernel.AmaxFirst
public import proofs.«01_k».proof.Proof.HandKernel.AmaxNext
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The maxima pass as a pipelined region: what every staging buffer and the scratch hold around each point, and that the body keeps it so. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-- The block of window `w` at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input 0 holds its block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input 1 holds its block whenever the body runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input 2 holds its block whenever the body runs. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at a point, and that it is whole. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2880 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .bf16 := win0_4.stage (cfg0.slots t 4)
abbrev hs0_4 (t : Fin cfg0.N) : (ms0_4 t).IsWhole := hstage0_4 ((cfg0.slots t 4).cast nbuf0_4)
/-- A scratch buffer of the kernel. -/
abbrev scM0_0 : Memref sig .tc .vmem S256x256 .bf16 := Memref.whole cc0_scratch0

/-- The buffers beside the windows, with `S` in the place of the rotation matrix's scratch. -/
def Rest0 (c : Dev nD) (S : sProp 𝕄) : sProp 𝕄 :=
  iprop(S ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))

/-- The invariant of the frame, its first scratch named. -/
theorem PhiA0_eq (c : Dev nD) :
    (Pipeline.ΦA spec0 c : sProp 𝕄) = iprop(Rest0 c iprop(∃ d, owns (c : Thread nD τ) scM0_0 fullShare d) ∗ (∃ r, prngReg c r)) := by
  unfold Pipeline.ΦA; rw [scopedRest0_eq]; unfold Rest0; simp only [scM0_0, owns_whole]; try rfl

/-- The first point. -/
def t0_0 : Fin cfg0.N := ⟨0, by rw [show cfg0.N = 45 from N_0]; decide⟩

theorem eq_t0_0 (t : Fin cfg0.N) (h : t.val = 0) : t = t0_0 := Fin.ext h

/-- The rotation matrix the scratch keeps: that of the signs found at the first point. -/
def rot0 (c : Dev nD) : Vec F S256x256 .bf16 := rotTile (signs (iblk0 V c 0 t0_0))

/-- The invariant: before the first point the scratch may hold anything; afterwards it holds the rotation matrix. -/
def Phi0 (c : Dev nD) (t : Fin (cfg0.N + 1)) : sProp 𝕄 :=
  if t.val = 0 then Pipeline.ΦA spec0 c else iprop(Rest0 c iprop(owns (c : Thread nD τ) scM0_0 fullShare (rot0 V c)) ∗ (∃ r, prngReg c r))

/-- What each window's buffer holds after the body at a point, and the invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => View.canon (amaxPieces (rot0 V c) (iblk0 V c 2 t))
    | ⟨4, _⟩ => View.canon (xpPieces (rot0 V c) (iblk0 V c 1 t0_0))
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = View.canon (amaxPieces (rot0 V c) (iblk0 V c 2 t)) := by dsimp only [dat0]
theorem after0_4 (c : Dev nD) (t : Fin cfg0.N) : (dat0 V c).after 4 t = View.canon (xpPieces (rot0 V c) (iblk0 V c 1 t0_0)) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The kernel's test for the first point. -/
theorem hcond0 (t : Fin cfg0.N) : (k0_cond1 (grid0.coords t) = 1#1) ↔ t.val = 0 := by
  have ht : t.val < 45 := Nat.lt_of_lt_of_eq t.isLt N_0
  have e0 : (grid0.coords t 0).val = t.val / 1 % 45 := Pipeline.Grid.coords_val t 0 (by decide) rfl
  have e1 : (grid0.coords t 0).val = t.val := by omega
  unfold k0_cond1
  simp only [e1]
  generalize t.val = n at ht
  revert n
  decide +kernel

/-- Whether the rotated activations' buffer is left alone at a point. -/
theorem idle0_4 (t : Fin cfg0.N) : cfg0.idle 4 (cfg0.grid.coords t) = decide (t.val ≠ 0) := by
  have h : cfg0.idle 4 (cfg0.grid.coords t) = !(k0_cond1 (grid0.coords t) == 1#1) := rfl
  rw [h, Bool.eq_iff_iff, decide_eq_true_iff, Ne, ← hcond0 t]
  simp

/-- The rotated activations are written back at the last point only. -/
theorem flush0_4' (t : Fin cfg0.N) : (cfg0.win 4).flush t = decide (t.val % 45 = 44) := by
  rw [Bool.eq_iff_iff, decide_eq_true_iff, flush0_4]

/-- Between the first point and the last write-back the buffer holds what the body stored. -/
theorem fresh0_4 (t : Fin cfg0.N) (ht : t.val ≠ 0) : cfg0.fresh 4 t.val = false := by
  have hN : cfg0.N = 45 := N_0
  have key := cfg0.fresh_tab 4 (fun n => n == 0 || n == 45) rfl (fun t => by
    have ht : t.val < 45 := hN ▸ t.isLt
    rw [flush0_4', idle0_4]
    generalize t.val = n at ht
    revert n
    decide +kernel) t.val (Nat.le_of_lt t.isLt)
  rw [key]
  have ht' : t.val < 45 := hN ▸ t.isLt
  have h1 : (t.val == 0) = false := by simpa using ht
  have h2 : (t.val == 45) = false := by simp; omega
  rw [h1, h2]; rfl

/-- What the body leaves in the rotated activations' buffer. -/
def leaves0_4 (c : Dev nD) (t : Fin cfg0.N) : sProp 𝕄 :=
  match cfg0.idle 4 (cfg0.grid.coords t) with
  | true =>
    match (cfg0.win 4).flush t with
    | false => iprop(∃ d, owns (c : Thread nD τ) ((cfg0.win 4).stage (cfg0.slots t 4)) fullShare ((dat0 V c).before 4 t d))
    | true => owns (c : Thread nD τ) ((cfg0.win 4).stage (cfg0.slots t 4)) fullShare ((dat0 V c).after 4 t)
  | false => owns (c : Thread nD τ) ((cfg0.win 4).stage (cfg0.slots t 4)) fullShare ((dat0 V c).after 4 t)

theorem leaves0_4_zero (c : Dev nD) (t : Fin cfg0.N) (ht : t.val = 0) :
    leaves0_4 V c t = owns (c : Thread nD τ) (ms0_4 t) fullShare ((dat0 V c).after 4 t) := by
  have hi : cfg0.idle 4 (cfg0.grid.coords t) = false := by rw [idle0_4]; simp [ht]
  unfold leaves0_4; rw [hi]

theorem before0_4 (c : Dev nD) (t : Fin cfg0.N) (ht : t.val ≠ 0) (d) :
    (dat0 V c).before 4 t d = (dat0 V c).after 4 t := by
  rw [(dat0 V c).before_out_traj 4 rfl (fun _ _ => rfl) (fun t _ _ _ => by rw [after0_4, after0_4]) t.val t rfl d, fresh0_4 t ht, after0_4, if_neg Bool.false_ne_true]
  rw [after0_4]

theorem keep0_4 (c : Dev nD) (t : Fin cfg0.N) (ht : t.val ≠ 0) (d) :
    (owns (c : Thread nD τ) (ms0_4 t) fullShare ((dat0 V c).before 4 t d) : sProp 𝕄) ⊢ leaves0_4 V c t := by
  have hi : cfg0.idle 4 (cfg0.grid.coords t) = true := by rw [idle0_4]; simp [ht]
  unfold leaves0_4; rw [hi]
  cases hf : (cfg0.win 4).flush t
  · dsimp only
    iintro H; iexists d; iexact H
  · dsimp only
    rw [before0_4 V c t ht d]

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ leaves0_4 V c t)

theorem Phi0_succ (c : Dev nD) (t : Fin cfg0.N) : (dat0 V c).Φ t.succ = iprop(Rest0 c iprop(owns (c : Thread nD τ) scM0_0 fullShare (rot0 V c)) ∗ (∃ r, prngReg c r)) := by
  show Phi0 V c t.succ = _
  unfold Phi0
  rw [if_neg (by rw [Fin.val_succ]; exact Nat.succ_ne_zero _)]

theorem Phi0_zero (c : Dev nD) (t : Fin cfg0.N) (ht : t.val = 0) : (dat0 V c).Φ t.castSucc = Pipeline.ΦA spec0 c := by
  show Phi0 V c t.castSucc = _
  unfold Phi0
  rw [if_pos (by rw [Fin.val_castSucc]; exact ht)]

theorem Phi0_pos (c : Dev nD) (t : Fin cfg0.N) (ht : t.val ≠ 0) : (dat0 V c).Φ t.castSucc = iprop(Rest0 c iprop(owns (c : Thread nD τ) scM0_0 fullShare (rot0 V c)) ∗ (∃ r, prngReg c r)) := by
  show Phi0 V c t.castSucc = _
  unfold Phi0
  rw [if_neg (by rw [Fin.val_castSucc]; exact ht)]

set_option maxHeartbeats 2000000 in
/-- The body at the first point. -/
theorem sound_body0_first (c : Dev nD) (t : Fin cfg0.N) (ht : t.val = 0) :
    bodyPre0 V c t ⊢ wp frame (wpE (defs₀ (F := F)) Variants.none c none) Set.univ (bodyAt0 t) (fun _ => bodyPost0 V c t) := by
  have hr : rot0 V c = rotTile (signs (iblk0 V c 0 t)) := by rw [eq_t0_0 t ht]; rfl
  unfold bodyPre0 bodyPost0 bodyAt0
  simp only [before0_0, before0_1, before0_2]
  rw [Phi0_succ, Phi0_zero V c t ht, show (dat0 V c).owesAt () t.succ = (dat0 V c).owesAt () t.castSucc from rfl, leaves0_4_zero V c t ht, after0_0, after0_1, after0_2, after0_3, after0_4]
  rw [PhiA0_eq, hr]
  rw [← eq_t0_0 t ht]
  unfold Rest0
  iintro ⟨⟨⟨HS, HR1, HR2, HR3, HR4, HR5, HR6, HR7, HR8, HR9, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩⟩
  iapply (sound0_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) ((hcond0 t).mpr ht) Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS HR1 HR2 HR3 HR4 HR5 HR6 HR7 HR8 HR9 HR10 HR11 HR12 HR13 HR14 HR15 HR16 HR17 HR18 HR19 HR20 HR21 HR22 Hg]
  · isplitl [HS HR1 HR2 HR3 HR4 HR5 HR6 HR7 HR8 HR9 HR10 HR11 HR12 HR13 HR14 HR15 HR16 HR17 HR18 HR19 HR20 HR21 HR22]
    · isplitl [HS]; · iexact HS
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexact HR22
    iexact Hg
  isplitl [Ho]; · iexact Ho
  isplitl [H0]; · iexact H0
  isplitl [H1]; · iexact H1
  isplitl [H2]; · iexact H2
  isplitl [H3]; · iexact H3
  iexact H4

set_option maxHeartbeats 2000000 in
/-- The body at a later point. -/
theorem sound_body0_next (c : Dev nD) (t : Fin cfg0.N) (ht : t.val ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [Phi0_succ, Phi0_pos V c t ht, show (dat0 V c).owesAt () t.succ = (dat0 V c).owesAt () t.castSucc from rfl, after0_0, after0_1, after0_2, after0_3]
  unfold Rest0
  iintro ⟨⟨⟨HS, HR1, HR2, HR3, HR4, HR5, HR6, HR7, HR8, HR9, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩⟩
  iapply (sound0_B c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) (rot0 V c) (fun h => ht ((hcond0 t).mp h)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR1 HR2 HR3 HR4 HR5 HR6 HR7 HR8 HR9 HR10 HR11 HR12 HR13 HR14 HR15 HR16 HR17 HR18 HR19 HR20 HR21 HR22 Hg]
  · isplitl [HS HR1 HR2 HR3 HR4 HR5 HR6 HR7 HR8 HR9 HR10 HR11 HR12 HR13 HR14 HR15 HR16 HR17 HR18 HR19 HR20 HR21 HR22]
    · isplitl [HS]; · iexact HS
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexact HR22
    iexact Hg
  isplitl [Ho]; · iexact Ho
  isplitl [H0]; · iexact H0
  isplitl [H1]; · iexact H1
  isplitl [H2]; · iexact H2
  isplitl [H3]; · iexact H3
  iapply (keep0_4 V c t ht d4); iexact H4

theorem sound_body0 (c : Dev nD) (t : Fin cfg0.N) :
    bodyPre0 V c t ⊢ wp frame (wpE (defs₀ (F := F)) Variants.none c none) Set.univ (bodyAt0 t) (fun _ => bodyPost0 V c t) := by
  by_cases ht : t.val = 0
  · exact sound_body0_first V c t ht
  · exact sound_body0_next V c t ht

theorem defs₀_row0 (t : Fin cfg0.N) :
    defs₀ (F := F) .tc cfg0.body (cfg0.bodyArgs t (cfg0.slots t)) = bodyAt0 t := by
  unfold defs₀; rw [Defs.onTc_tc]

/-- The body keeps the pipeline's invariant at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point nothing is asked of the scratch, -/
theorem hin0 (c : Dev nD) : (Pipeline.ΦA spec0 c : sProp 𝕄) ⊢ (dat0 V c).Φ 0 := by
  show _ ⊢ Phi0 V c 0
  unfold Phi0
  rw [if_pos (by rfl)]

/-- and after the last one its contents are forgotten. -/
theorem hout0 (c : Dev nD) : (dat0 V c).Φ (Fin.last cfg0.N) ⊢ (Pipeline.ΦA spec0 c : sProp 𝕄) := by
  show Phi0 V c (Fin.last cfg0.N) ⊢ _
  unfold Phi0
  rw [if_neg (by rw [Fin.val_last]; have : cfg0.N = 45 := N_0; omega), PhiA0_eq]
  unfold Rest0
  iintro ⟨⟨HS, HR1, HR2, HR3, HR4, HR5, HR6, HR7, HR8, HR9, HR10, HR11, HR12, HR13, HR14, HR15, HR16, HR17, HR18, HR19, HR20, HR21, HR22⟩, Hg⟩
  isplitl [HS HR1 HR2 HR3 HR4 HR5 HR6 HR7 HR8 HR9 HR10 HR11 HR12 HR13 HR14 HR15 HR16 HR17 HR18 HR19 HR20 HR21 HR22]
  · isplitl [HS]; · iexists _; iexact HS
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    iexact HR22
  iexact Hg

end Cert.Kernel.Hand

end
-- ==== Proof.HandKernel.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The pass that turns block maxima into scales, as a region of one point. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input 0 holds its block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S720x1536 := Rect.unit (s := S720x1536) ![0, 0] S720x1536.size inb_S720x1536_S720x1536_0_0
abbrev r1_1 : Rect S1x1 := Rect.unit (s := S1x1) ![0, 0] S1x1.size inb_S1x1_S1x1_0_0
abbrev r1_2 : Rect S720x1536 := Rect.unit (s := S720x1536) ![0, 0] S720x128.size inb_S720x1536_S720x128_0_0
abbrev r1_3 : Rect S720x1536 := Rect.unit (s := S720x1536) ![0, 128] S720x128.size inb_S720x1536_S720x128_0_128
abbrev r1_4 : Rect S720x1536 := Rect.unit (s := S720x1536) ![0, 256] S720x128.size inb_S720x1536_S720x128_0_256
abbrev r1_5 : Rect S720x1536 := Rect.unit (s := S720x1536) ![0, 384] S720x128.size inb_S720x1536_S720x128_0_384
abbrev r1_6 : Rect S720x1536 := Rect.unit (s := S720x1536) ![0, 512] S720x128.size inb_S720x1536_S720x128_0_512
abbrev r1_7 : Rect S720x1536 := Rect.unit (s := S720x1536) ![0, 640] S720x128.size inb_S720x1536_S720x128_0_640
abbrev r1_8 : Rect S720x1536 := Rect.unit (s := S720x1536) ![0, 768] S720x128.size inb_S720x1536_S720x128_0_768
abbrev r1_9 : Rect S720x1536 := Rect.unit (s := S720x1536) ![0, 896] S720x128.size inb_S720x1536_S720x128_0_896
abbrev r1_10 : Rect S720x1536 := Rect.unit (s := S720x1536) ![0, 1024] S720x128.size inb_S720x1536_S720x128_0_1024
abbrev r1_11 : Rect S720x1536 := Rect.unit (s := S720x1536) ![0, 1152] S720x128.size inb_S720x1536_S720x128_0_1152
abbrev r1_12 : Rect S720x1536 := Rect.unit (s := S720x1536) ![0, 1280] S720x128.size inb_S720x1536_S720x128_0_1280
abbrev r1_13 : Rect S720x1536 := Rect.unit (s := S720x1536) ![0, 1408] S720x128.size inb_S720x1536_S720x128_0_1408
abbrev r1_14 : Rect S720x180 := Rect.unit (s := S720x180) ![0, 0] S720x180.size inb_S720x180_S720x180_0_0

/-! ## What the body leaves in each output window's buffer -/

/-! ### Values of the body that the stores' payloads, spelt out, would write more than once

    Each is a vector the body binds (often a part call's result), stated over the input windows' blocks and
    numbered on from the skeleton's payload functions (`k1_pay49` …, after `k1_pay48`), so that
    `out1_W` and the values after it name it instead of spelling it out (`unfold_out out1_W` opens a canon
    with them, `unfold_payloads` opens them with the payloads); the comment after each is the printed function's
    name for the value (a count appended where that name is bound again). -/

def k1_pay49 (x0 : Vec F S720x1536 .f32) : IVec S128x128 32 :=
  iota .tc S128x128 32 [0] iota_S128x128_d0_w32 -- `v37`
def k1_pay50 (x0 : Vec F S720x1536 .f32) : IVec S128x128 32 :=
  iota .tc S128x128 32 [1] iota_S128x128_d1_w32 -- `v38`
def k1_pay51 (x0 : Vec F S720x1536 .f32) : FVec F S720x1536 .bf16 :=
  k1_pay5 (View.ld x0 r1_0) -- `v36`
def k1_pay52 (x0 : Vec F S720x1536 .f32) : IVec S128x128 32 :=
  k1_pay6 -- `v40`
def k1_pay53 (x0 : Vec F S720x1536 .f32) : FVec F S128x128 .bf16 :=
  k1_pay7 (F := F) (k1_pay49 x0) (k1_pay50 x0) 8#32 (k1_pay52 x0) 0#32 -- `v72`
def k1_pay54 (x0 : Vec F S720x1536 .f32) : FVec F S720x128 .f32 :=
  constant S720x128 .f32 0x00000000#32 -- `cst_45`
def k1_pay55 (x0 : Vec F S720x1536 .f32) : FVec F S720x128 .bf16 :=
  k1_pay17 (k1_pay51 x0) -- `v118`

/-- Window 1's staging buffer after the body, from the input windows' blocks: its 12 stores as pieces, LAST
    FIRST (Lib/Pipeline/FrameBody.lean `View.canon`; the payloads are the skeleton's and the values stated above). -/
def out1_1 (x0 : Vec F S720x1536 .f32) : Vec F S720x1536 .f32 :=
  View.canon [⟨r1_13, k1_pay46 (k1_pay3 (View.ld x0 r1_0)) (k1_pay51 x0) (k1_pay53 x0)⟩,
    ⟨r1_12, k1_pay43 (k1_pay3 (View.ld x0 r1_0)) (k1_pay51 x0) (k1_pay53 x0)⟩,
    ⟨r1_11, k1_pay40 (k1_pay3 (View.ld x0 r1_0)) (k1_pay51 x0) (k1_pay53 x0)⟩,
    ⟨r1_10, k1_pay37 (k1_pay3 (View.ld x0 r1_0)) (k1_pay51 x0) (k1_pay53 x0)⟩,
    ⟨r1_9, k1_pay34 (k1_pay3 (View.ld x0 r1_0)) (k1_pay51 x0) (k1_pay53 x0)⟩,
    ⟨r1_8, k1_pay31 (k1_pay3 (View.ld x0 r1_0)) (k1_pay51 x0) (k1_pay53 x0)⟩,
    ⟨r1_7, k1_pay28 (k1_pay25 (k1_pay3 (View.ld x0 r1_0)) (k1_pay51 x0) (k1_pay53 x0)) (k1_pay26 (k1_pay3 (View.ld x0 r1_0)) (k1_pay51 x0) (k1_pay53 x0)) (k1_pay27 (F := F))⟩,
    ⟨r1_6, k1_pay22 (k1_pay3 (View.ld x0 r1_0)) (k1_pay51 x0) (k1_pay53 x0)⟩,
    ⟨r1_5, k1_pay19 (k1_pay3 (View.ld x0 r1_0)) (k1_pay53 x0) (k1_pay55 x0) (k1_pay54 x0)⟩,
    ⟨r1_4, k1_pay15 (k1_pay3 (View.ld x0 r1_0)) (k1_pay51 x0) (k1_pay53 x0)⟩,
    ⟨r1_3, k1_pay12 (k1_pay3 (View.ld x0 r1_0)) (k1_pay51 x0) (k1_pay53 x0)⟩,
    ⟨r1_2, k1_pay9 (k1_pay3 (View.ld x0 r1_0)) (k1_pay51 x0) (k1_pay49 x0) (k1_pay50 x0) 8#32 (k1_pay52 x0) 0#32⟩]

/-- Its stores tile the buffer (checked by evaluation), so they cover it. -/
theorem cover1_1 (p0 : Vec F S720x128 .f32) (p1 : Vec F S720x128 .f32) (p2 : Vec F S720x128 .f32) (p3 : Vec F S720x128 .f32) (p4 : Vec F S720x128 .f32) (p5 : Vec F S720x128 .f32) (p6 : Vec F S720x128 .f32) (p7 : Vec F S720x128 .f32) (p8 : Vec F S720x128 .f32) (p9 : Vec F S720x128 .f32) (p10 : Vec F S720x128 .f32) (p11 : Vec F S720x128 .f32) (y : S720x1536.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S720x1536 .f32)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S720x128.size (by rfl) y

/-- Window 2's staging buffer after the body, from the input windows' blocks: its 1 store as pieces, LAST
    FIRST (Lib/Pipeline/FrameBody.lean `View.canon`; the payloads are the skeleton's and the values stated above). -/
def out1_2 (x0 : Vec F S720x1536 .f32) : Vec F S720x180 .fp8e4m3 :=
  View.canon [⟨r1_14, k1_pay1 (k1_pay51 x0) (iota .tc S1536x180 32 [0] iota_S1536x180_d0_w32) k1_pay48⟩]

/-- Its stores tile the buffer (checked by evaluation), so they cover it. -/
theorem cover1_2 (p0 : Vec F S720x180 .fp8e4m3) (y : S720x180.Idx) :
    ∃ pc ∈ ([⟨r1_14, p0⟩] : List (View.Piece (Elt F) S720x180 .fp8e4m3)), y ∈ pc.1.set :=
  View.cover_of_tiled [⟨r1_14, p0⟩] S720x180.size (by rfl) y

/-- Window 3's staging buffer after the body, from the input windows' blocks: its 12 stores as pieces, LAST
    FIRST (Lib/Pipeline/FrameBody.lean `View.canon`; the payloads are the skeleton's and the values stated above). -/
def out1_3 (x0 : Vec F S720x1536 .f32) : Vec F S720x1536 .bf16 :=
  View.canon [⟨r1_13, k1_pay47 (k1_pay51 x0) (k1_pay53 x0)⟩,
    ⟨r1_12, k1_pay44 (k1_pay51 x0) (k1_pay53 x0)⟩,
    ⟨r1_11, k1_pay41 (k1_pay51 x0) (k1_pay53 x0)⟩,
    ⟨r1_10, k1_pay38 (k1_pay51 x0) (k1_pay53 x0)⟩,
    ⟨r1_9, k1_pay35 (k1_pay33 (k1_pay51 x0) (k1_pay53 x0))⟩,
    ⟨r1_8, k1_pay32 (k1_pay51 x0) (k1_pay53 x0)⟩,
    ⟨r1_7, k1_pay29 (k1_pay24 (k1_pay51 x0) (k1_pay53 x0))⟩,
    ⟨r1_6, k1_pay23 (k1_pay51 x0) (k1_pay53 x0)⟩,
    ⟨r1_5, k1_pay20 (k1_pay53 x0) (k1_pay55 x0) (k1_pay54 x0)⟩,
    ⟨r1_4, k1_pay16 (k1_pay51 x0) (k1_pay53 x0)⟩,
    ⟨r1_3, k1_pay13 (k1_pay51 x0) (k1_pay53 x0)⟩,
    ⟨r1_2, k1_pay10 (k1_pay8 (k1_pay51 x0) (k1_pay49 x0) (k1_pay50 x0) 8#32 (k1_pay52 x0) 0#32)⟩]

/-- Its stores tile the buffer (checked by evaluation), so they cover it. -/
theorem cover1_3 (p0 : Vec F S720x128 .bf16) (p1 : Vec F S720x128 .bf16) (p2 : Vec F S720x128 .bf16) (p3 : Vec F S720x128 .bf16) (p4 : Vec F S720x128 .bf16) (p5 : Vec F S720x128 .bf16) (p6 : Vec F S720x128 .bf16) (p7 : Vec F S720x128 .bf16) (p8 : Vec F S720x128 .bf16) (p9 : Vec F S720x128 .bf16) (p10 : Vec F S720x128 .bf16) (p11 : Vec F S720x128 .bf16) (y : S720x1536.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S720x1536 .bf16)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S720x128.size (by rfl) y

/-- Window 4's staging buffer after the body, from the input windows' blocks: its 1 store as pieces, LAST
    FIRST (Lib/Pipeline/FrameBody.lean `View.canon`; the payloads are the skeleton's and the values stated above). -/
def out1_4 (x0 : Vec F S720x1536 .f32) : Vec F S1x1 .f32 :=
  View.canon [⟨r1_1, k1_pay4 (View.ld x0 r1_0)⟩]

/-- Its stores tile the buffer (checked by evaluation), so they cover it. -/
theorem cover1_4 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S720x1536 .f32) (harg0 : arg0.IsWhole) (arg1 : Memref sig .tc .vmem S720x1536 .f32) (harg1 : arg1.IsWhole) (arg2 : Memref sig .tc .vmem S720x180 .fp8e4m3) (harg2 : arg2.IsWhole) (arg3 : Memref sig .tc .vmem S720x1536 .bf16) (harg3 : arg3.IsWhole) (arg4 : Memref sig .tc .vmem S1x1 .f32) (harg4 : arg4.IsWhole)
    (x0 : Vec F S720x1536 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare (out1_1 x0) ∗ owns (c : Thread nD τ) arg2 fullShare (out1_2 x0) ∗ owns (c : Thread nD τ) arg3 fullShare (out1_3 x0) ∗ owns (c : Thread nD τ) arg4 fullShare (out1_4 x0)) -∗ K ⟨⟩))
      ⊢ wp frame (wpE (defs₀ (F := F)) Variants.none c none) E (cc1_scale_pass arg0 harg0 arg1 harg1 arg2 harg2 arg3 harg3 arg4 harg4) K := by
  simp only [cc1_scale_pass_eq_skeleton]; unfold cc1_scale_pass_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover1_1 _ _ _ _ _ _ _ _ _ _ _ _)).trans ?_
    rfl
  isplitl [H2]
  · iexists _; isplitr
    swap; · iexact H2
    ipureintro
    refine (View.read_writes_eq_canon _ _ _ (cover1_2 _)).trans ?_
    rfl
  isplitl [H3]
  · iexists _; isplitr
    swap; · iexact H3
    ipureintro
    refine (View.read_writes_eq_canon _ _ _ (cover1_3 _ _ _ _ _ _ _ _ _ _ _ _)).trans ?_
    rfl
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
    | ⟨3, _⟩ => out1_3 (iblk1 V c 0 t)
    | ⟨4, _⟩ => out1_4 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) := by dsimp only [dat1]
theorem after1_4 (c : Dev nD) (t : Fin cfg1.N) : (dat1 V c).after 4 t = out1_4 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.HandKernel.QuantFirst.lean ====
module

public import proofs.«01_k».proof.Proof.HandKernel.Tiles
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the quantising pass at the first point, run on any staging buffers: what it leaves in each of them. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point: the rotation matrix is built and kept in the scratch; the tile is quantised, packed and multiplied. -/
theorem sound2_A (c : Dev nD) (i : grid2.Coords) (arg1 : Memref sig .tc .smem S16 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S256x2880 .bf16) (harg4 : arg4.IsWhole) (arg5 : Memref sig .tc .vmem S16x1536 .f32) (harg5 : arg5.IsWhole) (arg6 : Memref sig .tc .vmem S16x1536 .bf16) (harg6 : arg6.IsWhole) (arg7 : Memref sig .tc .vmem S256x256 .bf16) (harg7 : arg7.IsWhole) (arg8 : Memref sig .tc .vmem S256x1440 .i8) (harg8 : arg8.IsWhole) (arg9 : Memref sig .tc .vmem S2880x128 .i8) (harg9 : arg9.IsWhole) (arg10 : Memref sig .tc .vmem S256x256 .bf16) (harg10 : arg10.IsWhole) (arg11 : Memref sig .tc .vmem S256x3072 .bf16) (harg11 : arg11.IsWhole)
    (x0 : Vec F S16 .f32) (x1 : Vec F S1 .f32) (x2 : Vec F S256x3072 .bf16) (x3 : Vec F S256x2880 .bf16) (x4 : Vec F S16x1536 .f32) (x5 : Vec F S16x1536 .bf16) (hc : (Scalar.cmpi .ne (Scalar.extui (Scalar.cmpi .eq (BitVec.ofNat 32 (i 0).val) 0#32)) 0#32 = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yTile (rotTile (signs x0)) x1 x2 x3 x4 x5) ∗ owns (c : Thread nD τ) arg8 fullShare (View.canon (ckPieces (rotTile (signs x0)) x3 x4)) ∗ owns (c : Thread nD τ) arg9 fullShare (View.canon (cnPieces (rotTile (signs x0)) x3 x4)) ∗ owns (c : Thread nD τ) arg10 fullShare (rotTile (signs x0)) ∗ (∃ d, owns (c : Thread nD τ) arg11 fullShare d)) -∗ K ⟨⟩))
      ⊢ wp frame (wpE (defs₀ (F := F)) Variants.none c none) E (cc2_quant_pass i arg1 harg1 arg2 harg2 arg3 harg3 arg4 harg4 arg5 harg5 arg6 harg6 arg7 harg7 arg8 harg8 arg9 harg9 arg10 harg10 arg11 harg11) K := by
  simp only [cc2_quant_pass_eq_skeleton]; unfold cc2_quant_pass_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, ⟨%dw, %fw, -, HW⟩, Hk⟩
  subst hf0; subst hf1; subst hf2; subst hf3; subst hf4; subst hf5
  sl_exec (disch := first | sl_exact hc)
  sl_step
  have hC : View.canon (sound2_A.sl.HS_1 c arg1 f0) = rotTile (signs (arg1.view.read (Elt F) f0)) := by
    unfold sound2_A.sl.HS_1
    refine (canon_whole off00 _ _).trans ?_
    sl_kernel_rfl
  have hR : sound2_A.sl.v10 c arg1 arg10 f0 = View.ld (rotTile (signs (arg1.view.read (Elt F) f0))) (Rect.unit (s := S256x256) ![0, 0] S256x256.size inb_S256x256_S256x256_0_0) :=
    (View.readCov_eq_canon_ld arg10.view (sound2_A.sl.HS_1 c arg1 f0) _ (View.cover_of_tiledL _ S256x256.size (by sl_kernel_rfl))).trans (by rw [hC])
  have hT : sound2_A.sl.v1275 c arg1 arg10 f0 = View.ld (rotTile (signs (arg1.view.read (Elt F) f0))) (Rect.unit (s := S256x256) ![0, 0] S64x256.size inb_S256x256_S64x256_0_0) :=
    (View.readCov_eq_canon_ld arg10.view (sound2_A.sl.HS_1 c arg1 f0) _ (View.cover_of_tiledL _ S256x256.size (by sl_kernel_rfl))).trans (by rw [hC])
  have hW : sound2_A.sl.v1387 c arg1 arg4 arg5 arg6 arg10 arg11 f0 f3 f4 f5 = View.ld (wdOf (rotTile (signs (arg1.view.read (Elt F) f0))) (arg4.view.read (Elt F) f3) (arg5.view.read (Elt F) f4) (arg6.view.read (Elt F) f5)) (Rect.unit (s := S256x3072) ![0, 0] S256x3072.size inb_S256x3072_S256x3072_0_0) := by
    refine (View.readCov_eq_canon_ld arg11.view _ _ (View.cover_of_tiledL _ S256x256.size (by sl_kernel_rfl))).trans ?_
    refine congrArg (fun z => View.ld z _) ?_
    unfold wdOf
    refine Eq.trans (b := View.canon (wdPiecesL (sound2_A.sl.v10 c arg1 arg10 f0) (sound2_A.sl.v1275 c arg1 arg10 f0) (arg4.view.read (Elt F) f3) (arg5.view.read (Elt F) f4) (arg6.view.read (Elt F) f5))) (by sl_kernel_rfl) ?_
    rw [hR, hT]; rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ ?_).trans ?_
    · exact View.cover_of_tiledL _ S256x256.size (by sl_kernel_rfl)
    refine (canon_whole off00 _ _).trans ?_
    rw [hW]
    rfl
  isplitl [H7]
  · iexists _; isplitr
    swap; · iexact H7
    ipureintro
    refine (View.read_writes_eq_canon _ _ _ ?_).trans ?_
    · exact View.cover_of_tiledBy _ ![256, 32] (by sl_kernel_rfl)
    refine Eq.trans (b := View.canon (ckPiecesL (sound2_A.sl.v10 c arg1 arg10 f0) (sound2_A.sl.v1275 c arg1 arg10 f0) (arg4.view.read (Elt F) f3) (arg5.view.read (Elt F) f4))) (by sl_kernel_rfl) ?_
    rw [hR, hT]; rfl
  isplitl [H8]
  · iexists _; isplitr
    swap; · iexact H8
    ipureintro
    refine (View.read_writes_eq_canon _ _ _ ?_).trans ?_
    · exact View.cover_of_tiledBy _ ![64, 128] (by sl_kernel_rfl)
    refine Eq.trans (b := View.canon (cnPiecesL (sound2_A.sl.v10 c arg1 arg10 f0) (sound2_A.sl.v1275 c arg1 arg10 f0) (arg4.view.read (Elt F) f3) (arg5.view.read (Elt F) f4))) (by sl_kernel_rfl) ?_
    rw [hR, hT]; rfl
  isplitl [HS]
  · iexists _; isplitr
    swap; · iexact HS
    ipureintro
    refine (View.read_writes_eq_canon _ _ _ ?_).trans hC
    exact View.cover_of_tiledL _ S256x256.size (by sl_kernel_rfl)
  iexists _; iexists _; isplitr
  swap; · iexact HW
  ipureintro; rfl

end Cert.Kernel.Hand

end
-- ==== Proof.HandKernel.QuantNext.lean ====
module

public import proofs.«01_k».proof.Proof.HandKernel.Tiles
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the quantising pass at a later point, run on any staging buffers: what it leaves in each of them. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A later point: the rotation matrix is read from the scratch; the tile is quantised, packed and multiplied. -/
theorem sound2_B (c : Dev nD) (i : grid2.Coords) (arg1 : Memref sig .tc .smem S16 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S256x2880 .bf16) (harg4 : arg4.IsWhole) (arg5 : Memref sig .tc .vmem S16x1536 .f32) (harg5 : arg5.IsWhole) (arg6 : Memref sig .tc .vmem S16x1536 .bf16) (harg6 : arg6.IsWhole) (arg7 : Memref sig .tc .vmem S256x256 .bf16) (harg7 : arg7.IsWhole) (arg8 : Memref sig .tc .vmem S256x1440 .i8) (harg8 : arg8.IsWhole) (arg9 : Memref sig .tc .vmem S2880x128 .i8) (harg9 : arg9.IsWhole) (arg10 : Memref sig .tc .vmem S256x256 .bf16) (harg10 : arg10.IsWhole) (arg11 : Memref sig .tc .vmem S256x3072 .bf16) (harg11 : arg11.IsWhole)
    (x0 : Vec F S16 .f32) (x1 : Vec F S1 .f32) (x2 : Vec F S256x3072 .bf16) (x3 : Vec F S256x2880 .bf16) (x4 : Vec F S16x1536 .f32) (x5 : Vec F S16x1536 .bf16) (R : Vec F S256x256 .bf16) (hc : ¬ (Scalar.cmpi .ne (Scalar.extui (Scalar.cmpi .eq (BitVec.ofNat 32 (i 0).val) 0#32)) 0#32 = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare R ∗ (∃ d, owns (c : Thread nD τ) arg11 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yTile R x1 x2 x3 x4 x5) ∗ owns (c : Thread nD τ) arg8 fullShare (View.canon (ckPieces R x3 x4)) ∗ owns (c : Thread nD τ) arg9 fullShare (View.canon (cnPieces R x3 x4)) ∗ owns (c : Thread nD τ) arg10 fullShare R ∗ (∃ d, owns (c : Thread nD τ) arg11 fullShare d)) -∗ K ⟨⟩))
      ⊢ wp frame (wpE (defs₀ (F := F)) Variants.none c none) E (cc2_quant_pass i arg1 harg1 arg2 harg2 arg3 harg3 arg4 harg4 arg5 harg5 arg6 harg6 arg7 harg7 arg8 harg8 arg9 harg9 arg10 harg10 arg11 harg11) K := by
  simp only [cc2_quant_pass_eq_skeleton]; unfold cc2_quant_pass_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%dw, %fw, -, HW⟩, Hk⟩
  subst hf0; subst hf1; subst hf2; subst hf3; subst hf4; subst hf5; subst hfs
  sl_exec (disch := first | sl_exact hc)
  sl_step
  have hW : sound2_B.sl.v1387 c arg4 arg5 arg6 arg10 arg11 f3 f4 f5 fs = View.ld (wdOf (arg10.view.read (Elt F) fs) (arg4.view.read (Elt F) f3) (arg5.view.read (Elt F) f4) (arg6.view.read (Elt F) f5)) (Rect.unit (s := S256x3072) ![0, 0] S256x3072.size inb_S256x3072_S256x3072_0_0) := by
    refine (View.readCov_eq_canon_ld arg11.view _ _ (View.cover_of_tiledL _ S256x256.size (by sl_kernel_rfl))).trans ?_
    refine congrArg (fun z => View.ld z _) ?_
    unfold wdOf
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ ?_).trans ?_
    · exact View.cover_of_tiledL _ S256x256.size (by sl_kernel_rfl)
    refine (canon_whole off00 _ _).trans ?_
    rw [hW]
    rfl
  isplitl [H7]
  · iexists _; isplitr
    swap; · iexact H7
    ipureintro
    refine (View.read_writes_eq_canon _ _ _ ?_).trans ?_
    · exact View.cover_of_tiledBy _ ![256, 32] (by sl_kernel_rfl)
    rfl
  isplitl [H8]
  · iexists _; isplitr
    swap; · iexact H8
    ipureintro
    refine (View.read_writes_eq_canon _ _ _ ?_).trans ?_
    · exact View.cover_of_tiledBy _ ![64, 128] (by sl_kernel_rfl)
    rfl
  isplitl [HS]
  · iexists fs; isplitr; · ipureintro; rfl
    iexact HS
  iexists _; iexists _; isplitr
  swap; · iexact HW
  ipureintro; rfl

end Cert.Kernel.Hand

end
-- ==== Proof.HandKernel.Region2.lean ====
module

public import proofs.«01_k».proof.Proof.HandKernel.QuantFirst
public import proofs.«01_k».proof.Proof.HandKernel.QuantNext
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The quantising pass as a pipelined region: what every staging buffer and the scratch hold around each point, and that the body keeps it so. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-- The block of window `w` at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of input 0 holds its block whenever the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 1 holds its block whenever the body runs. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 2 holds its block whenever the body runs. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 3 holds its block whenever the body runs. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 4 holds its block whenever the body runs. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 5 holds its block whenever the body runs. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging buffer at a point, and that it is whole. -/
abbrev ms2_0 (t : Fin cfg2.N) : Memref sig .tc .smem S16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x3072 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x2880 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x1536 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S16x1536 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x256 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256x1440 .i8 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2880x128 .i8 := win2_8.stage (cfg2.slots t 8)
abbrev hs2_8 (t : Fin cfg2.N) : (ms2_8 t).IsWhole := hstage2_8 ((cfg2.slots t 8).cast nbuf2_8)
/-- A scratch buffer of the kernel. -/
abbrev scM2_0 : Memref sig .tc .vmem S256x256 .bf16 := Memref.whole cc2_scratch0
/-- A scratch buffer of the kernel. -/
abbrev scM2_1 : Memref sig .tc .vmem S256x3072 .bf16 := Memref.whole cc2_scratch1

/-- The buffers beside the windows, with `S` in the place of the rotation matrix's scratch. -/
def Rest2 (c : Dev nD) (S : sProp 𝕄) : sProp 𝕄 :=
  iprop((∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ S ∗ (∃ d, owns (c : Thread nD τ) scM2_1 fullShare d) ∗ (∃ f : Buf (Elt F) ((c : Thread nD τ).loc cc0_stg0_0), ((c : Thread nD τ).loc cc0_stg0_0) ↦{fullShare} f))

/-- The invariant of the frame, its first scratch named. -/
theorem PhiA2_eq (c : Dev nD) :
    (Pipeline.ΦA spec2 c : sProp 𝕄) = iprop(Rest2 c iprop(∃ d, owns (c : Thread nD τ) scM2_0 fullShare d) ∗ (∃ r, prngReg c r)) := by
  unfold Pipeline.ΦA; rw [scopedRest2_eq]; unfold Rest2; simp only [scM2_0, scM2_1, owns_whole]; try rfl

/-- The first point. -/
def t0_2 : Fin cfg2.N := ⟨0, by rw [show cfg2.N = 45 from N_2]; decide⟩

theorem eq_t0_2 (t : Fin cfg2.N) (h : t.val = 0) : t = t0_2 := Fin.ext h

/-- The rotation matrix the scratch keeps: that of the signs found at the first point. -/
def rot2 (c : Dev nD) : Vec F S256x256 .bf16 := rotTile (signs (iblk2 V c 0 t0_2))

/-- The invariant: before the first point the scratch may hold anything; afterwards it holds the rotation matrix. -/
def Phi2 (c : Dev nD) (t : Fin (cfg2.N + 1)) : sProp 𝕄 :=
  if t.val = 0 then Pipeline.ΦA spec2 c else iprop(Rest2 c iprop(owns (c : Thread nD τ) scM2_0 fullShare (rot2 V c)) ∗ (∃ r, prngReg c r))

/-- What each window's buffer holds after the body at a point, and the invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => yTile (rot2 V c) (iblk2 V c 1 t) (iblk2 V c 2 t) (iblk2 V c 3 t) (iblk2 V c 4 t) (iblk2 V c 5 t)
    | ⟨7, _⟩ => View.canon (ckPieces (rot2 V c) (iblk2 V c 3 t) (iblk2 V c 4 t))
    | ⟨8, _⟩ => View.canon (cnPieces (rot2 V c) (iblk2 V c 3 t) (iblk2 V c 4 t))
  Φ t := Phi2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = yTile (rot2 V c) (iblk2 V c 1 t) (iblk2 V c 2 t) (iblk2 V c 3 t) (iblk2 V c 4 t) (iblk2 V c 5 t) := by dsimp only [dat2]
theorem after2_7 (c : Dev nD) (t : Fin cfg2.N) : (dat2 V c).after 7 t = View.canon (ckPieces (rot2 V c) (iblk2 V c 3 t) (iblk2 V c 4 t)) := by dsimp only [dat2]
theorem after2_8 (c : Dev nD) (t : Fin cfg2.N) : (dat2 V c).after 8 t = View.canon (cnPieces (rot2 V c) (iblk2 V c 3 t) (iblk2 V c 4 t)) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- The kernel's test for the first point. -/
theorem hcond2 (t : Fin cfg2.N) : (Scalar.cmpi .ne (Scalar.extui (Scalar.cmpi .eq (BitVec.ofNat 32 ((grid2.coords t) 0).val) 0#32)) 0#32 = 1#1) ↔ t.val = 0 := by
  have ht : t.val < 45 := Nat.lt_of_lt_of_eq t.isLt N_2
  have e0 : (grid2.coords t 0).val = t.val / 1 % 45 := Pipeline.Grid.coords_val t 0 (by decide) rfl
  have e1 : (grid2.coords t 0).val = t.val := by omega
  simp only [e1]
  generalize t.val = n at ht
  revert n
  decide +kernel

/-- What the body is called with at a point, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

theorem Phi2_succ (c : Dev nD) (t : Fin cfg2.N) : (dat2 V c).Φ t.succ = iprop(Rest2 c iprop(owns (c : Thread nD τ) scM2_0 fullShare (rot2 V c)) ∗ (∃ r, prngReg c r)) := by
  show Phi2 V c t.succ = _
  unfold Phi2
  rw [if_neg (by rw [Fin.val_succ]; exact Nat.succ_ne_zero _)]

theorem Phi2_zero (c : Dev nD) (t : Fin cfg2.N) (ht : t.val = 0) : (dat2 V c).Φ t.castSucc = Pipeline.ΦA spec2 c := by
  show Phi2 V c t.castSucc = _
  unfold Phi2
  rw [if_pos (by rw [Fin.val_castSucc]; exact ht)]

theorem Phi2_pos (c : Dev nD) (t : Fin cfg2.N) (ht : t.val ≠ 0) : (dat2 V c).Φ t.castSucc = iprop(Rest2 c iprop(owns (c : Thread nD τ) scM2_0 fullShare (rot2 V c)) ∗ (∃ r, prngReg c r)) := by
  show Phi2 V c t.castSucc = _
  unfold Phi2
  rw [if_neg (by rw [Fin.val_castSucc]; exact ht)]

set_option maxHeartbeats 2000000 in
/-- The body at the first point. -/
theorem sound_body2_first (c : Dev nD) (t : Fin cfg2.N) (ht : t.val = 0) :
    bodyPre2 V c t ⊢ wp frame (wpE (defs₀ (F := F)) Variants.none c none) Set.univ (bodyAt2 t) (fun _ => bodyPost2 V c t) := by
  have hr : rot2 V c = rotTile (signs (iblk2 V c 0 t)) := by rw [eq_t0_2 t ht]; rfl
  unfold bodyPre2 bodyPost2 bodyAt2
  simp only [before2_0, before2_1, before2_2, before2_3, before2_4, before2_5]
  rw [Phi2_succ, Phi2_zero V c t ht, show (dat2 V c).owesAt () t.succ = (dat2 V c).owesAt () t.castSucc from rfl, after2_0, after2_1, after2_2, after2_3, after2_4, after2_5, after2_6, after2_7, after2_8]
  rw [PhiA2_eq, hr]
  unfold Rest2
  iintro ⟨⟨⟨HR0, HR1, HR2, HR3, HR4, HR5, HR6, HR7, HR8, HR9, HR10, HR11, HS, HW, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) ((hcond2 t).mpr ht) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  isplitl [HW]; · iexact HW
  iintro ⟨H0, H1, H2, H3, H4, H5, H6, H7, H8, HS, HW⟩
  isplitl [HR0 HR1 HR2 HR3 HR4 HR5 HR6 HR7 HR8 HR9 HR10 HR11 HS HW HR14 Hg]
  · isplitl [HR0 HR1 HR2 HR3 HR4 HR5 HR6 HR7 HR8 HR9 HR10 HR11 HS HW HR14]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS]; · iexact HS
      isplitl [HW]; · iexact HW
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body at a later point. -/
theorem sound_body2_next (c : Dev nD) (t : Fin cfg2.N) (ht : t.val ≠ 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [Phi2_succ, Phi2_pos V c t ht, show (dat2 V c).owesAt () t.succ = (dat2 V c).owesAt () t.castSucc from rfl, after2_0, after2_1, after2_2, after2_3, after2_4, after2_5, after2_6, after2_7, after2_8]
  unfold Rest2
  iintro ⟨⟨⟨HR0, HR1, HR2, HR3, HR4, HR5, HR6, HR7, HR8, HR9, HR10, HR11, HS, HW, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) (rot2 V c) (fun h => ht ((hcond2 t).mp h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  isplitl [HW]; · iexact HW
  iintro ⟨H0, H1, H2, H3, H4, H5, H6, H7, H8, HS, HW⟩
  isplitl [HR0 HR1 HR2 HR3 HR4 HR5 HR6 HR7 HR8 HR9 HR10 HR11 HS HW HR14 Hg]
  · isplitl [HR0 HR1 HR2 HR3 HR4 HR5 HR6 HR7 HR8 HR9 HR10 HR11 HS HW HR14]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS]; · iexact HS
      isplitl [HW]; · iexact HW
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body2 (c : Dev nD) (t : Fin cfg2.N) :
    bodyPre2 V c t ⊢ wp frame (wpE (defs₀ (F := F)) Variants.none c none) Set.univ (bodyAt2 t) (fun _ => bodyPost2 V c t) := by
  by_cases ht : t.val = 0
  · exact sound_body2_first V c t ht
  · exact sound_body2_next V c t ht

theorem defs₀_row2 (t : Fin cfg2.N) :
    defs₀ (F := F) .tc cfg2.body (cfg2.bodyArgs t (cfg2.slots t)) = bodyAt2 t := by
  unfold defs₀; rw [Defs.onTc_tc]

/-- The body keeps the pipeline's invariant at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point nothing is asked of the scratch, -/
theorem hin2 (c : Dev nD) : (Pipeline.ΦA spec2 c : sProp 𝕄) ⊢ (dat2 V c).Φ 0 := by
  show _ ⊢ Phi2 V c 0
  unfold Phi2
  rw [if_pos (by rfl)]

/-- and after the last one its contents are forgotten. -/
theorem hout2 (c : Dev nD) : (dat2 V c).Φ (Fin.last cfg2.N) ⊢ (Pipeline.ΦA spec2 c : sProp 𝕄) := by
  show Phi2 V c (Fin.last cfg2.N) ⊢ _
  unfold Phi2
  rw [if_neg (by rw [Fin.val_last]; have : cfg2.N = 45 := N_2; omega), PhiA2_eq]
  unfold Rest2
  iintro ⟨⟨HR0, HR1, HR2, HR3, HR4, HR5, HR6, HR7, HR8, HR9, HR10, HR11, HS, HW, HR14⟩, Hg⟩
  isplitl [HR0 HR1 HR2 HR3 HR4 HR5 HR6 HR7 HR8 HR9 HR10 HR11 HS HW HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS]; · iexists _; iexact HS
    isplitl [HW]; · iexact HW
    iexact HR14
  iexact Hg

end Cert.Kernel.Hand

end
-- ==== Proof.HandKernel.Run.lean ====
module

public import proofs.«01_k».proof.Proof.HandKernel.Region0
public import proofs.«01_k».proof.Proof.HandKernel.Region1
public import proofs.«01_k».proof.Proof.HandKernel.Region2
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The whole program run: three regions among reshapes; every buffer's contents at every boundary, and what every buffer holds at the end. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every fair execution ends with every buffer at the last boundary's contents, and every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The arguments end as they were launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c)⟩, h.2⟩) (run_all m ρ)

/-- The five results end at the last boundary's contents. -/
theorem results : θ_run defs (onTc (τ := τ) (main (F := F))) ⟨m, fun _ => 0, ρ⟩ (fun r => (∀ c : Dev nD,
      r.2.mem ((c.tc : Thread nD τ).loc main_v5) = W6 m ρ c (Proc.devRef .tc main_v5)
      ∧       r.2.mem ((c.tc : Thread nD τ).loc main_v4_1) = W6 m ρ c (Proc.devRef .tc main_v4_1)
      ∧       r.2.mem ((c.tc : Thread nD τ).loc main_v4_2) = W6 m ρ c (Proc.devRef .tc main_v4_2)
      ∧       r.2.mem ((c.tc : Thread nD τ).loc main_v2_1) = W6 m ρ c (Proc.devRef .tc main_v2_1)
      ∧       r.2.mem ((c.tc : Thread nD τ).loc main_v3) = W6 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun r h c =>
      ⟨h.1 c _ (mem_uc main_v5 (by decide)), h.1 c _ (mem_uc main_v4_1 (by decide)), h.1 c _ (mem_uc main_v4_2 (by decide)), h.1 c _ (mem_uc main_v2_1 (by decide)), h.1 c _ (mem_uc main_v3 (by decide)),
       (h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c)⟩) (run_all m ρ)

end Cert.Kernel.Hand

end
-- ==== Proof.HandKernelIdeal.Tiles.lean ====
module

public import proofs.«01_k».proof.Proof.Gen.KernelIdeal.Skeleton
public import Idealize.ShloMosaic.Lib.Pipeline.FrameBody
public import Idealize.ShloMosaic.Lib.Tactic
public import Idealize.ShloMosaic.Lib.Pipeline.Value

/-! The pure steps of the kernel, one definition per step: the rotation matrix, the block maxima of one column tile,
and the quantiser of one column tile (values, codes, packed codes, scaled values). -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The lane of a column inside its half of the tile: the column modulo 128. -/
def rotLane : IVec S256x256 32 :=
  have v196 : IVec S256x256 32 := iota .tc S256x256 32 [1] iota_S256x256_d1_w32
  have c128_i32 : BitVec 32 := 128#32
  have c0_i32_111 : BitVec 32 := 0#32
  have v197 : BitVec 1 := Scalar.cmpi .eq c128_i32 c0_i32_111
  have c1_i32_112 : BitVec 32 := 1#32
  have v198 : BitVec 32 := Scalar.select v197 c1_i32_112 c128_i32
  have v199 : IVec S256x256 32 := broadcast S256x256 v198
  have v200 : IVec S256x256 32 := remsi v196 v199
  have c0_i32_113 : BitVec 32 := 0#32
  have v201 : IVec S256x256 32 := broadcast S256x256 c0_i32_113
  have v202 : IVec S256x256 1 := cmpi .ne v200 v201
  have c0_i32_114 : BitVec 32 := 0#32
  have v203 : IVec S256x256 32 := broadcast S256x256 c0_i32_114
  have v204 : IVec S256x256 1 := cmpi .slt v200 v203
  have c0_i32_115 : BitVec 32 := 0#32
  have v205 : BitVec 1 := Scalar.cmpi .slt v198 c0_i32_115
  have v206 : IVec S256x256 1 := broadcast S256x256 v205
  have v207 : IVec S256x256 1 := broadcastTo S256x256 v206 broadcasts_S256x256_S256x256
  have v208 : IVec S256x256 1 := xori v204 v207
  have v209 : IVec S256x256 1 := andi v208 v202
  have v210 : IVec S256x256 32 := broadcast S256x256 v198
  have v211 : IVec S256x256 32 := addi v200 v210
  have v212 : IVec S256x256 32 := select v209 v211 v200
  v212

/-- The row inside its block of 16. -/
def rotI : IVec S256x256 32 :=
  have v195 : IVec S256x256 32 := iota .tc S256x256 32 [0] iota_S256x256_d0_w32
  have c16_i32 : BitVec 32 := 16#32
  have c0_i32_116 : BitVec 32 := 0#32
  have v213 : BitVec 1 := Scalar.cmpi .eq c16_i32 c0_i32_116
  have c1_i32_117 : BitVec 32 := 1#32
  have v214 : BitVec 32 := Scalar.select v213 c1_i32_117 c16_i32
  have v215 : IVec S256x256 32 := broadcast S256x256 v214
  have v216 : IVec S256x256 32 := remsi v195 v215
  have c0_i32_118 : BitVec 32 := 0#32
  have v217 : IVec S256x256 32 := broadcast S256x256 c0_i32_118
  have v218 : IVec S256x256 1 := cmpi .ne v216 v217
  have c0_i32_119 : BitVec 32 := 0#32
  have v219 : IVec S256x256 32 := broadcast S256x256 c0_i32_119
  have v220 : IVec S256x256 1 := cmpi .slt v216 v219
  have c0_i32_120 : BitVec 32 := 0#32
  have v221 : BitVec 1 := Scalar.cmpi .slt v214 c0_i32_120
  have v222 : IVec S256x256 1 := broadcast S256x256 v221
  have v223 : IVec S256x256 1 := broadcastTo S256x256 v222 broadcasts_S256x256_S256x256
  have v224 : IVec S256x256 1 := xori v220 v223
  have v225 : IVec S256x256 1 := andi v224 v218
  have v226 : IVec S256x256 32 := broadcast S256x256 v214
  have v227 : IVec S256x256 32 := addi v216 v226
  have v228 : IVec S256x256 32 := select v225 v227 v216
  v228

/-- The original column inside its block of 16. -/
def rotJ : IVec S256x256 32 :=
  have v196 : IVec S256x256 32 := iota .tc S256x256 32 [1] iota_S256x256_d1_w32
  have c8_i32 : BitVec 32 := 8#32
  have c0_i32_121 : BitVec 32 := 0#32
  have v229 : BitVec 1 := Scalar.cmpi .eq c8_i32 c0_i32_121
  have c1_i32_122 : BitVec 32 := 1#32
  have v230 : BitVec 32 := Scalar.select v229 c1_i32_122 c8_i32
  have v231 : IVec S256x256 32 := broadcast S256x256 v230
  have v232 : IVec S256x256 32 := remsi rotLane v231
  have c0_i32_123 : BitVec 32 := 0#32
  have v233 : IVec S256x256 32 := broadcast S256x256 c0_i32_123
  have v234 : IVec S256x256 1 := cmpi .ne v232 v233
  have c0_i32_124 : BitVec 32 := 0#32
  have v235 : IVec S256x256 32 := broadcast S256x256 c0_i32_124
  have v236 : IVec S256x256 1 := cmpi .slt v232 v235
  have c0_i32_125 : BitVec 32 := 0#32
  have v237 : BitVec 1 := Scalar.cmpi .slt v230 c0_i32_125
  have v238 : IVec S256x256 1 := broadcast S256x256 v237
  have v239 : IVec S256x256 1 := broadcastTo S256x256 v238 broadcasts_S256x256_S256x256
  have v240 : IVec S256x256 1 := xori v236 v239
  have v241 : IVec S256x256 1 := andi v240 v234
  have v242 : IVec S256x256 32 := broadcast S256x256 v230
  have v243 : IVec S256x256 32 := addi v232 v242
  have v244 : IVec S256x256 32 := select v241 v243 v232
  have c2_i32_126 : BitVec 32 := 2#32
  have v245 : IVec S256x256 32 := broadcast S256x256 c2_i32_126
  have v246 : IVec S256x256 32 := muli v245 v244
  have c128_i32_127 : BitVec 32 := 128#32
  have v247 : IVec S256x256 32 := broadcast S256x256 c128_i32_127
  have v248 : IVec S256x256 32 := divsi v196 v247
  have c0_i32_128 : BitVec 32 := 0#32
  have v249 : IVec S256x256 32 := broadcast S256x256 c0_i32_128
  have v250 : IVec S256x256 1 := cmpi .sgt v196 v249
  have v251 : IVec S256x256 32 := extui 32 v250 natLt_1_32
  have c0_i32_129 : BitVec 32 := 0#32
  have v252 : IVec S256x256 32 := broadcast S256x256 c0_i32_129
  have v253 : IVec S256x256 1 := cmpi .slt v196 v252
  have v254 : IVec S256x256 32 := extui 32 v253 natLt_1_32
  have v255 : IVec S256x256 32 := subi v251 v254
  have c0_i32_130 : BitVec 32 := 0#32
  have v256 : BitVec 1 := Scalar.cmpi .sgt c128_i32_127 c0_i32_130
  have v257 : BitVec 32 := Scalar.extui v256
  have c0_i32_131 : BitVec 32 := 0#32
  have v258 : BitVec 1 := Scalar.cmpi .slt c128_i32_127 c0_i32_131
  have v259 : BitVec 32 := Scalar.extui v258
  have v260 : BitVec 32 := Scalar.subi v257 v259
  have v261 : IVec S256x256 32 := broadcast S256x256 v260
  have v262 : IVec S256x256 1 := cmpi .ne v255 v261
  have v263 : IVec S256x256 32 := broadcast S256x256 c128_i32_127
  have v264 : IVec S256x256 32 := remsi v196 v263
  have c0_i32_132 : BitVec 32 := 0#32
  have v265 : IVec S256x256 32 := broadcast S256x256 c0_i32_132
  have v266 : IVec S256x256 1 := cmpi .ne v264 v265
  have v267 : IVec S256x256 1 := andi v262 v266
  have c1_i32_133 : BitVec 32 := 1#32
  have v268 : IVec S256x256 32 := broadcast S256x256 c1_i32_133
  have v269 : IVec S256x256 32 := subi v248 v268
  have v270 : IVec S256x256 32 := select v267 v269 v248
  have v271 : IVec S256x256 32 := addi v246 v270
  v271

/-- Whether row and column belong to the same block of 16. -/
def rotSame : IVec S256x256 1 :=
  have v195 : IVec S256x256 32 := iota .tc S256x256 32 [0] iota_S256x256_d0_w32
  have c16_i32_134 : BitVec 32 := 16#32
  have v272 : IVec S256x256 32 := broadcast S256x256 c16_i32_134
  have v273 : IVec S256x256 32 := divsi v195 v272
  have c0_i32_135 : BitVec 32 := 0#32
  have v274 : IVec S256x256 32 := broadcast S256x256 c0_i32_135
  have v275 : IVec S256x256 1 := cmpi .sgt v195 v274
  have v276 : IVec S256x256 32 := extui 32 v275 natLt_1_32
  have c0_i32_136 : BitVec 32 := 0#32
  have v277 : IVec S256x256 32 := broadcast S256x256 c0_i32_136
  have v278 : IVec S256x256 1 := cmpi .slt v195 v277
  have v279 : IVec S256x256 32 := extui 32 v278 natLt_1_32
  have v280 : IVec S256x256 32 := subi v276 v279
  have c0_i32_137 : BitVec 32 := 0#32
  have v281 : BitVec 1 := Scalar.cmpi .sgt c16_i32_134 c0_i32_137
  have v282 : BitVec 32 := Scalar.extui v281
  have c0_i32_138 : BitVec 32 := 0#32
  have v283 : BitVec 1 := Scalar.cmpi .slt c16_i32_134 c0_i32_138
  have v284 : BitVec 32 := Scalar.extui v283
  have v285 : BitVec 32 := Scalar.subi v282 v284
  have v286 : IVec S256x256 32 := broadcast S256x256 v285
  have v287 : IVec S256x256 1 := cmpi .ne v280 v286
  have v288 : IVec S256x256 32 := broadcast S256x256 c16_i32_134
  have v289 : IVec S256x256 32 := remsi v195 v288
  have c0_i32_139 : BitVec 32 := 0#32
  have v290 : IVec S256x256 32 := broadcast S256x256 c0_i32_139
  have v291 : IVec S256x256 1 := cmpi .ne v289 v290
  have v292 : IVec S256x256 1 := andi v287 v291
  have c1_i32_140 : BitVec 32 := 1#32
  have v293 : IVec S256x256 32 := broadcast S256x256 c1_i32_140
  have v294 : IVec S256x256 32 := subi v273 v293
  have v295 : IVec S256x256 32 := select v292 v294 v273
  have c8_i32_141 : BitVec 32 := 8#32
  have v296 : IVec S256x256 32 := broadcast S256x256 c8_i32_141
  have v297 : IVec S256x256 32 := divsi rotLane v296
  have c0_i32_142 : BitVec 32 := 0#32
  have v298 : IVec S256x256 32 := broadcast S256x256 c0_i32_142
  have v299 : IVec S256x256 1 := cmpi .sgt rotLane v298
  have v300 : IVec S256x256 32 := extui 32 v299 natLt_1_32
  have c0_i32_143 : BitVec 32 := 0#32
  have v301 : IVec S256x256 32 := broadcast S256x256 c0_i32_143
  have v302 : IVec S256x256 1 := cmpi .slt rotLane v301
  have v303 : IVec S256x256 32 := extui 32 v302 natLt_1_32
  have v304 : IVec S256x256 32 := subi v300 v303
  have c0_i32_144 : BitVec 32 := 0#32
  have v305 : BitVec 1 := Scalar.cmpi .sgt c8_i32_141 c0_i32_144
  have v306 : BitVec 32 := Scalar.extui v305
  have c0_i32_145 : BitVec 32 := 0#32
  have v307 : BitVec 1 := Scalar.cmpi .slt c8_i32_141 c0_i32_145
  have v308 : BitVec 32 := Scalar.extui v307
  have v309 : BitVec 32 := Scalar.subi v306 v308
  have v310 : IVec S256x256 32 := broadcast S256x256 v309
  have v311 : IVec S256x256 1 := cmpi .ne v304 v310
  have v312 : IVec S256x256 32 := broadcast S256x256 c8_i32_141
  have v313 : IVec S256x256 32 := remsi rotLane v312
  have c0_i32_146 : BitVec 32 := 0#32
  have v314 : IVec S256x256 32 := broadcast S256x256 c0_i32_146
  have v315 : IVec S256x256 1 := cmpi .ne v313 v314
  have v316 : IVec S256x256 1 := andi v311 v315
  have c1_i32_147 : BitVec 32 := 1#32
  have v317 : IVec S256x256 32 := broadcast S256x256 c1_i32_147
  have v318 : IVec S256x256 32 := subi v297 v317
  have v319 : IVec S256x256 32 := select v316 v318 v297
  have v320 : IVec S256x256 1 := cmpi .eq v295 v319
  v320

/-- Whether the bits shared by row and column are even in number. -/
def rotEven : IVec S256x256 1 :=
  have v321 : IVec S256x256 32 := andi rotI rotJ
  have c2_i32_148 : BitVec 32 := 2#32
  have v322 : IVec S256x256 32 := broadcast S256x256 c2_i32_148
  have v323 : IVec S256x256 32 := shrsi v321 v322
  have v324 : IVec S256x256 32 := xori v321 v323
  have c1_i32_149 : BitVec 32 := 1#32
  have v325 : IVec S256x256 32 := broadcast S256x256 c1_i32_149
  have v326 : IVec S256x256 32 := shrsi v324 v325
  have v327 : IVec S256x256 32 := xori v324 v326
  have c1_i32_157 : BitVec 32 := 1#32
  have v409 : IVec S256x256 32 := broadcast S256x256 c1_i32_157
  have v410 : IVec S256x256 32 := andi v327 v409
  have c0_i32_158 : BitVec 32 := 0#32
  have v411 : IVec S256x256 32 := broadcast S256x256 c0_i32_158
  have v412 : IVec S256x256 1 := cmpi .eq v410 v411
  v412

/-- The sign of the row, chosen among the sixteen. -/
def rotSign (g : Fin 16 → F .f32) : FVec F S256x256 .f32 :=
  have cst_150 : F .f32 := Scalar.ofBits .f32 0x00000000#32
  have v328 : FVec F S256x256 .f32 := broadcast S256x256 cst_150
  have c0_i32_151 : BitVec 32 := 0#32
  have v329 : IVec S256x256 32 := broadcast S256x256 c0_i32_151
  have v330 : IVec S256x256 1 := cmpi .eq rotI v329
  have v332 : FVec F S256x256 .f32 := broadcast S256x256 (g 0)
  have v333 : FVec F S256x256 .f32 := select v330 v332 v328
  have c1_i32_153 : BitVec 32 := 1#32
  have v334 : IVec S256x256 32 := broadcast S256x256 c1_i32_153
  have v335 : IVec S256x256 1 := cmpi .eq rotI v334
  have v337 : FVec F S256x256 .f32 := broadcast S256x256 (g 1)
  have v338 : FVec F S256x256 .f32 := select v335 v337 v333
  have c2_i32_154 : BitVec 32 := 2#32
  have v339 : IVec S256x256 32 := broadcast S256x256 c2_i32_154
  have v340 : IVec S256x256 1 := cmpi .eq rotI v339
  have v342 : FVec F S256x256 .f32 := broadcast S256x256 (g 2)
  have v343 : FVec F S256x256 .f32 := select v340 v342 v338
  have c3_i32 : BitVec 32 := 3#32
  have v344 : IVec S256x256 32 := broadcast S256x256 c3_i32
  have v345 : IVec S256x256 1 := cmpi .eq rotI v344
  have v347 : FVec F S256x256 .f32 := broadcast S256x256 (g 3)
  have v348 : FVec F S256x256 .f32 := select v345 v347 v343
  have c4_i32_155 : BitVec 32 := 4#32
  have v349 : IVec S256x256 32 := broadcast S256x256 c4_i32_155
  have v350 : IVec S256x256 1 := cmpi .eq rotI v349
  have v352 : FVec F S256x256 .f32 := broadcast S256x256 (g 4)
  have v353 : FVec F S256x256 .f32 := select v350 v352 v348
  have c5_i32 : BitVec 32 := 5#32
  have v354 : IVec S256x256 32 := broadcast S256x256 c5_i32
  have v355 : IVec S256x256 1 := cmpi .eq rotI v354
  have v357 : FVec F S256x256 .f32 := broadcast S256x256 (g 5)
  have v358 : FVec F S256x256 .f32 := select v355 v357 v353
  have c6_i32 : BitVec 32 := 6#32
  have v359 : IVec S256x256 32 := broadcast S256x256 c6_i32
  have v360 : IVec S256x256 1 := cmpi .eq rotI v359
  have v362 : FVec F S256x256 .f32 := broadcast S256x256 (g 6)
  have v363 : FVec F S256x256 .f32 := select v360 v362 v358
  have c7_i32 : BitVec 32 := 7#32
  have v364 : IVec S256x256 32 := broadcast S256x256 c7_i32
  have v365 : IVec S256x256 1 := cmpi .eq rotI v364
  have v367 : FVec F S256x256 .f32 := broadcast S256x256 (g 7)
  have v368 : FVec F S256x256 .f32 := select v365 v367 v363
  have c8_i32_156 : BitVec 32 := 8#32
  have v369 : IVec S256x256 32 := broadcast S256x256 c8_i32_156
  have v370 : IVec S256x256 1 := cmpi .eq rotI v369
  have v372 : FVec F S256x256 .f32 := broadcast S256x256 (g 8)
  have v373 : FVec F S256x256 .f32 := select v370 v372 v368
  have c9_i32 : BitVec 32 := 9#32
  have v374 : IVec S256x256 32 := broadcast S256x256 c9_i32
  have v375 : IVec S256x256 1 := cmpi .eq rotI v374
  have v377 : FVec F S256x256 .f32 := broadcast S256x256 (g 9)
  have v378 : FVec F S256x256 .f32 := select v375 v377 v373
  have c10_i32 : BitVec 32 := 10#32
  have v379 : IVec S256x256 32 := broadcast S256x256 c10_i32
  have v380 : IVec S256x256 1 := cmpi .eq rotI v379
  have v382 : FVec F S256x256 .f32 := broadcast S256x256 (g 10)
  have v383 : FVec F S256x256 .f32 := select v380 v382 v378
  have c11_i32 : BitVec 32 := 11#32
  have v384 : IVec S256x256 32 := broadcast S256x256 c11_i32
  have v385 : IVec S256x256 1 := cmpi .eq rotI v384
  have v387 : FVec F S256x256 .f32 := broadcast S256x256 (g 11)
  have v388 : FVec F S256x256 .f32 := select v385 v387 v383
  have c12_i32 : BitVec 32 := 12#32
  have v389 : IVec S256x256 32 := broadcast S256x256 c12_i32
  have v390 : IVec S256x256 1 := cmpi .eq rotI v389
  have v392 : FVec F S256x256 .f32 := broadcast S256x256 (g 12)
  have v393 : FVec F S256x256 .f32 := select v390 v392 v388
  have c13_i32 : BitVec 32 := 13#32
  have v394 : IVec S256x256 32 := broadcast S256x256 c13_i32
  have v395 : IVec S256x256 1 := cmpi .eq rotI v394
  have v397 : FVec F S256x256 .f32 := broadcast S256x256 (g 13)
  have v398 : FVec F S256x256 .f32 := select v395 v397 v393
  have c14_i32 : BitVec 32 := 14#32
  have v399 : IVec S256x256 32 := broadcast S256x256 c14_i32
  have v400 : IVec S256x256 1 := cmpi .eq rotI v399
  have v402 : FVec F S256x256 .f32 := broadcast S256x256 (g 14)
  have v403 : FVec F S256x256 .f32 := select v400 v402 v398
  have c15_i32 : BitVec 32 := 15#32
  have v404 : IVec S256x256 32 := broadcast S256x256 c15_i32
  have v405 : IVec S256x256 1 := cmpi .eq rotI v404
  have v407 : FVec F S256x256 .f32 := broadcast S256x256 (g 15)
  have v408 : FVec F S256x256 .f32 := select v405 v407 v403
  v408

/-- The rotation matrix of a whole column tile: sixteen by sixteen blocks, columns permuted, zero off the blocks. -/
def rotTile (g : Fin 16 → F .f32) : FVec F S256x256 .bf16 :=
  have cst_159 : F .f32 := Scalar.ofBits .f32 0x3E800000#32
  have cst_160 : F .f32 := Scalar.ofBits .f32 0xBE800000#32
  have v413 : FVec F S256x256 .f32 := broadcast S256x256 cst_159
  have v414 : FVec F S256x256 .f32 := broadcast S256x256 cst_160
  have v415 : FVec F S256x256 .f32 := select rotEven v413 v414
  have v416 : FVec F S256x256 .f32 := mulf v415 (rotSign g)
  have cst_161 : F .f32 := Scalar.ofBits .f32 0x00000000#32
  have v417 : FVec F S256x256 .f32 := broadcast S256x256 cst_161
  have v418 : FVec F S256x256 .f32 := select rotSame v416 v417
  have v419 : FVec F S256x256 .bf16 := truncf .bf16 v418 bitsLt_bf16_f32
  have v422 : FVec F S256x256 .bf16 := shapeCast S256x256 v419 shapeCasts_S256x256_S256x256
  v422

/-- One column tile of the rotated activations. -/
def xpTile (a : Vec F S256x256 .bf16) (R : Vec F S256x256 .bf16) : FVec F S256x256 .bf16 :=
  truncf .bf16 (matmul dot_S256x256_S256x256_S256x256_1_0_0_1_n_n none (shapeCast S256x256 a shapeCasts_S256x256_S256x256) R (constant S256x256 .f32 0x00000000#32)) bitsLt_bf16_f32

/-- The last, 64 columns wide, column tile of the rotated activations. -/
def xpTail (a : Vec F S256x64 .bf16) (R : Vec F S64x256 .bf16) : FVec F S256x256 .bf16 :=
  truncf .bf16 (matmul dot_S256x64_S64x256_S256x256_1_0_0_1_n_n none (shapeCast S256x64 a shapeCasts_S256x64_S256x64) R (constant S256x256 .f32 0x00000000#32)) bitsLt_bf16_f32

/-- The block maxima of one rotated column tile: lane `8 b + 7` holds the maximum over block `b`. -/
def amaxOf (v5 : FVec F S256x256 .f32) : FVec F S16x128 .f32 :=
  have v6 : FVec F S256x256 .f32 := absf v5
  have v7 : FVec F S256x128 .f32 := extractStridedSlice S256x128 ![0, 0] v6 slices_S256x256_o0_0_S256x128
  have v8 : FVec F S256x128 .f32 := extractStridedSlice S256x128 ![0, 128] v6 slices_S256x256_o0_128_S256x128
  have v9 : FVec F S256x128 .f32 := maximumf v7 v8
  have v10 : FVec F S16x16x128 .f32 := shapeCast S16x16x128 v9 shapeCasts_S256x128_S16x16x128
  have v11 : FVec F S16x128 .f32 := multiReduction .maximumf [1] S16x128 v10 0xFF800000#32 reduces_S16x16x128_S16x128 (.inl rfl) rfl
  have c1_i32 : BitVec 32 := 1#32
  have v12 : FVec F S16x128 .f32 := dynamicRotate 1 c1_i32 none v11 rotates_S16x128_d1
  have v13 : FVec F S16x128 .f32 := maximumf v11 v12
  have c2_i32 : BitVec 32 := 2#32
  have v14 : FVec F S16x128 .f32 := dynamicRotate 1 c2_i32 none v13 rotates_S16x128_d1
  have v15 : FVec F S16x128 .f32 := maximumf v13 v14
  have c4_i32 : BitVec 32 := 4#32
  have v16 : FVec F S16x128 .f32 := dynamicRotate 1 c4_i32 none v15 rotates_S16x128_d1
  have v17 : FVec F S16x128 .f32 := maximumf v15 v16
  v17

/-- The block maxima of one column tile of the weights. -/
def amaxTile (a : Vec F S256x256 .bf16) (R : Vec F S256x256 .bf16) : FVec F S16x128 .f32 :=
  amaxOf (matmul dot_S256x256_S256x256_S256x256_1_0_0_1_n_n none a R (constant S256x256 .f32 0x00000000#32))

/-- The block maxima of the last column tile of the weights. -/
def amaxTail (a : Vec F S256x64 .bf16) (R : Vec F S64x256 .bf16) : FVec F S16x128 .f32 :=
  amaxOf (matmul dot_S256x64_S64x256_S256x256_1_0_0_1_n_n none a R (constant S256x256 .f32 0x00000000#32))

/-- The rotated tile times the inverse scale of its block, clipped to [-6, 6]. -/
def quantV (v3 : Vec F S16x128 .f32) (v11 : FVec F S256x256 .f32) : FVec F S256x256 .f32 :=
  have v4 : FVec F S16x128 .f32 := shapeCast S16x128 v3 shapeCasts_S16x128_S16x128
  have v5 : FVec F S16x1x128 .f32 := shapeCast S16x1x128 v4 shapeCasts_S16x128_S16x1x128
  have v6 : FVec F S16x1x128 .f32 := shapeCast S16x1x128 v5 shapeCasts_S16x1x128_S16x1x128
  have v7 : FVec F S16x16x128 .f32 := broadcastTo S16x16x128 v6 broadcasts_S16x1x128_S16x16x128
  have v8 : FVec F S256x128 .f32 := shapeCast S256x128 v7 shapeCasts_S16x16x128_S256x128
  have v12 : FVec F S256x256 .f32 := concatenate S256x256 1 [⟨S256x128, v8⟩, ⟨S256x128, v8⟩] concatenates_S256x128_S256x128_S256x256_d1
  have v13 : FVec F S256x256 .f32 := mulf v11 v12
  have cst_6 : F .f32 := Scalar.ofBits .f32 0xC0C00000#32
  have cst_7 : F .f32 := Scalar.ofBits .f32 0x40C00000#32
  have v14 : FVec F S256x256 .f32 := broadcast S256x256 cst_6
  have v15 : FVec F S256x256 .f32 := maximumf v14 v13
  have v16 : FVec F S256x256 .f32 := broadcast S256x256 cst_7
  have v17 : FVec F S256x256 .f32 := minimumf v16 v15
  have cst_8 : F .f32 := Scalar.ofBits .f32 0x00000000#32
  have v18 : FVec F S256x256 .f32 := broadcast S256x256 cst_8
  have v19 : FVec F S256x256 .f32 := addf v17 v18
  v19

/-- The nearest four-bit value, by thresholds. -/
def quantQ (v19 : FVec F S256x256 .f32) : FVec F S256x256 .f32 :=
  have v20 : FVec F S256x256 .f32 := absf v19
  have cst_9 : F .f32 := Scalar.ofBits .f32 0x00000000#32
  have v21 : FVec F S256x256 .f32 := broadcast S256x256 cst_9
  have cst_11 : F .f32 := Scalar.ofBits .f32 0x3E800000#32
  have v23 : FVec F S256x256 .f32 := broadcast S256x256 cst_11
  have v24 : IVec S256x256 1 := cmpf .ogt v20 v23
  have cst_12 : F .f32 := Scalar.ofBits .f32 0x3F400000#32
  have v25 : FVec F S256x256 .f32 := broadcast S256x256 cst_12
  have v26 : IVec S256x256 1 := cmpf .oge v20 v25
  have cst_13 : F .f32 := Scalar.ofBits .f32 0x3FA00000#32
  have v27 : FVec F S256x256 .f32 := broadcast S256x256 cst_13
  have v28 : IVec S256x256 1 := cmpf .ogt v20 v27
  have cst_14 : F .f32 := Scalar.ofBits .f32 0x3FE00000#32
  have v29 : FVec F S256x256 .f32 := broadcast S256x256 cst_14
  have v30 : IVec S256x256 1 := cmpf .oge v20 v29
  have cst_15 : F .f32 := Scalar.ofBits .f32 0x40200000#32
  have v31 : FVec F S256x256 .f32 := broadcast S256x256 cst_15
  have v32 : IVec S256x256 1 := cmpf .ogt v20 v31
  have cst_16 : F .f32 := Scalar.ofBits .f32 0x40600000#32
  have v33 : FVec F S256x256 .f32 := broadcast S256x256 cst_16
  have v34 : IVec S256x256 1 := cmpf .oge v20 v33
  have cst_17 : F .f32 := Scalar.ofBits .f32 0x40A00000#32
  have v35 : FVec F S256x256 .f32 := broadcast S256x256 cst_17
  have v36 : IVec S256x256 1 := cmpf .ogt v20 v35
  have cst_18 : F .f32 := Scalar.ofBits .f32 0x3F000000#32
  have v37 : FVec F S256x256 .f32 := broadcast S256x256 cst_18
  have v38 : FVec F S256x256 .f32 := select v24 v37 v21
  have cst_19 : F .f32 := Scalar.ofBits .f32 0x3F800000#32
  have v41 : FVec F S256x256 .f32 := broadcast S256x256 cst_19
  have v42 : FVec F S256x256 .f32 := select v26 v41 v38
  have cst_20 : F .f32 := Scalar.ofBits .f32 0x3FC00000#32
  have v45 : FVec F S256x256 .f32 := broadcast S256x256 cst_20
  have v46 : FVec F S256x256 .f32 := select v28 v45 v42
  have cst_21 : F .f32 := Scalar.ofBits .f32 0x40000000#32
  have v49 : FVec F S256x256 .f32 := broadcast S256x256 cst_21
  have v50 : FVec F S256x256 .f32 := select v30 v49 v46
  have cst_22 : F .f32 := Scalar.ofBits .f32 0x40400000#32
  have v53 : FVec F S256x256 .f32 := broadcast S256x256 cst_22
  have v54 : FVec F S256x256 .f32 := select v32 v53 v50
  have cst_23 : F .f32 := Scalar.ofBits .f32 0x40800000#32
  have v57 : FVec F S256x256 .f32 := broadcast S256x256 cst_23
  have v58 : FVec F S256x256 .f32 := select v34 v57 v54
  have cst_24 : F .f32 := Scalar.ofBits .f32 0x40C00000#32
  have v61 : FVec F S256x256 .f32 := broadcast S256x256 cst_24
  have v62 : FVec F S256x256 .f32 := select v36 v61 v58
  have cst_25 : F .f32 := Scalar.ofBits .f32 0x00000000#32
  have v65 : FVec F S256x256 .f32 := broadcast S256x256 cst_25
  have v66 : IVec S256x256 1 := cmpf .olt v19 v65
  have cst_26 : F .f32 := Scalar.ofBits .f32 0x00000000#32
  have v67 : FVec F S256x256 .f32 := broadcast S256x256 cst_26
  have v68 : FVec F S256x256 .f32 := subf v67 v62
  have v69 : FVec F S256x256 .f32 := select v66 v68 v62
  v69

/-- The four-bit code of the nearest value, by thresholds. -/
def quantC (v19 : FVec F S256x256 .f32) : IVec S256x256 8 :=
  have v20 : FVec F S256x256 .f32 := absf v19
  have c0_i32_10 : BitVec 32 := 0#32
  have v22 : IVec S256x256 32 := broadcast S256x256 c0_i32_10
  have cst_11 : F .f32 := Scalar.ofBits .f32 0x3E800000#32
  have v23 : FVec F S256x256 .f32 := broadcast S256x256 cst_11
  have v24 : IVec S256x256 1 := cmpf .ogt v20 v23
  have cst_12 : F .f32 := Scalar.ofBits .f32 0x3F400000#32
  have v25 : FVec F S256x256 .f32 := broadcast S256x256 cst_12
  have v26 : IVec S256x256 1 := cmpf .oge v20 v25
  have cst_13 : F .f32 := Scalar.ofBits .f32 0x3FA00000#32
  have v27 : FVec F S256x256 .f32 := broadcast S256x256 cst_13
  have v28 : IVec S256x256 1 := cmpf .ogt v20 v27
  have cst_14 : F .f32 := Scalar.ofBits .f32 0x3FE00000#32
  have v29 : FVec F S256x256 .f32 := broadcast S256x256 cst_14
  have v30 : IVec S256x256 1 := cmpf .oge v20 v29
  have cst_15 : F .f32 := Scalar.ofBits .f32 0x40200000#32
  have v31 : FVec F S256x256 .f32 := broadcast S256x256 cst_15
  have v32 : IVec S256x256 1 := cmpf .ogt v20 v31
  have cst_16 : F .f32 := Scalar.ofBits .f32 0x40600000#32
  have v33 : FVec F S256x256 .f32 := broadcast S256x256 cst_16
  have v34 : IVec S256x256 1 := cmpf .oge v20 v33
  have cst_17 : F .f32 := Scalar.ofBits .f32 0x40A00000#32
  have v35 : FVec F S256x256 .f32 := broadcast S256x256 cst_17
  have v36 : IVec S256x256 1 := cmpf .ogt v20 v35
  have c1_i32 : BitVec 32 := 1#32
  have v39 : IVec S256x256 32 := broadcast S256x256 c1_i32
  have v40 : IVec S256x256 32 := select v24 v39 v22
  have c2_i32 : BitVec 32 := 2#32
  have v43 : IVec S256x256 32 := broadcast S256x256 c2_i32
  have v44 : IVec S256x256 32 := select v26 v43 v40
  have c3_i32 : BitVec 32 := 3#32
  have v47 : IVec S256x256 32 := broadcast S256x256 c3_i32
  have v48 : IVec S256x256 32 := select v28 v47 v44
  have c4_i32 : BitVec 32 := 4#32
  have v51 : IVec S256x256 32 := broadcast S256x256 c4_i32
  have v52 : IVec S256x256 32 := select v30 v51 v48
  have c5_i32 : BitVec 32 := 5#32
  have v55 : IVec S256x256 32 := broadcast S256x256 c5_i32
  have v56 : IVec S256x256 32 := select v32 v55 v52
  have c6_i32 : BitVec 32 := 6#32
  have v59 : IVec S256x256 32 := broadcast S256x256 c6_i32
  have v60 : IVec S256x256 32 := select v34 v59 v56
  have c7_i32 : BitVec 32 := 7#32
  have v63 : IVec S256x256 32 := broadcast S256x256 c7_i32
  have v64 : IVec S256x256 32 := select v36 v63 v60
  have cst_25 : F .f32 := Scalar.ofBits .f32 0x00000000#32
  have v65 : FVec F S256x256 .f32 := broadcast S256x256 cst_25
  have v66 : IVec S256x256 1 := cmpf .olt v19 v65
  have c8_i32 : BitVec 32 := 8#32
  have v70 : IVec S256x256 32 := broadcast S256x256 c8_i32
  have v71 : IVec S256x256 32 := addi v64 v70
  have v72 : IVec S256x256 32 := select v66 v71 v64
  have v73 : IVec S256x256 8 := trunci 8 v72 natLt_8_32
  v73

/-- The four-bit values times the scale of their block. -/
def dqOf (v69 : FVec F S256x256 .f32) (v74 : Vec F S16x128 .bf16) : FVec F S256x256 .bf16 :=
  have v75 : FVec F S16x128 .bf16 := shapeCast S16x128 v74 shapeCasts_S16x128_S16x128
  have v76 : FVec F S16x1x128 .bf16 := shapeCast S16x1x128 v75 shapeCasts_S16x128_S16x1x128
  have v77 : FVec F S16x1x128 .bf16 := shapeCast S16x1x128 v76 shapeCasts_S16x1x128_S16x1x128
  have v78 : FVec F S16x16x128 .bf16 := broadcastTo S16x16x128 v77 broadcasts_S16x1x128_S16x16x128
  have v79 : FVec F S256x128 .bf16 := shapeCast S256x128 v78 shapeCasts_S16x16x128_S256x128
  have v80 : FVec F S256x256 .bf16 := truncf .bf16 v69 bitsLt_bf16_f32
  have v81 : FVec F S256x256 .bf16 := concatenate S256x256 1 [⟨S256x128, v79⟩, ⟨S256x128, v79⟩] concatenates_S256x128_S256x128_S256x256_d1
  have v82 : FVec F S256x256 .bf16 := mulf v80 v81
  have v85 : FVec F S256x256 .bf16 := shapeCast S256x256 v82 shapeCasts_S256x256_S256x256
  v85

/-- Codes packed in pairs of neighbouring columns. -/
def ckOf (v73 : IVec S256x256 8) : IVec S256x128 8 :=
  have v86 : IVec S256x128 8 := extractStridedSlice S256x128 ![0, 0] v73 slices_S256x256_o0_0_S256x128
  have v87 : IVec S256x128 8 := extractStridedSlice S256x128 ![0, 128] v73 slices_S256x256_o0_128_S256x128
  have v88 : IVec S64x128 32 := bitcast S64x128 32 v86 bitcasts_S256x128_w8_S64x128_w32
  have v89 : IVec S64x128 32 := bitcast S64x128 32 v87 bitcasts_S256x128_w8_S64x128_w32
  have c4_i32_31 : BitVec 32 := 4#32
  have v90 : IVec S64x128 32 := broadcast S64x128 c4_i32_31
  have v91 : IVec S64x128 32 := shli v89 v90
  have v92 : IVec S64x128 32 := ori v88 v91
  have v93 : IVec S256x128 8 := bitcast S256x128 8 v92 bitcasts_S64x128_w32_S256x128_w8
  v93

/-- Codes packed in pairs of neighbouring rows, transposed. -/
def cnOf (v73 : IVec S256x256 8) : IVec S256x128 8 :=
  have v86 : IVec S256x128 8 := extractStridedSlice S256x128 ![0, 0] v73 slices_S256x256_o0_0_S256x128
  have v87 : IVec S256x128 8 := extractStridedSlice S256x128 ![0, 128] v73 slices_S256x256_o0_128_S256x128
  have v95 : IVec S64x128 32 := bitcast S64x128 32 v86 bitcasts_S256x128_w8_S64x128_w32
  have v96 : IVec S128x128 16 := bitcast S128x128 16 v95 bitcasts_S64x128_w32_S128x128_w16
  have v97 : IVec S128x128 32 := extui 32 v96 natLt_16_32
  have c4_i32_34 : BitVec 32 := 4#32
  have v98 : IVec S128x128 32 := broadcast S128x128 c4_i32_34
  have v99 : IVec S128x128 32 := shrsi v97 v98
  have v100 : IVec S128x128 32 := ori v97 v99
  have v101 : IVec S128x128 8 := trunci 8 v100 natLt_8_32
  have v102 : IVec S128x128 16 := extui 16 v101 natLt_8_16
  have v103 : IVec S64x128 32 := bitcast S64x128 32 v87 bitcasts_S256x128_w8_S64x128_w32
  have v104 : IVec S128x128 16 := bitcast S128x128 16 v103 bitcasts_S64x128_w32_S128x128_w16
  have v105 : IVec S128x128 32 := extui 32 v104 natLt_16_32
  have c4_i32_35 : BitVec 32 := 4#32
  have v106 : IVec S128x128 32 := broadcast S128x128 c4_i32_35
  have v107 : IVec S128x128 32 := shrsi v105 v106
  have v108 : IVec S128x128 32 := ori v105 v107
  have v109 : IVec S128x128 8 := trunci 8 v108 natLt_8_32
  have v110 : IVec S128x128 16 := extui 16 v109 natLt_8_16
  have c8_i16 : BitVec 16 := 8#16
  have v111 : IVec S128x128 16 := broadcast S128x128 c8_i16
  have v112 : IVec S128x128 16 := shli v110 v111
  have v113 : IVec S128x128 16 := ori v102 v112
  have v114 : IVec S128x128 16 := transpose S128x128 [1, 0] v113 transposes_S128x128_p1_0_S128x128
  have v115 : IVec S64x128 32 := bitcast S64x128 32 v114 bitcasts_S128x128_w16_S64x128_w32
  have v116 : IVec S256x128 8 := bitcast S256x128 8 v115 bitcasts_S64x128_w32_S256x128_w8
  v116

/-- The scaled and clipped values of one column tile of the weights. -/
def quantTile (v3 : Vec F S16x128 .f32) (a : Vec F S256x256 .bf16) (R : Vec F S256x256 .bf16) : FVec F S256x256 .f32 :=
  quantV v3 (matmul dot_S256x256_S256x256_S256x256_1_0_0_1_n_n none a R (constant S256x256 .f32 0x00000000#32))

/-- The scaled and clipped values of the last column tile of the weights. -/
def quantTail (v3 : Vec F S16x128 .f32) (a : Vec F S256x64 .bf16) (R : Vec F S64x256 .bf16) : FVec F S256x256 .f32 :=
  quantV v3 (matmul dot_S256x64_S64x256_S256x256_1_0_0_1_n_n none a R (constant S256x256 .f32 0x00000000#32))

/-- One output tile: activations times scaled weights, times the tensor scale. -/
def yOf (x : Vec F S256x3072 .bf16) (w : Vec F S256x3072 .bf16) (st : Elt F .f32) : FVec F S256x256 .bf16 :=
  truncf .bf16 (mulf (matmul dot_S256x3072_S256x3072_S256x256_1_1_0_0_n_n none (shapeCast S256x3072 x shapeCasts_S256x3072_S256x3072) w (constant S256x256 .f32 0x00000000#32)) (broadcast S256x256 st)) bitsLt_bf16_f32

/-- The twelve pieces the amax pass leaves in its block of the block-maxima array (last first). -/
def amaxPiecesL (W : Vec F S256x256 .bf16) (T : Vec F S64x256 .bf16) (x2 : Vec F S256x2880 .bf16) : List (View.Piece (Elt F) S16x1536 .f32) :=
  [⟨(Rect.unit (s := S16x1536) ![0, 1408] S16x128.size inb_S16x1536_S16x128_0_1408), amaxTail (View.ld x2 (Rect.unit (s := S256x2880) ![0, 2816] S256x64.size inb_S256x2880_S256x64_0_2816)) T⟩,
   ⟨(Rect.unit (s := S16x1536) ![0, 1280] S16x128.size inb_S16x1536_S16x128_0_1280), amaxTile (View.ld x2 (Rect.unit (s := S256x2880) ![0, 2560] S256x256.size inb_S256x2880_S256x256_0_2560)) W⟩,
   ⟨(Rect.unit (s := S16x1536) ![0, 1152] S16x128.size inb_S16x1536_S16x128_0_1152), amaxTile (View.ld x2 (Rect.unit (s := S256x2880) ![0, 2304] S256x256.size inb_S256x2880_S256x256_0_2304)) W⟩,
   ⟨(Rect.unit (s := S16x1536) ![0, 1024] S16x128.size inb_S16x1536_S16x128_0_1024), amaxTile (View.ld x2 (Rect.unit (s := S256x2880) ![0, 2048] S256x256.size inb_S256x2880_S256x256_0_2048)) W⟩,
   ⟨(Rect.unit (s := S16x1536) ![0, 896] S16x128.size inb_S16x1536_S16x128_0_896), amaxTile (View.ld x2 (Rect.unit (s := S256x2880) ![0, 1792] S256x256.size inb_S256x2880_S256x256_0_1792)) W⟩,
   ⟨(Rect.unit (s := S16x1536) ![0, 768] S16x128.size inb_S16x1536_S16x128_0_768), amaxTile (View.ld x2 (Rect.unit (s := S256x2880) ![0, 1536] S256x256.size inb_S256x2880_S256x256_0_1536)) W⟩,
   ⟨(Rect.unit (s := S16x1536) ![0, 640] S16x128.size inb_S16x1536_S16x128_0_640), amaxTile (View.ld x2 (Rect.unit (s := S256x2880) ![0, 1280] S256x256.size inb_S256x2880_S256x256_0_1280)) W⟩,
   ⟨(Rect.unit (s := S16x1536) ![0, 512] S16x128.size inb_S16x1536_S16x128_0_512), amaxTile (View.ld x2 (Rect.unit (s := S256x2880) ![0, 1024] S256x256.size inb_S256x2880_S256x256_0_1024)) W⟩,
   ⟨(Rect.unit (s := S16x1536) ![0, 384] S16x128.size inb_S16x1536_S16x128_0_384), amaxTile (View.ld x2 (Rect.unit (s := S256x2880) ![0, 768] S256x256.size inb_S256x2880_S256x256_0_768)) W⟩,
   ⟨(Rect.unit (s := S16x1536) ![0, 256] S16x128.size inb_S16x1536_S16x128_0_256), amaxTile (View.ld x2 (Rect.unit (s := S256x2880) ![0, 512] S256x256.size inb_S256x2880_S256x256_0_512)) W⟩,
   ⟨(Rect.unit (s := S16x1536) ![0, 128] S16x128.size inb_S16x1536_S16x128_0_128), amaxTile (View.ld x2 (Rect.unit (s := S256x2880) ![0, 256] S256x256.size inb_S256x2880_S256x256_0_256)) W⟩,
   ⟨(Rect.unit (s := S16x1536) ![0, 0] S16x128.size inb_S16x1536_S16x128_0_0), amaxTile (View.ld x2 (Rect.unit (s := S256x2880) ![0, 0] S256x256.size inb_S256x2880_S256x256_0_0)) W⟩]

/-- The twelve pieces the amax pass leaves in the rotated activations (last first). -/
def xpPiecesL (W : Vec F S256x256 .bf16) (T : Vec F S64x256 .bf16) (x1 : Vec F S256x2880 .bf16) : List (View.Piece (Elt F) S256x3072 .bf16) :=
  [⟨(Rect.unit (s := S256x3072) ![0, 2816] S256x256.size inb_S256x3072_S256x256_0_2816), xpTail (View.ld x1 (Rect.unit (s := S256x2880) ![0, 2816] S256x64.size inb_S256x2880_S256x64_0_2816)) T⟩,
   ⟨(Rect.unit (s := S256x3072) ![0, 2560] S256x256.size inb_S256x3072_S256x256_0_2560), xpTile (View.ld x1 (Rect.unit (s := S256x2880) ![0, 2560] S256x256.size inb_S256x2880_S256x256_0_2560)) W⟩,
   ⟨(Rect.unit (s := S256x3072) ![0, 2304] S256x256.size inb_S256x3072_S256x256_0_2304), xpTile (View.ld x1 (Rect.unit (s := S256x2880) ![0, 2304] S256x256.size inb_S256x2880_S256x256_0_2304)) W⟩,
   ⟨(Rect.unit (s := S256x3072) ![0, 2048] S256x256.size inb_S256x3072_S256x256_0_2048), xpTile (View.ld x1 (Rect.unit (s := S256x2880) ![0, 2048] S256x256.size inb_S256x2880_S256x256_0_2048)) W⟩,
   ⟨(Rect.unit (s := S256x3072) ![0, 1792] S256x256.size inb_S256x3072_S256x256_0_1792), xpTile (View.ld x1 (Rect.unit (s := S256x2880) ![0, 1792] S256x256.size inb_S256x2880_S256x256_0_1792)) W⟩,
   ⟨(Rect.unit (s := S256x3072) ![0, 1536] S256x256.size inb_S256x3072_S256x256_0_1536), xpTile (View.ld x1 (Rect.unit (s := S256x2880) ![0, 1536] S256x256.size inb_S256x2880_S256x256_0_1536)) W⟩,
   ⟨(Rect.unit (s := S256x3072) ![0, 1280] S256x256.size inb_S256x3072_S256x256_0_1280), xpTile (View.ld x1 (Rect.unit (s := S256x2880) ![0, 1280] S256x256.size inb_S256x2880_S256x256_0_1280)) W⟩,
   ⟨(Rect.unit (s := S256x3072) ![0, 1024] S256x256.size inb_S256x3072_S256x256_0_1024), xpTile (View.ld x1 (Rect.unit (s := S256x2880) ![0, 1024] S256x256.size inb_S256x2880_S256x256_0_1024)) W⟩,
   ⟨(Rect.unit (s := S256x3072) ![0, 768] S256x256.size inb_S256x3072_S256x256_0_768), xpTile (View.ld x1 (Rect.unit (s := S256x2880) ![0, 768] S256x256.size inb_S256x2880_S256x256_0_768)) W⟩,
   ⟨(Rect.unit (s := S256x3072) ![0, 512] S256x256.size inb_S256x3072_S256x256_0_512), xpTile (View.ld x1 (Rect.unit (s := S256x2880) ![0, 512] S256x256.size inb_S256x2880_S256x256_0_512)) W⟩,
   ⟨(Rect.unit (s := S256x3072) ![0, 256] S256x256.size inb_S256x3072_S256x256_0_256), xpTile (View.ld x1 (Rect.unit (s := S256x2880) ![0, 256] S256x256.size inb_S256x2880_S256x256_0_256)) W⟩,
   ⟨(Rect.unit (s := S256x3072) ![0, 0] S256x256.size inb_S256x3072_S256x256_0_0), xpTile (View.ld x1 (Rect.unit (s := S256x2880) ![0, 0] S256x256.size inb_S256x2880_S256x256_0_0)) W⟩]

/-- The twelve pieces of the scaled four-bit weights in the scratch of the quantising pass (last first). -/
def wdPiecesL (W : Vec F S256x256 .bf16) (T : Vec F S64x256 .bf16) (x3 : Vec F S256x2880 .bf16) (x4 : Vec F S16x1536 .f32) (x5 : Vec F S16x1536 .bf16) : List (View.Piece (Elt F) S256x3072 .bf16) :=
  [⟨(Rect.unit (s := S256x3072) ![0, 2816] S256x256.size inb_S256x3072_S256x256_0_2816), dqOf (quantQ (quantTail (View.ld x4 (Rect.unit (s := S16x1536) ![0, 1408] S16x128.size inb_S16x1536_S16x128_0_1408)) (View.ld x3 (Rect.unit (s := S256x2880) ![0, 2816] S256x64.size inb_S256x2880_S256x64_0_2816)) T)) (View.ld x5 (Rect.unit (s := S16x1536) ![0, 1408] S16x128.size inb_S16x1536_S16x128_0_1408))⟩,
   ⟨(Rect.unit (s := S256x3072) ![0, 2560] S256x256.size inb_S256x3072_S256x256_0_2560), dqOf (quantQ (quantTile (View.ld x4 (Rect.unit (s := S16x1536) ![0, 1280] S16x128.size inb_S16x1536_S16x128_0_1280)) (View.ld x3 (Rect.unit (s := S256x2880) ![0, 2560] S256x256.size inb_S256x2880_S256x256_0_2560)) W)) (View.ld x5 (Rect.unit (s := S16x1536) ![0, 1280] S16x128.size inb_S16x1536_S16x128_0_1280))⟩,
   ⟨(Rect.unit (s := S256x3072) ![0, 2304] S256x256.size inb_S256x3072_S256x256_0_2304), dqOf (quantQ (quantTile (View.ld x4 (Rect.unit (s := S16x1536) ![0, 1152] S16x128.size inb_S16x1536_S16x128_0_1152)) (View.ld x3 (Rect.unit (s := S256x2880) ![0, 2304] S256x256.size inb_S256x2880_S256x256_0_2304)) W)) (View.ld x5 (Rect.unit (s := S16x1536) ![0, 1152] S16x128.size inb_S16x1536_S16x128_0_1152))⟩,
   ⟨(Rect.unit (s := S256x3072) ![0, 2048] S256x256.size inb_S256x3072_S256x256_0_2048), dqOf (quantQ (quantTile (View.ld x4 (Rect.unit (s := S16x1536) ![0, 1024] S16x128.size inb_S16x1536_S16x128_0_1024)) (View.ld x3 (Rect.unit (s := S256x2880) ![0, 2048] S256x256.size inb_S256x2880_S256x256_0_2048)) W)) (View.ld x5 (Rect.unit (s := S16x1536) ![0, 1024] S16x128.size inb_S16x1536_S16x128_0_1024))⟩,
   ⟨(Rect.unit (s := S256x3072) ![0, 1792] S256x256.size inb_S256x3072_S256x256_0_1792), dqOf (quantQ (quantTile (View.ld x4 (Rect.unit (s := S16x1536) ![0, 896] S16x128.size inb_S16x1536_S16x128_0_896)) (View.ld x3 (Rect.unit (s := S256x2880) ![0, 1792] S256x256.size inb_S256x2880_S256x256_0_1792)) W)) (View.ld x5 (Rect.unit (s := S16x1536) ![0, 896] S16x128.size inb_S16x1536_S16x128_0_896))⟩,
   ⟨(Rect.unit (s := S256x3072) ![0, 1536] S256x256.size inb_S256x3072_S256x256_0_1536), dqOf (quantQ (quantTile (View.ld x4 (Rect.unit (s := S16x1536) ![0, 768] S16x128.size inb_S16x1536_S16x128_0_768)) (View.ld x3 (Rect.unit (s := S256x2880) ![0, 1536] S256x256.size inb_S256x2880_S256x256_0_1536)) W)) (View.ld x5 (Rect.unit (s := S16x1536) ![0, 768] S16x128.size inb_S16x1536_S16x128_0_768))⟩,
   ⟨(Rect.unit (s := S256x3072) ![0, 1280] S256x256.size inb_S256x3072_S256x256_0_1280), dqOf (quantQ (quantTile (View.ld x4 (Rect.unit (s := S16x1536) ![0, 640] S16x128.size inb_S16x1536_S16x128_0_640)) (View.ld x3 (Rect.unit (s := S256x2880) ![0, 1280] S256x256.size inb_S256x2880_S256x256_0_1280)) W)) (View.ld x5 (Rect.unit (s := S16x1536) ![0, 640] S16x128.size inb_S16x1536_S16x128_0_640))⟩,
   ⟨(Rect.unit (s := S256x3072) ![0, 1024] S256x256.size inb_S256x3072_S256x256_0_1024), dqOf (quantQ (quantTile (View.ld x4 (Rect.unit (s := S16x1536) ![0, 512] S16x128.size inb_S16x1536_S16x128_0_512)) (View.ld x3 (Rect.unit (s := S256x2880) ![0, 1024] S256x256.size inb_S256x2880_S256x256_0_1024)) W)) (View.ld x5 (Rect.unit (s := S16x1536) ![0, 512] S16x128.size inb_S16x1536_S16x128_0_512))⟩,
   ⟨(Rect.unit (s := S256x3072) ![0, 768] S256x256.size inb_S256x3072_S256x256_0_768), dqOf (quantQ (quantTile (View.ld x4 (Rect.unit (s := S16x1536) ![0, 384] S16x128.size inb_S16x1536_S16x128_0_384)) (View.ld x3 (Rect.unit (s := S256x2880) ![0, 768] S256x256.size inb_S256x2880_S256x256_0_768)) W)) (View.ld x5 (Rect.unit (s := S16x1536) ![0, 384] S16x128.size inb_S16x1536_S16x128_0_384))⟩,
   ⟨(Rect.unit (s := S256x3072) ![0, 512] S256x256.size inb_S256x3072_S256x256_0_512), dqOf (quantQ (quantTile (View.ld x4 (Rect.unit (s := S16x1536) ![0, 256] S16x128.size inb_S16x1536_S16x128_0_256)) (View.ld x3 (Rect.unit (s := S256x2880) ![0, 512] S256x256.size inb_S256x2880_S256x256_0_512)) W)) (View.ld x5 (Rect.unit (s := S16x1536) ![0, 256] S16x128.size inb_S16x1536_S16x128_0_256))⟩,
   ⟨(Rect.unit (s := S256x3072) ![0, 256] S256x256.size inb_S256x3072_S256x256_0_256), dqOf (quantQ (quantTile (View.ld x4 (Rect.unit (s := S16x1536) ![0, 128] S16x128.size inb_S16x1536_S16x128_0_128)) (View.ld x3 (Rect.unit (s := S256x2880) ![0, 256] S256x256.size inb_S256x2880_S256x256_0_256)) W)) (View.ld x5 (Rect.unit (s := S16x1536) ![0, 128] S16x128.size inb_S16x1536_S16x128_0_128))⟩,
   ⟨(Rect.unit (s := S256x3072) ![0, 0] S256x256.size inb_S256x3072_S256x256_0_0), dqOf (quantQ (quantTile (View.ld x4 (Rect.unit (s := S16x1536) ![0, 0] S16x128.size inb_S16x1536_S16x128_0_0)) (View.ld x3 (Rect.unit (s := S256x2880) ![0, 0] S256x256.size inb_S256x2880_S256x256_0_0)) W)) (View.ld x5 (Rect.unit (s := S16x1536) ![0, 0] S16x128.size inb_S16x1536_S16x128_0_0))⟩]

/-- The twelve pieces of the codes packed along the columns (last first). -/
def ckPiecesL (W : Vec F S256x256 .bf16) (T : Vec F S64x256 .bf16) (x3 : Vec F S256x2880 .bf16) (x4 : Vec F S16x1536 .f32) : List (View.Piece (Elt F) S256x1440 .i8) :=
  [⟨(Rect.unit (s := S256x1440) ![0, 1408] S256x32.size inb_S256x1440_S256x32_0_1408), extractStridedSlice S256x32 ![0, 0] (ckOf (quantC (quantTail (View.ld x4 (Rect.unit (s := S16x1536) ![0, 1408] S16x128.size inb_S16x1536_S16x128_0_1408)) (View.ld x3 (Rect.unit (s := S256x2880) ![0, 2816] S256x64.size inb_S256x2880_S256x64_0_2816)) T))) slices_S256x128_o0_0_S256x32⟩,
   ⟨(Rect.unit (s := S256x1440) ![0, 1280] S256x128.size inb_S256x1440_S256x128_0_1280), ckOf (quantC (quantTile (View.ld x4 (Rect.unit (s := S16x1536) ![0, 1280] S16x128.size inb_S16x1536_S16x128_0_1280)) (View.ld x3 (Rect.unit (s := S256x2880) ![0, 2560] S256x256.size inb_S256x2880_S256x256_0_2560)) W))⟩,
   ⟨(Rect.unit (s := S256x1440) ![0, 1152] S256x128.size inb_S256x1440_S256x128_0_1152), ckOf (quantC (quantTile (View.ld x4 (Rect.unit (s := S16x1536) ![0, 1152] S16x128.size inb_S16x1536_S16x128_0_1152)) (View.ld x3 (Rect.unit (s := S256x2880) ![0, 2304] S256x256.size inb_S256x2880_S256x256_0_2304)) W))⟩,
   ⟨(Rect.unit (s := S256x1440) ![0, 1024] S256x128.size inb_S256x1440_S256x128_0_1024), ckOf (quantC (quantTile (View.ld x4 (Rect.unit (s := S16x1536) ![0, 1024] S16x128.size inb_S16x1536_S16x128_0_1024)) (View.ld x3 (Rect.unit (s := S256x2880) ![0, 2048] S256x256.size inb_S256x2880_S256x256_0_2048)) W))⟩,
   ⟨(Rect.unit (s := S256x1440) ![0, 896] S256x128.size inb_S256x1440_S256x128_0_896), ckOf (quantC (quantTile (View.ld x4 (Rect.unit (s := S16x1536) ![0, 896] S16x128.size inb_S16x1536_S16x128_0_896)) (View.ld x3 (Rect.unit (s := S256x2880) ![0, 1792] S256x256.size inb_S256x2880_S256x256_0_1792)) W))⟩,
   ⟨(Rect.unit (s := S256x1440) ![0, 768] S256x128.size inb_S256x1440_S256x128_0_768), ckOf (quantC (quantTile (View.ld x4 (Rect.unit (s := S16x1536) ![0, 768] S16x128.size inb_S16x1536_S16x128_0_768)) (View.ld x3 (Rect.unit (s := S256x2880) ![0, 1536] S256x256.size inb_S256x2880_S256x256_0_1536)) W))⟩,
   ⟨(Rect.unit (s := S256x1440) ![0, 640] S256x128.size inb_S256x1440_S256x128_0_640), ckOf (quantC (quantTile (View.ld x4 (Rect.unit (s := S16x1536) ![0, 640] S16x128.size inb_S16x1536_S16x128_0_640)) (View.ld x3 (Rect.unit (s := S256x2880) ![0, 1280] S256x256.size inb_S256x2880_S256x256_0_1280)) W))⟩,
   ⟨(Rect.unit (s := S256x1440) ![0, 512] S256x128.size inb_S256x1440_S256x128_0_512), ckOf (quantC (quantTile (View.ld x4 (Rect.unit (s := S16x1536) ![0, 512] S16x128.size inb_S16x1536_S16x128_0_512)) (View.ld x3 (Rect.unit (s := S256x2880) ![0, 1024] S256x256.size inb_S256x2880_S256x256_0_1024)) W))⟩,
   ⟨(Rect.unit (s := S256x1440) ![0, 384] S256x128.size inb_S256x1440_S256x128_0_384), ckOf (quantC (quantTile (View.ld x4 (Rect.unit (s := S16x1536) ![0, 384] S16x128.size inb_S16x1536_S16x128_0_384)) (View.ld x3 (Rect.unit (s := S256x2880) ![0, 768] S256x256.size inb_S256x2880_S256x256_0_768)) W))⟩,
   ⟨(Rect.unit (s := S256x1440) ![0, 256] S256x128.size inb_S256x1440_S256x128_0_256), ckOf (quantC (quantTile (View.ld x4 (Rect.unit (s := S16x1536) ![0, 256] S16x128.size inb_S16x1536_S16x128_0_256)) (View.ld x3 (Rect.unit (s := S256x2880) ![0, 512] S256x256.size inb_S256x2880_S256x256_0_512)) W))⟩,
   ⟨(Rect.unit (s := S256x1440) ![0, 128] S256x128.size inb_S256x1440_S256x128_0_128), ckOf (quantC (quantTile (View.ld x4 (Rect.unit (s := S16x1536) ![0, 128] S16x128.size inb_S16x1536_S16x128_0_128)) (View.ld x3 (Rect.unit (s := S256x2880) ![0, 256] S256x256.size inb_S256x2880_S256x256_0_256)) W))⟩,
   ⟨(Rect.unit (s := S256x1440) ![0, 0] S256x128.size inb_S256x1440_S256x128_0_0), ckOf (quantC (quantTile (View.ld x4 (Rect.unit (s := S16x1536) ![0, 0] S16x128.size inb_S16x1536_S16x128_0_0)) (View.ld x3 (Rect.unit (s := S256x2880) ![0, 0] S256x256.size inb_S256x2880_S256x256_0_0)) W))⟩]

/-- The twelve pieces of the codes packed along the rows (last first). -/
def cnPiecesL (W : Vec F S256x256 .bf16) (T : Vec F S64x256 .bf16) (x3 : Vec F S256x2880 .bf16) (x4 : Vec F S16x1536 .f32) : List (View.Piece (Elt F) S2880x128 .i8) :=
  [⟨(Rect.unit (s := S2880x128) ![2816, 0] S64x128.size inb_S2880x128_S64x128_2816_0), extractStridedSlice S64x128 ![0, 0] (cnOf (quantC (quantTail (View.ld x4 (Rect.unit (s := S16x1536) ![0, 1408] S16x128.size inb_S16x1536_S16x128_0_1408)) (View.ld x3 (Rect.unit (s := S256x2880) ![0, 2816] S256x64.size inb_S256x2880_S256x64_0_2816)) T))) slices_S256x128_o0_0_S64x128⟩,
   ⟨(Rect.unit (s := S2880x128) ![2560, 0] S256x128.size inb_S2880x128_S256x128_2560_0), cnOf (quantC (quantTile (View.ld x4 (Rect.unit (s := S16x1536) ![0, 1280] S16x128.size inb_S16x1536_S16x128_0_1280)) (View.ld x3 (Rect.unit (s := S256x2880) ![0, 2560] S256x256.size inb_S256x2880_S256x256_0_2560)) W))⟩,
   ⟨(Rect.unit (s := S2880x128) ![2304, 0] S256x128.size inb_S2880x128_S256x128_2304_0), cnOf (quantC (quantTile (View.ld x4 (Rect.unit (s := S16x1536) ![0, 1152] S16x128.size inb_S16x1536_S16x128_0_1152)) (View.ld x3 (Rect.unit (s := S256x2880) ![0, 2304] S256x256.size inb_S256x2880_S256x256_0_2304)) W))⟩,
   ⟨(Rect.unit (s := S2880x128) ![2048, 0] S256x128.size inb_S2880x128_S256x128_2048_0), cnOf (quantC (quantTile (View.ld x4 (Rect.unit (s := S16x1536) ![0, 1024] S16x128.size inb_S16x1536_S16x128_0_1024)) (View.ld x3 (Rect.unit (s := S256x2880) ![0, 2048] S256x256.size inb_S256x2880_S256x256_0_2048)) W))⟩,
   ⟨(Rect.unit (s := S2880x128) ![1792, 0] S256x128.size inb_S2880x128_S256x128_1792_0), cnOf (quantC (quantTile (View.ld x4 (Rect.unit (s := S16x1536) ![0, 896] S16x128.size inb_S16x1536_S16x128_0_896)) (View.ld x3 (Rect.unit (s := S256x2880) ![0, 1792] S256x256.size inb_S256x2880_S256x256_0_1792)) W))⟩,
   ⟨(Rect.unit (s := S2880x128) ![1536, 0] S256x128.size inb_S2880x128_S256x128_1536_0), cnOf (quantC (quantTile (View.ld x4 (Rect.unit (s := S16x1536) ![0, 768] S16x128.size inb_S16x1536_S16x128_0_768)) (View.ld x3 (Rect.unit (s := S256x2880) ![0, 1536] S256x256.size inb_S256x2880_S256x256_0_1536)) W))⟩,
   ⟨(Rect.unit (s := S2880x128) ![1280, 0] S256x128.size inb_S2880x128_S256x128_1280_0), cnOf (quantC (quantTile (View.ld x4 (Rect.unit (s := S16x1536) ![0, 640] S16x128.size inb_S16x1536_S16x128_0_640)) (View.ld x3 (Rect.unit (s := S256x2880) ![0, 1280] S256x256.size inb_S256x2880_S256x256_0_1280)) W))⟩,
   ⟨(Rect.unit (s := S2880x128) ![1024, 0] S256x128.size inb_S2880x128_S256x128_1024_0), cnOf (quantC (quantTile (View.ld x4 (Rect.unit (s := S16x1536) ![0, 512] S16x128.size inb_S16x1536_S16x128_0_512)) (View.ld x3 (Rect.unit (s := S256x2880) ![0, 1024] S256x256.size inb_S256x2880_S256x256_0_1024)) W))⟩,
   ⟨(Rect.unit (s := S2880x128) ![768, 0] S256x128.size inb_S2880x128_S256x128_768_0), cnOf (quantC (quantTile (View.ld x4 (Rect.unit (s := S16x1536) ![0, 384] S16x128.size inb_S16x1536_S16x128_0_384)) (View.ld x3 (Rect.unit (s := S256x2880) ![0, 768] S256x256.size inb_S256x2880_S256x256_0_768)) W))⟩,
   ⟨(Rect.unit (s := S2880x128) ![512, 0] S256x128.size inb_S2880x128_S256x128_512_0), cnOf (quantC (quantTile (View.ld x4 (Rect.unit (s := S16x1536) ![0, 256] S16x128.size inb_S16x1536_S16x128_0_256)) (View.ld x3 (Rect.unit (s := S256x2880) ![0, 512] S256x256.size inb_S256x2880_S256x256_0_512)) W))⟩,
   ⟨(Rect.unit (s := S2880x128) ![256, 0] S256x128.size inb_S2880x128_S256x128_256_0), cnOf (quantC (quantTile (View.ld x4 (Rect.unit (s := S16x1536) ![0, 128] S16x128.size inb_S16x1536_S16x128_0_128)) (View.ld x3 (Rect.unit (s := S256x2880) ![0, 256] S256x256.size inb_S256x2880_S256x256_0_256)) W))⟩,
   ⟨(Rect.unit (s := S2880x128) ![0, 0] S256x128.size inb_S2880x128_S256x128_0_0), cnOf (quantC (quantTile (View.ld x4 (Rect.unit (s := S16x1536) ![0, 0] S16x128.size inb_S16x1536_S16x128_0_0)) (View.ld x3 (Rect.unit (s := S256x2880) ![0, 0] S256x256.size inb_S256x2880_S256x256_0_0)) W))⟩]

/-- The same pieces with the two parts of the rotation matrix read from its array. -/
def amaxPieces (R : Vec F S256x256 .bf16) (x2 : Vec F S256x2880 .bf16) : List (View.Piece (Elt F) S16x1536 .f32) :=
  amaxPiecesL (View.ld R (Rect.unit (s := S256x256) ![0, 0] S256x256.size inb_S256x256_S256x256_0_0)) (View.ld R (Rect.unit (s := S256x256) ![0, 0] S64x256.size inb_S256x256_S64x256_0_0)) x2

/-- The same pieces with the two parts of the rotation matrix read from its array. -/
def xpPieces (R : Vec F S256x256 .bf16) (x1 : Vec F S256x2880 .bf16) : List (View.Piece (Elt F) S256x3072 .bf16) :=
  xpPiecesL (View.ld R (Rect.unit (s := S256x256) ![0, 0] S256x256.size inb_S256x256_S256x256_0_0)) (View.ld R (Rect.unit (s := S256x256) ![0, 0] S64x256.size inb_S256x256_S64x256_0_0)) x1

/-- The same pieces with the two parts of the rotation matrix read from its array. -/
def wdPieces (R : Vec F S256x256 .bf16) (x3 : Vec F S256x2880 .bf16) (x4 : Vec F S16x1536 .f32) (x5 : Vec F S16x1536 .bf16) : List (View.Piece (Elt F) S256x3072 .bf16) :=
  wdPiecesL (View.ld R (Rect.unit (s := S256x256) ![0, 0] S256x256.size inb_S256x256_S256x256_0_0)) (View.ld R (Rect.unit (s := S256x256) ![0, 0] S64x256.size inb_S256x256_S64x256_0_0)) x3 x4 x5

/-- The same pieces with the two parts of the rotation matrix read from its array. -/
def ckPieces (R : Vec F S256x256 .bf16) (x3 : Vec F S256x2880 .bf16) (x4 : Vec F S16x1536 .f32) : List (View.Piece (Elt F) S256x1440 .i8) :=
  ckPiecesL (View.ld R (Rect.unit (s := S256x256) ![0, 0] S256x256.size inb_S256x256_S256x256_0_0)) (View.ld R (Rect.unit (s := S256x256) ![0, 0] S64x256.size inb_S256x256_S64x256_0_0)) x3 x4

/-- The same pieces with the two parts of the rotation matrix read from its array. -/
def cnPieces (R : Vec F S256x256 .bf16) (x3 : Vec F S256x2880 .bf16) (x4 : Vec F S16x1536 .f32) : List (View.Piece (Elt F) S2880x128 .i8) :=
  cnPiecesL (View.ld R (Rect.unit (s := S256x256) ![0, 0] S256x256.size inb_S256x256_S256x256_0_0)) (View.ld R (Rect.unit (s := S256x256) ![0, 0] S64x256.size inb_S256x256_S64x256_0_0)) x3 x4

/-- The weights' scratch after the twelve stores. -/
def wdOf (R : Vec F S256x256 .bf16) (x3 : Vec F S256x2880 .bf16) (x4 : Vec F S16x1536 .f32) (x5 : Vec F S16x1536 .bf16) : Vec F S256x3072 .bf16 := View.canon (wdPieces R x3 x4 x5)

/-- The output tile from the loads it is made of. -/
def yTile (R : Vec F S256x256 .bf16) (x1 : Vec F S1 .f32) (x2 : Vec F S256x3072 .bf16) (x3 : Vec F S256x2880 .bf16) (x4 : Vec F S16x1536 .f32) (x5 : Vec F S16x1536 .bf16) : FVec F S256x256 .bf16 :=
  yOf (View.ld x2 (Rect.unit (s := S256x3072) ![0, 0] S256x3072.size inb_S256x3072_S256x3072_0_0)) (View.ld (wdOf R x3 x4 x5) (Rect.unit (s := S256x3072) ![0, 0] S256x3072.size inb_S256x3072_S256x3072_0_0)) (View.ld x1 (Rect.unit (s := S1) ![0] S1.size inb_S1_S1_0) (Shape.Idx.first (numel1_S1.symm ▸ Nat.one_pos)))

/-- Sixteen signs read one by one from their array. -/
def signs (x0 : Vec F S16 .f32) : Fin 16 → F .f32 :=
  ![View.ld x0 (Rect.unit (s := S16) ![0] S1.size inb_S16_S1_0) (Shape.Idx.first (numel1_S1.symm ▸ Nat.one_pos)),
    View.ld x0 (Rect.unit (s := S16) ![1] S1.size inb_S16_S1_1) (Shape.Idx.first (numel1_S1.symm ▸ Nat.one_pos)),
    View.ld x0 (Rect.unit (s := S16) ![2] S1.size inb_S16_S1_2) (Shape.Idx.first (numel1_S1.symm ▸ Nat.one_pos)),
    View.ld x0 (Rect.unit (s := S16) ![3] S1.size inb_S16_S1_3) (Shape.Idx.first (numel1_S1.symm ▸ Nat.one_pos)),
    View.ld x0 (Rect.unit (s := S16) ![4] S1.size inb_S16_S1_4) (Shape.Idx.first (numel1_S1.symm ▸ Nat.one_pos)),
    View.ld x0 (Rect.unit (s := S16) ![5] S1.size inb_S16_S1_5) (Shape.Idx.first (numel1_S1.symm ▸ Nat.one_pos)),
    View.ld x0 (Rect.unit (s := S16) ![6] S1.size inb_S16_S1_6) (Shape.Idx.first (numel1_S1.symm ▸ Nat.one_pos)),
    View.ld x0 (Rect.unit (s := S16) ![7] S1.size inb_S16_S1_7) (Shape.Idx.first (numel1_S1.symm ▸ Nat.one_pos)),
    View.ld x0 (Rect.unit (s := S16) ![8] S1.size inb_S16_S1_8) (Shape.Idx.first (numel1_S1.symm ▸ Nat.one_pos)),
    View.ld x0 (Rect.unit (s := S16) ![9] S1.size inb_S16_S1_9) (Shape.Idx.first (numel1_S1.symm ▸ Nat.one_pos)),
    View.ld x0 (Rect.unit (s := S16) ![10] S1.size inb_S16_S1_10) (Shape.Idx.first (numel1_S1.symm ▸ Nat.one_pos)),
    View.ld x0 (Rect.unit (s := S16) ![11] S1.size inb_S16_S1_11) (Shape.Idx.first (numel1_S1.symm ▸ Nat.one_pos)),
    View.ld x0 (Rect.unit (s := S16) ![12] S1.size inb_S16_S1_12) (Shape.Idx.first (numel1_S1.symm ▸ Nat.one_pos)),
    View.ld x0 (Rect.unit (s := S16) ![13] S1.size inb_S16_S1_13) (Shape.Idx.first (numel1_S1.symm ▸ Nat.one_pos)),
    View.ld x0 (Rect.unit (s := S16) ![14] S1.size inb_S16_S1_14) (Shape.Idx.first (numel1_S1.symm ▸ Nat.one_pos)),
    View.ld x0 (Rect.unit (s := S16) ![15] S1.size inb_S16_S1_15) (Shape.Idx.first (numel1_S1.symm ▸ Nat.one_pos))]

/-- The two zero offsets, spelt as a constant function. -/
theorem off00 : (![0, 0] : Fin 2 → Nat) = fun _ => 0 := by funext a; fin_cases a <;> rfl

/-- One store over the whole shape leaves what it stores. -/
theorem canon_whole {s : Shape} {e : EltTy} {off : Fin s.rank → Nat} (h : off = fun _ => 0) (inb : ∀ a, off a + s.size a ≤ s.size a) (w : s.Idx → Elt F e) :
    View.canon (Val := Elt F) [(⟨Rect.unit off s.size inb, w⟩ : View.Piece (Elt F) s e)] = w := View.canon_unit_zero h inb w

end Cert.KernelIdeal.Hand

end
-- ==== Proof.HandKernelIdeal.AmaxFirst.lean ====
module

public import proofs.«01_k».proof.Proof.HandKernelIdeal.Tiles
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the amax pass at a point, run on any staging buffers: what it leaves in each of them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the rotation matrix is built and kept in the scratch, the activations are rotated, the block maxima are written. -/
theorem sound0_A (c : Dev nD) (i : grid0.Coords) (arg1 : Memref sig .tc .smem S16 .f32) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S16x1536 .f32) (harg4 : arg4.IsWhole) (arg5 : Memref sig .tc .vmem S256x3072 .bf16) (harg5 : arg5.IsWhole) (arg6 : Memref sig .tc .vmem S256x256 .bf16) (harg6 : arg6.IsWhole)
    (x0 : Vec F S16 .f32) (x1 : Vec F S256x2880 .bf16) (x2 : Vec F S256x2880 .bf16) (hc : k0_cond1 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (iprop(owns (c : Thread nD τ) arg1 fullShare x0 ∗ owns (c : Thread nD τ) arg2 fullShare x1 ∗ owns (c : Thread nD τ) arg3 fullShare x2 ∗ owns (c : Thread nD τ) arg4 fullShare (View.canon (amaxPieces (rotTile (signs x0)) x2)) ∗ owns (c : Thread nD τ) arg5 fullShare (View.canon (xpPieces (rotTile (signs x0)) x1)) ∗ owns (c : Thread nD τ) arg6 fullShare (rotTile (signs x0))) -∗ K ⟨⟩))
      ⊢ wp frame (wpE (defs₀ (F := F)) Variants.none c none) E (cc0_amax_pass i arg1 harg1 arg2 harg2 arg3 harg3 arg4 harg4 arg5 harg5 arg6 harg6) K := by
  simp only [cc0_amax_pass_eq_skeleton]; unfold cc0_amax_pass_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  subst hf0; subst hf1; subst hf2
  sl_exec (disch := first | sl_exact hc)
  sl_step
  have hC : View.canon (sound0_A.sl.HS_1 c arg1 f0) = rotTile (signs (arg1.view.read (Elt F) f0)) := by
    unfold sound0_A.sl.HS_1
    refine (canon_whole off00 _ _).trans ?_
    sl_kernel_rfl
  have hR : sound0_A.sl.v425 c arg1 arg6 f0 = View.ld (rotTile (signs (arg1.view.read (Elt F) f0))) (Rect.unit (s := S256x256) ![0, 0] S256x256.size inb_S256x256_S256x256_0_0) :=
    (View.readCov_eq_canon_ld arg6.view (sound0_A.sl.HS_1 c arg1 f0) _ (View.cover_of_tiledL _ S256x256.size (by sl_kernel_rfl))).trans (by rw [hC])
  have hT : sound0_A.sl.v180 c arg1 arg6 f0 = View.ld (rotTile (signs (arg1.view.read (Elt F) f0))) (Rect.unit (s := S256x256) ![0, 0] S64x256.size inb_S256x256_S64x256_0_0) :=
    (View.readCov_eq_canon_ld arg6.view (sound0_A.sl.HS_1 c arg1 f0) _ (View.cover_of_tiledL _ S256x256.size (by sl_kernel_rfl))).trans (by rw [hC])
  have hX : sound0_A.sl.v491 c arg1 arg6 f0 = View.ld (rotTile (signs (arg1.view.read (Elt F) f0))) (Rect.unit (s := S256x256) ![0, 0] S64x256.size inb_S256x256_S64x256_0_0) :=
    (View.readCov_eq_canon_ld arg6.view (sound0_A.sl.HS_1 c arg1 f0) _ (View.cover_of_tiledL _ S256x256.size (by sl_kernel_rfl))).trans (by rw [hC])
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ ?_).trans ?_
    · exact View.cover_of_tiledL _ S16x128.size (by sl_kernel_rfl)
    refine Eq.trans (b := View.canon (amaxPiecesL (sound0_A.sl.v425 c arg1 arg6 f0) (sound0_A.sl.v180 c arg1 arg6 f0) (arg3.view.read (Elt F) f2))) (by sl_kernel_rfl) ?_
    rw [hR, hT]; rfl
  isplitl [H4]
  · iexists _; isplitr
    swap; · iexact H4
    ipureintro
    refine (View.read_writes_eq_canon _ _ _ ?_).trans ?_
    · exact View.cover_of_tiledL _ S256x256.size (by sl_kernel_rfl)
    refine Eq.trans (b := View.canon (xpPiecesL (sound0_A.sl.v425 c arg1 arg6 f0) (sound0_A.sl.v491 c arg1 arg6 f0) (arg2.view.read (Elt F) f1))) (by sl_kernel_rfl) ?_
    rw [hR, hX]; rfl
  iexists _; isplitr
  swap; · iexact HS
  ipureintro
  refine (View.read_writes_eq_canon _ _ _ ?_).trans hC
  exact View.cover_of_tiledL _ S256x256.size (by sl_kernel_rfl)

end Cert.KernelIdeal.Hand

end
-- ==== Proof.HandKernelIdeal.AmaxNext.lean ====
module

public import proofs.«01_k».proof.Proof.HandKernelIdeal.Tiles
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the amax pass at a point, run on any staging buffers: what it leaves in each of them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The twelve pieces cover the block-maxima block. -/
theorem amax_cover (R : Vec F S256x256 .bf16) (x2 : Vec F S256x2880 .bf16) (y : S16x1536.Idx) :
    ∃ pc ∈ amaxPieces R x2, y ∈ pc.1.set :=
  View.cover_of_tiledL (amaxPieces R x2) S16x128.size (by sl_kernel_rfl) y

/-- The twelve pieces cover the rotated activations. -/
theorem xp_cover (R : Vec F S256x256 .bf16) (x1 : Vec F S256x2880 .bf16) (y : S256x3072.Idx) :
    ∃ pc ∈ xpPieces R x1, y ∈ pc.1.set :=
  View.cover_of_tiledL (xpPieces R x1) S256x256.size (by sl_kernel_rfl) y

set_option maxHeartbeats 2000000 in
/-- A later point: the rotation matrix is read from the scratch, the block maxima are written. -/
theorem sound0_B (c : Dev nD) (i : grid0.Coords) (arg1 : Memref sig .tc .smem S16 .f32) (harg1 : arg1.IsWhole) (arg2 : Memref sig .tc .vmem S256x2880 .bf16) (harg2 : arg2.IsWhole) (arg3 : Memref sig .tc .vmem S256x2880 .bf16) (harg3 : arg3.IsWhole) (arg4 : Memref sig .tc .vmem S16x1536 .f32) (harg4 : arg4.IsWhole) (arg5 : Memref sig .tc .vmem S256x3072 .bf16) (harg5 : arg5.IsWhole) (arg6 : Memref sig .tc .vmem S256x256 .bf16) (harg6 : arg6.IsWhole)
    (x0 : Vec F S16 .f32) (x1 : Vec F S256x2880 .bf16) (x2 : Vec F S256x2880 .bf16) (R : Vec F S256x256 .bf16) (hc : ¬ (k0_cond1 i = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg6 fullShare R ∗ (iprop(owns (c : Thread nD τ) arg1 fullShare x0 ∗ owns (c : Thread nD τ) arg2 fullShare x1 ∗ owns (c : Thread nD τ) arg3 fullShare x2 ∗ owns (c : Thread nD τ) arg4 fullShare (View.canon (amaxPieces R x2)) ∗ owns (c : Thread nD τ) arg6 fullShare R) -∗ K ⟨⟩))
      ⊢ wp frame (wpE (defs₀ (F := F)) Variants.none c none) E (cc0_amax_pass i arg1 harg1 arg2 harg2 arg3 harg3 arg4 harg4 arg5 harg5 arg6 harg6) K := by
  simp only [cc0_amax_pass_eq_skeleton]; unfold cc0_amax_pass_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro; refine (View.read_writes_eq_canon _ _ _ (amax_cover _ _)).trans ?_; rfl
  iexists fs; isplitr; · ipureintro; rfl
  iexact HS

end Cert.KernelIdeal.Hand

end
-- ==== Proof.HandKernelIdeal.Region0.lean ====
module

public import proofs.«01_k».proof.Proof.HandKernelIdeal.AmaxFirst
public import proofs.«01_k».proof.Proof.HandKernelIdeal.AmaxNext
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The maxima pass as a pipelined region: what every staging buffer and the scratch hold around each point, and that the body keeps it so. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-- The block of window `w` at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input 0 holds its block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input 1 holds its block whenever the body runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input 2 holds its block whenever the body runs. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at a point, and that it is whole. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2880 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .bf16 := win0_4.stage (cfg0.slots t 4)
abbrev hs0_4 (t : Fin cfg0.N) : (ms0_4 t).IsWhole := hstage0_4 ((cfg0.slots t 4).cast nbuf0_4)
/-- A scratch buffer of the kernel. -/
abbrev scM0_0 : Memref sig .tc .vmem S256x256 .bf16 := Memref.whole cc0_scratch0

/-- The buffers beside the windows, with `S` in the place of the rotation matrix's scratch. -/
def Rest0 (c : Dev nD) (S : sProp 𝕄) : sProp 𝕄 :=
  iprop(S ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))

/-- The invariant of the frame, its first scratch named. -/
theorem PhiA0_eq (c : Dev nD) :
    (Pipeline.ΦA spec0 c : sProp 𝕄) = iprop(Rest0 c iprop(∃ d, owns (c : Thread nD τ) scM0_0 fullShare d) ∗ (∃ r, prngReg c r)) := by
  unfold Pipeline.ΦA; rw [scopedRest0_eq]; unfold Rest0; simp only [scM0_0, owns_whole]; try rfl

/-- The first point. -/
def t0_0 : Fin cfg0.N := ⟨0, by rw [show cfg0.N = 45 from N_0]; decide⟩

theorem eq_t0_0 (t : Fin cfg0.N) (h : t.val = 0) : t = t0_0 := Fin.ext h

/-- The rotation matrix the scratch keeps: that of the signs found at the first point. -/
def rot0 (c : Dev nD) : Vec F S256x256 .bf16 := rotTile (signs (iblk0 V c 0 t0_0))

/-- The invariant: before the first point the scratch may hold anything; afterwards it holds the rotation matrix. -/
def Phi0 (c : Dev nD) (t : Fin (cfg0.N + 1)) : sProp 𝕄 :=
  if t.val = 0 then Pipeline.ΦA spec0 c else iprop(Rest0 c iprop(owns (c : Thread nD τ) scM0_0 fullShare (rot0 V c)) ∗ (∃ r, prngReg c r))

/-- What each window's buffer holds after the body at a point, and the invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => View.canon (amaxPieces (rot0 V c) (iblk0 V c 2 t))
    | ⟨4, _⟩ => View.canon (xpPieces (rot0 V c) (iblk0 V c 1 t0_0))
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = View.canon (amaxPieces (rot0 V c) (iblk0 V c 2 t)) := by dsimp only [dat0]
theorem after0_4 (c : Dev nD) (t : Fin cfg0.N) : (dat0 V c).after 4 t = View.canon (xpPieces (rot0 V c) (iblk0 V c 1 t0_0)) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The kernel's test for the first point. -/
theorem hcond0 (t : Fin cfg0.N) : (k0_cond1 (grid0.coords t) = 1#1) ↔ t.val = 0 := by
  have ht : t.val < 45 := Nat.lt_of_lt_of_eq t.isLt N_0
  have e0 : (grid0.coords t 0).val = t.val / 1 % 45 := Pipeline.Grid.coords_val t 0 (by decide) rfl
  have e1 : (grid0.coords t 0).val = t.val := by omega
  unfold k0_cond1
  simp only [e1]
  generalize t.val = n at ht
  revert n
  decide +kernel

/-- Whether the rotated activations' buffer is left alone at a point. -/
theorem idle0_4 (t : Fin cfg0.N) : cfg0.idle 4 (cfg0.grid.coords t) = decide (t.val ≠ 0) := by
  have h : cfg0.idle 4 (cfg0.grid.coords t) = !(k0_cond1 (grid0.coords t) == 1#1) := rfl
  rw [h, Bool.eq_iff_iff, decide_eq_true_iff, Ne, ← hcond0 t]
  simp

/-- The rotated activations are written back at the last point only. -/
theorem flush0_4' (t : Fin cfg0.N) : (cfg0.win 4).flush t = decide (t.val % 45 = 44) := by
  rw [Bool.eq_iff_iff, decide_eq_true_iff, flush0_4]

/-- Between the first point and the last write-back the buffer holds what the body stored. -/
theorem fresh0_4 (t : Fin cfg0.N) (ht : t.val ≠ 0) : cfg0.fresh 4 t.val = false := by
  have hN : cfg0.N = 45 := N_0
  have key := cfg0.fresh_tab 4 (fun n => n == 0 || n == 45) rfl (fun t => by
    have ht : t.val < 45 := hN ▸ t.isLt
    rw [flush0_4', idle0_4]
    generalize t.val = n at ht
    revert n
    decide +kernel) t.val (Nat.le_of_lt t.isLt)
  rw [key]
  have ht' : t.val < 45 := hN ▸ t.isLt
  have h1 : (t.val == 0) = false := by simpa using ht
  have h2 : (t.val == 45) = false := by simp; omega
  rw [h1, h2]; rfl

/-- What the body leaves in the rotated activations' buffer. -/
def leaves0_4 (c : Dev nD) (t : Fin cfg0.N) : sProp 𝕄 :=
  match cfg0.idle 4 (cfg0.grid.coords t) with
  | true =>
    match (cfg0.win 4).flush t with
    | false => iprop(∃ d, owns (c : Thread nD τ) ((cfg0.win 4).stage (cfg0.slots t 4)) fullShare ((dat0 V c).before 4 t d))
    | true => owns (c : Thread nD τ) ((cfg0.win 4).stage (cfg0.slots t 4)) fullShare ((dat0 V c).after 4 t)
  | false => owns (c : Thread nD τ) ((cfg0.win 4).stage (cfg0.slots t 4)) fullShare ((dat0 V c).after 4 t)

theorem leaves0_4_zero (c : Dev nD) (t : Fin cfg0.N) (ht : t.val = 0) :
    leaves0_4 V c t = owns (c : Thread nD τ) (ms0_4 t) fullShare ((dat0 V c).after 4 t) := by
  have hi : cfg0.idle 4 (cfg0.grid.coords t) = false := by rw [idle0_4]; simp [ht]
  unfold leaves0_4; rw [hi]

theorem before0_4 (c : Dev nD) (t : Fin cfg0.N) (ht : t.val ≠ 0) (d) :
    (dat0 V c).before 4 t d = (dat0 V c).after 4 t := by
  rw [(dat0 V c).before_out_traj 4 rfl (fun _ _ => rfl) (fun t _ _ _ => by rw [after0_4, after0_4]) t.val t rfl d, fresh0_4 t ht, after0_4, if_neg Bool.false_ne_true]
  rw [after0_4]

theorem keep0_4 (c : Dev nD) (t : Fin cfg0.N) (ht : t.val ≠ 0) (d) :
    (owns (c : Thread nD τ) (ms0_4 t) fullShare ((dat0 V c).before 4 t d) : sProp 𝕄) ⊢ leaves0_4 V c t := by
  have hi : cfg0.idle 4 (cfg0.grid.coords t) = true := by rw [idle0_4]; simp [ht]
  unfold leaves0_4; rw [hi]
  cases hf : (cfg0.win 4).flush t
  · dsimp only
    iintro H; iexists d; iexact H
  · dsimp only
    rw [before0_4 V c t ht d]

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ leaves0_4 V c t)

theorem Phi0_succ (c : Dev nD) (t : Fin cfg0.N) : (dat0 V c).Φ t.succ = iprop(Rest0 c iprop(owns (c : Thread nD τ) scM0_0 fullShare (rot0 V c)) ∗ (∃ r, prngReg c r)) := by
  show Phi0 V c t.succ = _
  unfold Phi0
  rw [if_neg (by rw [Fin.val_succ]; exact Nat.succ_ne_zero _)]

theorem Phi0_zero (c : Dev nD) (t : Fin cfg0.N) (ht : t.val = 0) : (dat0 V c).Φ t.castSucc = Pipeline.ΦA spec0 c := by
  show Phi0 V c t.castSucc = _
  unfold Phi0
  rw [if_pos (by rw [Fin.val_castSucc]; exact ht)]

theorem Phi0_pos (c : Dev nD) (t : Fin cfg0.N) (ht : t.val ≠ 0) : (dat0 V c).Φ t.castSucc = iprop(Rest0 c iprop(owns (c : Thread nD τ) scM0_0 fullShare (rot0 V c)) ∗ (∃ r, prngReg c r)) := by
  show Phi0 V c t.castSucc = _
  unfold Phi0
  rw [if_neg (by rw [Fin.val_castSucc]; exact ht)]

set_option maxHeartbeats 2000000 in
/-- The body at the first point. -/
theorem sound_body0_first (c : Dev nD) (t : Fin cfg0.N) (ht : t.val = 0) :
    bodyPre0 V c t ⊢ wp frame (wpE (defs₀ (F := F)) Variants.none c none) Set.univ (bodyAt0 t) (fun _ => bodyPost0 V c t) := by
  have hr : rot0 V c = rotTile (signs (iblk0 V c 0 t)) := by rw [eq_t0_0 t ht]; rfl
  unfold bodyPre0 bodyPost0 bodyAt0
  simp only [before0_0, before0_1, before0_2]
  rw [Phi0_succ, Phi0_zero V c t ht, show (dat0 V c).owesAt () t.succ = (dat0 V c).owesAt () t.castSucc from rfl, leaves0_4_zero V c t ht, after0_0, after0_1, after0_2, after0_3, after0_4]
  rw [PhiA0_eq, hr]
  rw [← eq_t0_0 t ht]
  unfold Rest0
  iintro ⟨⟨⟨HS, HR1, HR2, HR3, HR4, HR5, HR6, HR7, HR8, HR9, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩⟩
  iapply (sound0_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) ((hcond0 t).mpr ht) Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS HR1 HR2 HR3 HR4 HR5 HR6 HR7 HR8 HR9 HR10 HR11 HR12 HR13 HR14 HR15 HR16 HR17 HR18 HR19 HR20 HR21 HR22 Hg]
  · isplitl [HS HR1 HR2 HR3 HR4 HR5 HR6 HR7 HR8 HR9 HR10 HR11 HR12 HR13 HR14 HR15 HR16 HR17 HR18 HR19 HR20 HR21 HR22]
    · isplitl [HS]; · iexact HS
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexact HR22
    iexact Hg
  isplitl [Ho]; · iexact Ho
  isplitl [H0]; · iexact H0
  isplitl [H1]; · iexact H1
  isplitl [H2]; · iexact H2
  isplitl [H3]; · iexact H3
  iexact H4

set_option maxHeartbeats 2000000 in
/-- The body at a later point. -/
theorem sound_body0_next (c : Dev nD) (t : Fin cfg0.N) (ht : t.val ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [Phi0_succ, Phi0_pos V c t ht, show (dat0 V c).owesAt () t.succ = (dat0 V c).owesAt () t.castSucc from rfl, after0_0, after0_1, after0_2, after0_3]
  unfold Rest0
  iintro ⟨⟨⟨HS, HR1, HR2, HR3, HR4, HR5, HR6, HR7, HR8, HR9, HR10, HR11, HR12, HR13, HR14, HR15, HR16, HR17, HR18, HR19, HR20, HR21, HR22⟩, Hg⟩, Ho, ⟨%d0, H0⟩, ⟨%d1, H1⟩, ⟨%d2, H2⟩, ⟨%d3, H3⟩, ⟨%d4, H4⟩⟩
  iapply (sound0_B c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) (rot0 V c) (fun h => ht ((hcond0 t).mp h)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR1 HR2 HR3 HR4 HR5 HR6 HR7 HR8 HR9 HR10 HR11 HR12 HR13 HR14 HR15 HR16 HR17 HR18 HR19 HR20 HR21 HR22 Hg]
  · isplitl [HS HR1 HR2 HR3 HR4 HR5 HR6 HR7 HR8 HR9 HR10 HR11 HR12 HR13 HR14 HR15 HR16 HR17 HR18 HR19 HR20 HR21 HR22]
    · isplitl [HS]; · iexact HS
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexact HR22
    iexact Hg
  isplitl [Ho]; · iexact Ho
  isplitl [H0]; · iexact H0
  isplitl [H1]; · iexact H1
  isplitl [H2]; · iexact H2
  isplitl [H3]; · iexact H3
  iapply (keep0_4 V c t ht d4); iexact H4

theorem sound_body0 (c : Dev nD) (t : Fin cfg0.N) :
    bodyPre0 V c t ⊢ wp frame (wpE (defs₀ (F := F)) Variants.none c none) Set.univ (bodyAt0 t) (fun _ => bodyPost0 V c t) := by
  by_cases ht : t.val = 0
  · exact sound_body0_first V c t ht
  · exact sound_body0_next V c t ht

theorem defs₀_row0 (t : Fin cfg0.N) :
    defs₀ (F := F) .tc cfg0.body (cfg0.bodyArgs t (cfg0.slots t)) = bodyAt0 t := by
  unfold defs₀; rw [Defs.onTc_tc]

/-- The body keeps the pipeline's invariant at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point nothing is asked of the scratch, -/
theorem hin0 (c : Dev nD) : (Pipeline.ΦA spec0 c : sProp 𝕄) ⊢ (dat0 V c).Φ 0 := by
  show _ ⊢ Phi0 V c 0
  unfold Phi0
  rw [if_pos (by rfl)]

/-- and after the last one its contents are forgotten. -/
theorem hout0 (c : Dev nD) : (dat0 V c).Φ (Fin.last cfg0.N) ⊢ (Pipeline.ΦA spec0 c : sProp 𝕄) := by
  show Phi0 V c (Fin.last cfg0.N) ⊢ _
  unfold Phi0
  rw [if_neg (by rw [Fin.val_last]; have : cfg0.N = 45 := N_0; omega), PhiA0_eq]
  unfold Rest0
  iintro ⟨⟨HS, HR1, HR2, HR3, HR4, HR5, HR6, HR7, HR8, HR9, HR10, HR11, HR12, HR13, HR14, HR15, HR16, HR17, HR18, HR19, HR20, HR21, HR22⟩, Hg⟩
  isplitl [HS HR1 HR2 HR3 HR4 HR5 HR6 HR7 HR8 HR9 HR10 HR11 HR12 HR13 HR14 HR15 HR16 HR17 HR18 HR19 HR20 HR21 HR22]
  · isplitl [HS]; · iexists _; iexact HS
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    iexact HR22
  iexact Hg

end Cert.KernelIdeal.Hand

end
-- ==== Proof.HandKernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The pass that turns block maxima into scales, as a region of one point. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input 0 holds its block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S720x1536 := Rect.unit (s := S720x1536) ![0, 0] S720x1536.size inb_S720x1536_S720x1536_0_0
abbrev r1_1 : Rect S1x1 := Rect.unit (s := S1x1) ![0, 0] S1x1.size inb_S1x1_S1x1_0_0
abbrev r1_2 : Rect S720x1536 := Rect.unit (s := S720x1536) ![0, 0] S720x128.size inb_S720x1536_S720x128_0_0
abbrev r1_3 : Rect S720x1536 := Rect.unit (s := S720x1536) ![0, 128] S720x128.size inb_S720x1536_S720x128_0_128
abbrev r1_4 : Rect S720x1536 := Rect.unit (s := S720x1536) ![0, 256] S720x128.size inb_S720x1536_S720x128_0_256
abbrev r1_5 : Rect S720x1536 := Rect.unit (s := S720x1536) ![0, 384] S720x128.size inb_S720x1536_S720x128_0_384
abbrev r1_6 : Rect S720x1536 := Rect.unit (s := S720x1536) ![0, 512] S720x128.size inb_S720x1536_S720x128_0_512
abbrev r1_7 : Rect S720x1536 := Rect.unit (s := S720x1536) ![0, 640] S720x128.size inb_S720x1536_S720x128_0_640
abbrev r1_8 : Rect S720x1536 := Rect.unit (s := S720x1536) ![0, 768] S720x128.size inb_S720x1536_S720x128_0_768
abbrev r1_9 : Rect S720x1536 := Rect.unit (s := S720x1536) ![0, 896] S720x128.size inb_S720x1536_S720x128_0_896
abbrev r1_10 : Rect S720x1536 := Rect.unit (s := S720x1536) ![0, 1024] S720x128.size inb_S720x1536_S720x128_0_1024
abbrev r1_11 : Rect S720x1536 := Rect.unit (s := S720x1536) ![0, 1152] S720x128.size inb_S720x1536_S720x128_0_1152
abbrev r1_12 : Rect S720x1536 := Rect.unit (s := S720x1536) ![0, 1280] S720x128.size inb_S720x1536_S720x128_0_1280
abbrev r1_13 : Rect S720x1536 := Rect.unit (s := S720x1536) ![0, 1408] S720x128.size inb_S720x1536_S720x128_0_1408
abbrev r1_14 : Rect S720x180 := Rect.unit (s := S720x180) ![0, 0] S720x180.size inb_S720x180_S720x180_0_0

/-! ## What the body leaves in each output window's buffer -/

/-! ### Values of the body that the stores' payloads, spelt out, would write more than once

    Each is a vector the body binds (often a part call's result), stated over the input windows' blocks and
    numbered on from the skeleton's payload functions (`k1_pay49` …, after `k1_pay48`), so that
    `out1_W` and the values after it name it instead of spelling it out (`unfold_out out1_W` opens a canon
    with them, `unfold_payloads` opens them with the payloads); the comment after each is the printed function's
    name for the value (a count appended where that name is bound again). -/

def k1_pay49 (x0 : Vec F S720x1536 .f32) : IVec S128x128 32 :=
  iota .tc S128x128 32 [0] iota_S128x128_d0_w32 -- `v37`
def k1_pay50 (x0 : Vec F S720x1536 .f32) : IVec S128x128 32 :=
  iota .tc S128x128 32 [1] iota_S128x128_d1_w32 -- `v38`
def k1_pay51 (x0 : Vec F S720x1536 .f32) : FVec F S720x1536 .bf16 :=
  k1_pay5 (View.ld x0 r1_0) -- `v36`
def k1_pay52 (x0 : Vec F S720x1536 .f32) : IVec S128x128 32 :=
  k1_pay6 -- `v40`
def k1_pay53 (x0 : Vec F S720x1536 .f32) : FVec F S128x128 .bf16 :=
  k1_pay7 (F := F) (k1_pay49 x0) (k1_pay50 x0) 8#32 (k1_pay52 x0) 0#32 -- `v72`
def k1_pay54 (x0 : Vec F S720x1536 .f32) : FVec F S720x128 .f32 :=
  constant S720x128 .f32 0x00000000#32 -- `cst_45`
def k1_pay55 (x0 : Vec F S720x1536 .f32) : FVec F S720x128 .bf16 :=
  k1_pay17 (k1_pay51 x0) -- `v118`

/-- Window 1's staging buffer after the body, from the input windows' blocks: its 12 stores as pieces, LAST
    FIRST (Lib/Pipeline/FrameBody.lean `View.canon`; the payloads are the skeleton's and the values stated above). -/
def out1_1 (x0 : Vec F S720x1536 .f32) : Vec F S720x1536 .f32 :=
  View.canon [⟨r1_13, k1_pay46 (k1_pay3 (View.ld x0 r1_0)) (k1_pay51 x0) (k1_pay53 x0)⟩,
    ⟨r1_12, k1_pay43 (k1_pay3 (View.ld x0 r1_0)) (k1_pay51 x0) (k1_pay53 x0)⟩,
    ⟨r1_11, k1_pay40 (k1_pay3 (View.ld x0 r1_0)) (k1_pay51 x0) (k1_pay53 x0)⟩,
    ⟨r1_10, k1_pay37 (k1_pay3 (View.ld x0 r1_0)) (k1_pay51 x0) (k1_pay53 x0)⟩,
    ⟨r1_9, k1_pay34 (k1_pay3 (View.ld x0 r1_0)) (k1_pay51 x0) (k1_pay53 x0)⟩,
    ⟨r1_8, k1_pay31 (k1_pay3 (View.ld x0 r1_0)) (k1_pay51 x0) (k1_pay53 x0)⟩,
    ⟨r1_7, k1_pay28 (k1_pay25 (k1_pay3 (View.ld x0 r1_0)) (k1_pay51 x0) (k1_pay53 x0)) (k1_pay26 (k1_pay3 (View.ld x0 r1_0)) (k1_pay51 x0) (k1_pay53 x0)) (k1_pay27 (F := F))⟩,
    ⟨r1_6, k1_pay22 (k1_pay3 (View.ld x0 r1_0)) (k1_pay51 x0) (k1_pay53 x0)⟩,
    ⟨r1_5, k1_pay19 (k1_pay3 (View.ld x0 r1_0)) (k1_pay53 x0) (k1_pay55 x0) (k1_pay54 x0)⟩,
    ⟨r1_4, k1_pay15 (k1_pay3 (View.ld x0 r1_0)) (k1_pay51 x0) (k1_pay53 x0)⟩,
    ⟨r1_3, k1_pay12 (k1_pay3 (View.ld x0 r1_0)) (k1_pay51 x0) (k1_pay53 x0)⟩,
    ⟨r1_2, k1_pay9 (k1_pay3 (View.ld x0 r1_0)) (k1_pay51 x0) (k1_pay49 x0) (k1_pay50 x0) 8#32 (k1_pay52 x0) 0#32⟩]

/-- Its stores tile the buffer (checked by evaluation), so they cover it. -/
theorem cover1_1 (p0 : Vec F S720x128 .f32) (p1 : Vec F S720x128 .f32) (p2 : Vec F S720x128 .f32) (p3 : Vec F S720x128 .f32) (p4 : Vec F S720x128 .f32) (p5 : Vec F S720x128 .f32) (p6 : Vec F S720x128 .f32) (p7 : Vec F S720x128 .f32) (p8 : Vec F S720x128 .f32) (p9 : Vec F S720x128 .f32) (p10 : Vec F S720x128 .f32) (p11 : Vec F S720x128 .f32) (y : S720x1536.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S720x1536 .f32)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S720x128.size (by rfl) y

/-- Window 2's staging buffer after the body, from the input windows' blocks: its 1 store as pieces, LAST
    FIRST (Lib/Pipeline/FrameBody.lean `View.canon`; the payloads are the skeleton's and the values stated above). -/
def out1_2 (x0 : Vec F S720x1536 .f32) : Vec F S720x180 .fp8e4m3 :=
  View.canon [⟨r1_14, k1_pay1 (k1_pay51 x0) (iota .tc S1536x180 32 [0] iota_S1536x180_d0_w32) k1_pay48⟩]

/-- Its stores tile the buffer (checked by evaluation), so they cover it. -/
theorem cover1_2 (p0 : Vec F S720x180 .fp8e4m3) (y : S720x180.Idx) :
    ∃ pc ∈ ([⟨r1_14, p0⟩] : List (View.Piece (Elt F) S720x180 .fp8e4m3)), y ∈ pc.1.set :=
  View.cover_of_tiled [⟨r1_14, p0⟩] S720x180.size (by rfl) y

/-- Window 3's staging buffer after the body, from the input windows' blocks: its 12 stores as pieces, LAST
    FIRST (Lib/Pipeline/FrameBody.lean `View.canon`; the payloads are the skeleton's and the values stated above). -/
def out1_3 (x0 : Vec F S720x1536 .f32) : Vec F S720x1536 .bf16 :=
  View.canon [⟨r1_13, k1_pay47 (k1_pay51 x0) (k1_pay53 x0)⟩,
    ⟨r1_12, k1_pay44 (k1_pay51 x0) (k1_pay53 x0)⟩,
    ⟨r1_11, k1_pay41 (k1_pay51 x0) (k1_pay53 x0)⟩,
    ⟨r1_10, k1_pay38 (k1_pay51 x0) (k1_pay53 x0)⟩,
    ⟨r1_9, k1_pay35 (k1_pay33 (k1_pay51 x0) (k1_pay53 x0))⟩,
    ⟨r1_8, k1_pay32 (k1_pay51 x0) (k1_pay53 x0)⟩,
    ⟨r1_7, k1_pay29 (k1_pay24 (k1_pay51 x0) (k1_pay53 x0))⟩,
    ⟨r1_6, k1_pay23 (k1_pay51 x0) (k1_pay53 x0)⟩,
    ⟨r1_5, k1_pay20 (k1_pay53 x0) (k1_pay55 x0) (k1_pay54 x0)⟩,
    ⟨r1_4, k1_pay16 (k1_pay51 x0) (k1_pay53 x0)⟩,
    ⟨r1_3, k1_pay13 (k1_pay51 x0) (k1_pay53 x0)⟩,
    ⟨r1_2, k1_pay10 (k1_pay8 (k1_pay51 x0) (k1_pay49 x0) (k1_pay50 x0) 8#32 (k1_pay52 x0) 0#32)⟩]

/-- Its stores tile the buffer (checked by evaluation), so they cover it. -/
theorem cover1_3 (p0 : Vec F S720x128 .bf16) (p1 : Vec F S720x128 .bf16) (p2 : Vec F S720x128 .bf16) (p3 : Vec F S720x128 .bf16) (p4 : Vec F S720x128 .bf16) (p5 : Vec F S720x128 .bf16) (p6 : Vec F S720x128 .bf16) (p7 : Vec F S720x128 .bf16) (p8 : Vec F S720x128 .bf16) (p9 : Vec F S720x128 .bf16) (p10 : Vec F S720x128 .bf16) (p11 : Vec F S720x128 .bf16) (y : S720x1536.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] : List (View.Piece (Elt F) S720x1536 .bf16)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩, ⟨r1_5, p8⟩, ⟨r1_4, p9⟩, ⟨r1_3, p10⟩, ⟨r1_2, p11⟩] S720x128.size (by rfl) y

/-- Window 4's staging buffer after the body, from the input windows' blocks: its 1 store as pieces, LAST
    FIRST (Lib/Pipeline/FrameBody.lean `View.canon`; the payloads are the skeleton's and the values stated above). -/
def out1_4 (x0 : Vec F S720x1536 .f32) : Vec F S1x1 .f32 :=
  View.canon [⟨r1_1, k1_pay4 (View.ld x0 r1_0)⟩]

/-- Its stores tile the buffer (checked by evaluation), so they cover it. -/
theorem cover1_4 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S720x1536 .f32) (harg0 : arg0.IsWhole) (arg1 : Memref sig .tc .vmem S720x1536 .f32) (harg1 : arg1.IsWhole) (arg2 : Memref sig .tc .vmem S720x180 .fp8e4m3) (harg2 : arg2.IsWhole) (arg3 : Memref sig .tc .vmem S720x1536 .bf16) (harg3 : arg3.IsWhole) (arg4 : Memref sig .tc .vmem S1x1 .f32) (harg4 : arg4.IsWhole)
    (x0 : Vec F S720x1536 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare (out1_1 x0) ∗ owns (c : Thread nD τ) arg2 fullShare (out1_2 x0) ∗ owns (c : Thread nD τ) arg3 fullShare (out1_3 x0) ∗ owns (c : Thread nD τ) arg4 fullShare (out1_4 x0)) -∗ K ⟨⟩))
      ⊢ wp frame (wpE (defs₀ (F := F)) Variants.none c none) E (cc1_scale_pass arg0 harg0 arg1 harg1 arg2 harg2 arg3 harg3 arg4 harg4) K := by
  simp only [cc1_scale_pass_eq_skeleton]; unfold cc1_scale_pass_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover1_1 _ _ _ _ _ _ _ _ _ _ _ _)).trans ?_
    rfl
  isplitl [H2]
  · iexists _; isplitr
    swap; · iexact H2
    ipureintro
    refine (View.read_writes_eq_canon _ _ _ (cover1_2 _)).trans ?_
    rfl
  isplitl [H3]
  · iexists _; isplitr
    swap; · iexact H3
    ipureintro
    refine (View.read_writes_eq_canon _ _ _ (cover1_3 _ _ _ _ _ _ _ _ _ _ _ _)).trans ?_
    rfl
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
    | ⟨3, _⟩ => out1_3 (iblk1 V c 0 t)
    | ⟨4, _⟩ => out1_4 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) := by dsimp only [dat1]
theorem after1_4 (c : Dev nD) (t : Fin cfg1.N) : (dat1 V c).after 4 t = out1_4 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.HandKernelIdeal.QuantFirst.lean ====
module

public import proofs.«01_k».proof.Proof.HandKernelIdeal.Tiles
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the quantising pass at the first point, run on any staging buffers: what it leaves in each of them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point: the rotation matrix is built and kept in the scratch; the tile is quantised, packed and multiplied. -/
theorem sound2_A (c : Dev nD) (i : grid2.Coords) (arg1 : Memref sig .tc .smem S16 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S256x2880 .bf16) (harg4 : arg4.IsWhole) (arg5 : Memref sig .tc .vmem S16x1536 .f32) (harg5 : arg5.IsWhole) (arg6 : Memref sig .tc .vmem S16x1536 .bf16) (harg6 : arg6.IsWhole) (arg7 : Memref sig .tc .vmem S256x256 .bf16) (harg7 : arg7.IsWhole) (arg8 : Memref sig .tc .vmem S256x1440 .i8) (harg8 : arg8.IsWhole) (arg9 : Memref sig .tc .vmem S2880x128 .i8) (harg9 : arg9.IsWhole) (arg10 : Memref sig .tc .vmem S256x256 .bf16) (harg10 : arg10.IsWhole) (arg11 : Memref sig .tc .vmem S256x3072 .bf16) (harg11 : arg11.IsWhole)
    (x0 : Vec F S16 .f32) (x1 : Vec F S1 .f32) (x2 : Vec F S256x3072 .bf16) (x3 : Vec F S256x2880 .bf16) (x4 : Vec F S16x1536 .f32) (x5 : Vec F S16x1536 .bf16) (hc : (Scalar.cmpi .ne (Scalar.extui (Scalar.cmpi .eq (BitVec.ofNat 32 (i 0).val) 0#32)) 0#32 = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yTile (rotTile (signs x0)) x1 x2 x3 x4 x5) ∗ owns (c : Thread nD τ) arg8 fullShare (View.canon (ckPieces (rotTile (signs x0)) x3 x4)) ∗ owns (c : Thread nD τ) arg9 fullShare (View.canon (cnPieces (rotTile (signs x0)) x3 x4)) ∗ owns (c : Thread nD τ) arg10 fullShare (rotTile (signs x0)) ∗ (∃ d, owns (c : Thread nD τ) arg11 fullShare d)) -∗ K ⟨⟩))
      ⊢ wp frame (wpE (defs₀ (F := F)) Variants.none c none) E (cc2_quant_pass i arg1 harg1 arg2 harg2 arg3 harg3 arg4 harg4 arg5 harg5 arg6 harg6 arg7 harg7 arg8 harg8 arg9 harg9 arg10 harg10 arg11 harg11) K := by
  simp only [cc2_quant_pass_eq_skeleton]; unfold cc2_quant_pass_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, ⟨%dw, %fw, -, HW⟩, Hk⟩
  subst hf0; subst hf1; subst hf2; subst hf3; subst hf4; subst hf5
  sl_exec (disch := first | sl_exact hc)
  sl_step
  have hC : View.canon (sound2_A.sl.HS_1 c arg1 f0) = rotTile (signs (arg1.view.read (Elt F) f0)) := by
    unfold sound2_A.sl.HS_1
    refine (canon_whole off00 _ _).trans ?_
    sl_kernel_rfl
  have hR : sound2_A.sl.v10 c arg1 arg10 f0 = View.ld (rotTile (signs (arg1.view.read (Elt F) f0))) (Rect.unit (s := S256x256) ![0, 0] S256x256.size inb_S256x256_S256x256_0_0) :=
    (View.readCov_eq_canon_ld arg10.view (sound2_A.sl.HS_1 c arg1 f0) _ (View.cover_of_tiledL _ S256x256.size (by sl_kernel_rfl))).trans (by rw [hC])
  have hT : sound2_A.sl.v1275 c arg1 arg10 f0 = View.ld (rotTile (signs (arg1.view.read (Elt F) f0))) (Rect.unit (s := S256x256) ![0, 0] S64x256.size inb_S256x256_S64x256_0_0) :=
    (View.readCov_eq_canon_ld arg10.view (sound2_A.sl.HS_1 c arg1 f0) _ (View.cover_of_tiledL _ S256x256.size (by sl_kernel_rfl))).trans (by rw [hC])
  have hW : sound2_A.sl.v1387 c arg1 arg4 arg5 arg6 arg10 arg11 f0 f3 f4 f5 = View.ld (wdOf (rotTile (signs (arg1.view.read (Elt F) f0))) (arg4.view.read (Elt F) f3) (arg5.view.read (Elt F) f4) (arg6.view.read (Elt F) f5)) (Rect.unit (s := S256x3072) ![0, 0] S256x3072.size inb_S256x3072_S256x3072_0_0) := by
    refine (View.readCov_eq_canon_ld arg11.view _ _ (View.cover_of_tiledL _ S256x256.size (by sl_kernel_rfl))).trans ?_
    refine congrArg (fun z => View.ld z _) ?_
    unfold wdOf
    refine Eq.trans (b := View.canon (wdPiecesL (sound2_A.sl.v10 c arg1 arg10 f0) (sound2_A.sl.v1275 c arg1 arg10 f0) (arg4.view.read (Elt F) f3) (arg5.view.read (Elt F) f4) (arg6.view.read (Elt F) f5))) (by sl_kernel_rfl) ?_
    rw [hR, hT]; rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ ?_).trans ?_
    · exact View.cover_of_tiledL _ S256x256.size (by sl_kernel_rfl)
    refine (canon_whole off00 _ _).trans ?_
    rw [hW]
    rfl
  isplitl [H7]
  · iexists _; isplitr
    swap; · iexact H7
    ipureintro
    refine (View.read_writes_eq_canon _ _ _ ?_).trans ?_
    · exact View.cover_of_tiledBy _ ![256, 32] (by sl_kernel_rfl)
    refine Eq.trans (b := View.canon (ckPiecesL (sound2_A.sl.v10 c arg1 arg10 f0) (sound2_A.sl.v1275 c arg1 arg10 f0) (arg4.view.read (Elt F) f3) (arg5.view.read (Elt F) f4))) (by sl_kernel_rfl) ?_
    rw [hR, hT]; rfl
  isplitl [H8]
  · iexists _; isplitr
    swap; · iexact H8
    ipureintro
    refine (View.read_writes_eq_canon _ _ _ ?_).trans ?_
    · exact View.cover_of_tiledBy _ ![64, 128] (by sl_kernel_rfl)
    refine Eq.trans (b := View.canon (cnPiecesL (sound2_A.sl.v10 c arg1 arg10 f0) (sound2_A.sl.v1275 c arg1 arg10 f0) (arg4.view.read (Elt F) f3) (arg5.view.read (Elt F) f4))) (by sl_kernel_rfl) ?_
    rw [hR, hT]; rfl
  isplitl [HS]
  · iexists _; isplitr
    swap; · iexact HS
    ipureintro
    refine (View.read_writes_eq_canon _ _ _ ?_).trans hC
    exact View.cover_of_tiledL _ S256x256.size (by sl_kernel_rfl)
  iexists _; iexists _; isplitr
  swap; · iexact HW
  ipureintro; rfl

end Cert.KernelIdeal.Hand

end
-- ==== Proof.HandKernelIdeal.QuantNext.lean ====
module

public import proofs.«01_k».proof.Proof.HandKernelIdeal.Tiles
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

/-! The body of the quantising pass at a later point, run on any staging buffers: what it leaves in each of them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A later point: the rotation matrix is read from the scratch; the tile is quantised, packed and multiplied. -/
theorem sound2_B (c : Dev nD) (i : grid2.Coords) (arg1 : Memref sig .tc .smem S16 .f32) (harg1 : arg1.IsWhole) (arg2 : Memref sig .tc .smem S1 .f32) (harg2 : arg2.IsWhole) (arg3 : Memref sig .tc .vmem S256x3072 .bf16) (harg3 : arg3.IsWhole) (arg4 : Memref sig .tc .vmem S256x2880 .bf16) (harg4 : arg4.IsWhole) (arg5 : Memref sig .tc .vmem S16x1536 .f32) (harg5 : arg5.IsWhole) (arg6 : Memref sig .tc .vmem S16x1536 .bf16) (harg6 : arg6.IsWhole) (arg7 : Memref sig .tc .vmem S256x256 .bf16) (harg7 : arg7.IsWhole) (arg8 : Memref sig .tc .vmem S256x1440 .i8) (harg8 : arg8.IsWhole) (arg9 : Memref sig .tc .vmem S2880x128 .i8) (harg9 : arg9.IsWhole) (arg10 : Memref sig .tc .vmem S256x256 .bf16) (harg10 : arg10.IsWhole) (arg11 : Memref sig .tc .vmem S256x3072 .bf16) (harg11 : arg11.IsWhole)
    (x0 : Vec F S16 .f32) (x1 : Vec F S1 .f32) (x2 : Vec F S256x3072 .bf16) (x3 : Vec F S256x2880 .bf16) (x4 : Vec F S16x1536 .f32) (x5 : Vec F S16x1536 .bf16) (R : Vec F S256x256 .bf16) (hc : ¬ (Scalar.cmpi .ne (Scalar.extui (Scalar.cmpi .eq (BitVec.ofNat 32 (i 0).val) 0#32)) 0#32 = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare R ∗ (∃ d, owns (c : Thread nD τ) arg11 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yTile R x1 x2 x3 x4 x5) ∗ owns (c : Thread nD τ) arg8 fullShare (View.canon (ckPieces R x3 x4)) ∗ owns (c : Thread nD τ) arg9 fullShare (View.canon (cnPieces R x3 x4)) ∗ owns (c : Thread nD τ) arg10 fullShare R ∗ (∃ d, owns (c : Thread nD τ) arg11 fullShare d)) -∗ K ⟨⟩))
      ⊢ wp frame (wpE (defs₀ (F := F)) Variants.none c none) E (cc2_quant_pass i arg1 harg1 arg2 harg2 arg3 harg3 arg4 harg4 arg5 harg5 arg6 harg6 arg7 harg7 arg8 harg8 arg9 harg9 arg10 harg10 arg11 harg11) K := by
  simp only [cc2_quant_pass_eq_skeleton]; unfold cc2_quant_pass_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%dw, %fw, -, HW⟩, Hk⟩
  subst hf0; subst hf1; subst hf2; subst hf3; subst hf4; subst hf5; subst hfs
  sl_exec (disch := first | sl_exact hc)
  sl_step
  have hW : sound2_B.sl.v1387 c arg4 arg5 arg6 arg10 arg11 f3 f4 f5 fs = View.ld (wdOf (arg10.view.read (Elt F) fs) (arg4.view.read (Elt F) f3) (arg5.view.read (Elt F) f4) (arg6.view.read (Elt F) f5)) (Rect.unit (s := S256x3072) ![0, 0] S256x3072.size inb_S256x3072_S256x3072_0_0) := by
    refine (View.readCov_eq_canon_ld arg11.view _ _ (View.cover_of_tiledL _ S256x256.size (by sl_kernel_rfl))).trans ?_
    refine congrArg (fun z => View.ld z _) ?_
    unfold wdOf
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ ?_).trans ?_
    · exact View.cover_of_tiledL _ S256x256.size (by sl_kernel_rfl)
    refine (canon_whole off00 _ _).trans ?_
    rw [hW]
    rfl
  isplitl [H7]
  · iexists _; isplitr
    swap; · iexact H7
    ipureintro
    refine (View.read_writes_eq_canon _ _ _ ?_).trans ?_
    · exact View.cover_of_tiledBy _ ![256, 32] (by sl_kernel_rfl)
    rfl
  isplitl [H8]
  · iexists _; isplitr
    swap; · iexact H8
    ipureintro
    refine (View.read_writes_eq_canon _ _ _ ?_).trans ?_
    · exact View.cover_of_tiledBy _ ![64, 128] (by sl_kernel_rfl)
    rfl
  isplitl [HS]
  · iexists fs; isplitr; · ipureintro; rfl
    iexact HS
  iexists _; iexists _; isplitr
  swap; · iexact HW
  ipureintro; rfl

end Cert.KernelIdeal.Hand

end
-- ==== Proof.HandKernelIdeal.Region2.lean ====
module

public import proofs.«01_k».proof.Proof.HandKernelIdeal.QuantFirst
public import proofs.«01_k».proof.Proof.HandKernelIdeal.QuantNext
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The quantising pass as a pipelined region: what every staging buffer and the scratch hold around each point, and that the body keeps it so. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the region is entered
variable (V : (c : Dev nD) → (b : Ref sig .tc) → Buf (Elt F) ((c : Thread nD τ).loc b))

/-- The block of window `w` at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of input 0 holds its block whenever the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 1 holds its block whenever the body runs. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 2 holds its block whenever the body runs. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 3 holds its block whenever the body runs. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 4 holds its block whenever the body runs. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The staging buffer of input 5 holds its block whenever the body runs. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging buffer at a point, and that it is whole. -/
abbrev ms2_0 (t : Fin cfg2.N) : Memref sig .tc .smem S16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x3072 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x2880 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x1536 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S16x1536 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x256 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256x1440 .i8 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2880x128 .i8 := win2_8.stage (cfg2.slots t 8)
abbrev hs2_8 (t : Fin cfg2.N) : (ms2_8 t).IsWhole := hstage2_8 ((cfg2.slots t 8).cast nbuf2_8)
/-- A scratch buffer of the kernel. -/
abbrev scM2_0 : Memref sig .tc .vmem S256x256 .bf16 := Memref.whole cc2_scratch0
/-- A scratch buffer of the kernel. -/
abbrev scM2_1 : Memref sig .tc .vmem S256x3072 .bf16 := Memref.whole cc2_scratch1

/-- The buffers beside the windows, with `S` in the place of the rotation matrix's scratch. -/
def Rest2 (c : Dev nD) (S : sProp 𝕄) : sProp 𝕄 :=
  iprop((∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ S ∗ (∃ d, owns (c : Thread nD τ) scM2_1 fullShare d) ∗ (∃ f : Buf (Elt F) ((c : Thread nD τ).loc cc0_stg0_0), ((c : Thread nD τ).loc cc0_stg0_0) ↦{fullShare} f))

/-- The invariant of the frame, its first scratch named. -/
theorem PhiA2_eq (c : Dev nD) :
    (Pipeline.ΦA spec2 c : sProp 𝕄) = iprop(Rest2 c iprop(∃ d, owns (c : Thread nD τ) scM2_0 fullShare d) ∗ (∃ r, prngReg c r)) := by
  unfold Pipeline.ΦA; rw [scopedRest2_eq]; unfold Rest2; simp only [scM2_0, scM2_1, owns_whole]; try rfl

/-- The first point. -/
def t0_2 : Fin cfg2.N := ⟨0, by rw [show cfg2.N = 45 from N_2]; decide⟩

theorem eq_t0_2 (t : Fin cfg2.N) (h : t.val = 0) : t = t0_2 := Fin.ext h

/-- The rotation matrix the scratch keeps: that of the signs found at the first point. -/
def rot2 (c : Dev nD) : Vec F S256x256 .bf16 := rotTile (signs (iblk2 V c 0 t0_2))

/-- The invariant: before the first point the scratch may hold anything; afterwards it holds the rotation matrix. -/
def Phi2 (c : Dev nD) (t : Fin (cfg2.N + 1)) : sProp 𝕄 :=
  if t.val = 0 then Pipeline.ΦA spec2 c else iprop(Rest2 c iprop(owns (c : Thread nD τ) scM2_0 fullShare (rot2 V c)) ∗ (∃ r, prngReg c r))

/-- What each window's buffer holds after the body at a point, and the invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => yTile (rot2 V c) (iblk2 V c 1 t) (iblk2 V c 2 t) (iblk2 V c 3 t) (iblk2 V c 4 t) (iblk2 V c 5 t)
    | ⟨7, _⟩ => View.canon (ckPieces (rot2 V c) (iblk2 V c 3 t) (iblk2 V c 4 t))
    | ⟨8, _⟩ => View.canon (cnPieces (rot2 V c) (iblk2 V c 3 t) (iblk2 V c 4 t))
  Φ t := Phi2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = yTile (rot2 V c) (iblk2 V c 1 t) (iblk2 V c 2 t) (iblk2 V c 3 t) (iblk2 V c 4 t) (iblk2 V c 5 t) := by dsimp only [dat2]
theorem after2_7 (c : Dev nD) (t : Fin cfg2.N) : (dat2 V c).after 7 t = View.canon (ckPieces (rot2 V c) (iblk2 V c 3 t) (iblk2 V c 4 t)) := by dsimp only [dat2]
theorem after2_8 (c : Dev nD) (t : Fin cfg2.N) : (dat2 V c).after 8 t = View.canon (cnPieces (rot2 V c) (iblk2 V c 3 t) (iblk2 V c 4 t)) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- The kernel's test for the first point. -/
theorem hcond2 (t : Fin cfg2.N) : (Scalar.cmpi .ne (Scalar.extui (Scalar.cmpi .eq (BitVec.ofNat 32 ((grid2.coords t) 0).val) 0#32)) 0#32 = 1#1) ↔ t.val = 0 := by
  have ht : t.val < 45 := Nat.lt_of_lt_of_eq t.isLt N_2
  have e0 : (grid2.coords t 0).val = t.val / 1 % 45 := Pipeline.Grid.coords_val t 0 (by decide) rfl
  have e1 : (grid2.coords t 0).val = t.val := by omega
  simp only [e1]
  generalize t.val = n at ht
  revert n
  decide +kernel

/-- What the body is called with at a point, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

theorem Phi2_succ (c : Dev nD) (t : Fin cfg2.N) : (dat2 V c).Φ t.succ = iprop(Rest2 c iprop(owns (c : Thread nD τ) scM2_0 fullShare (rot2 V c)) ∗ (∃ r, prngReg c r)) := by
  show Phi2 V c t.succ = _
  unfold Phi2
  rw [if_neg (by rw [Fin.val_succ]; exact Nat.succ_ne_zero _)]

theorem Phi2_zero (c : Dev nD) (t : Fin cfg2.N) (ht : t.val = 0) : (dat2 V c).Φ t.castSucc = Pipeline.ΦA spec2 c := by
  show Phi2 V c t.castSucc = _
  unfold Phi2
  rw [if_pos (by rw [Fin.val_castSucc]; exact ht)]

theorem Phi2_pos (c : Dev nD) (t : Fin cfg2.N) (ht : t.val ≠ 0) : (dat2 V c).Φ t.castSucc = iprop(Rest2 c iprop(owns (c : Thread nD τ) scM2_0 fullShare (rot2 V c)) ∗ (∃ r, prngReg c r)) := by
  show Phi2 V c t.castSucc = _
  unfold Phi2
  rw [if_neg (by rw [Fin.val_castSucc]; exact ht)]

set_option maxHeartbeats 2000000 in
/-- The body at the first point. -/
theorem sound_body2_first (c : Dev nD) (t : Fin cfg2.N) (ht : t.val = 0) :
    bodyPre2 V c t ⊢ wp frame (wpE (defs₀ (F := F)) Variants.none c none) Set.univ (bodyAt2 t) (fun _ => bodyPost2 V c t) := by
  have hr : rot2 V c = rotTile (signs (iblk2 V c 0 t)) := by rw [eq_t0_2 t ht]; rfl
  unfold bodyPre2 bodyPost2 bodyAt2
  simp only [before2_0, before2_1, before2_2, before2_3, before2_4, before2_5]
  rw [Phi2_succ, Phi2_zero V c t ht, show (dat2 V c).owesAt () t.succ = (dat2 V c).owesAt () t.castSucc from rfl, after2_0, after2_1, after2_2, after2_3, after2_4, after2_5, after2_6, after2_7, after2_8]
  rw [PhiA2_eq, hr]
  unfold Rest2
  iintro ⟨⟨⟨HR0, HR1, HR2, HR3, HR4, HR5, HR6, HR7, HR8, HR9, HR10, HR11, HS, HW, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) ((hcond2 t).mpr ht) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  isplitl [HW]; · iexact HW
  iintro ⟨H0, H1, H2, H3, H4, H5, H6, H7, H8, HS, HW⟩
  isplitl [HR0 HR1 HR2 HR3 HR4 HR5 HR6 HR7 HR8 HR9 HR10 HR11 HS HW HR14 Hg]
  · isplitl [HR0 HR1 HR2 HR3 HR4 HR5 HR6 HR7 HR8 HR9 HR10 HR11 HS HW HR14]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS]; · iexact HS
      isplitl [HW]; · iexact HW
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The body at a later point. -/
theorem sound_body2_next (c : Dev nD) (t : Fin cfg2.N) (ht : t.val ≠ 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [Phi2_succ, Phi2_pos V c t ht, show (dat2 V c).owesAt () t.succ = (dat2 V c).owesAt () t.castSucc from rfl, after2_0, after2_1, after2_2, after2_3, after2_4, after2_5, after2_6, after2_7, after2_8]
  unfold Rest2
  iintro ⟨⟨⟨HR0, HR1, HR2, HR3, HR4, HR5, HR6, HR7, HR8, HR9, HR10, HR11, HS, HW, HR14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) (rot2 V c) (fun h => ht ((hcond2 t).mp h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  isplitl [HW]; · iexact HW
  iintro ⟨H0, H1, H2, H3, H4, H5, H6, H7, H8, HS, HW⟩
  isplitl [HR0 HR1 HR2 HR3 HR4 HR5 HR6 HR7 HR8 HR9 HR10 HR11 HS HW HR14 Hg]
  · isplitl [HR0 HR1 HR2 HR3 HR4 HR5 HR6 HR7 HR8 HR9 HR10 HR11 HS HW HR14]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HS]; · iexact HS
      isplitl [HW]; · iexact HW
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body2 (c : Dev nD) (t : Fin cfg2.N) :
    bodyPre2 V c t ⊢ wp frame (wpE (defs₀ (F := F)) Variants.none c none) Set.univ (bodyAt2 t) (fun _ => bodyPost2 V c t) := by
  by_cases ht : t.val = 0
  · exact sound_body2_first V c t ht
  · exact sound_body2_next V c t ht

theorem defs₀_row2 (t : Fin cfg2.N) :
    defs₀ (F := F) .tc cfg2.body (cfg2.bodyArgs t (cfg2.slots t)) = bodyAt2 t := by
  unfold defs₀; rw [Defs.onTc_tc]

/-- The body keeps the pipeline's invariant at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point nothing is asked of the scratch, -/
theorem hin2 (c : Dev nD) : (Pipeline.ΦA spec2 c : sProp 𝕄) ⊢ (dat2 V c).Φ 0 := by
  show _ ⊢ Phi2 V c 0
  unfold Phi2
  rw [if_pos (by rfl)]

/-- and after the last one its contents are forgotten. -/
theorem hout2 (c : Dev nD) : (dat2 V c).Φ (Fin.last cfg2.N) ⊢ (Pipeline.ΦA spec2 c : sProp 𝕄) := by
  show Phi2 V c (Fin.last cfg2.N) ⊢ _
  unfold Phi2
  rw [if_neg (by rw [Fin.val_last]; have : cfg2.N = 45 := N_2; omega), PhiA2_eq]
  unfold Rest2
  iintro ⟨⟨HR0, HR1, HR2, HR3, HR4, HR5, HR6, HR7, HR8, HR9, HR10, HR11, HS, HW, HR14⟩, Hg⟩
  isplitl [HR0 HR1 HR2 HR3 HR4 HR5 HR6 HR7 HR8 HR9 HR10 HR11 HS HW HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS]; · iexists _; iexact HS
    isplitl [HW]; · iexact HW
    iexact HR14
  iexact Hg

end Cert.KernelIdeal.Hand

end
-- ==== Proof.HandKernelIdeal.Run.lean ====
module

public import proofs.«01_k».proof.Proof.HandKernelIdeal.Region0
public import proofs.«01_k».proof.Proof.HandKernelIdeal.Region1
public import proofs.«01_k».proof.Proof.HandKernelIdeal.Region2
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The whole program run: three regions among reshapes; every buffer's contents at every boundary, and what every buffer holds at the end. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every fair execution ends with every buffer at the last boundary's contents, and every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The arguments end as they were launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c)⟩, h.2⟩) (run_all m ρ)

/-- The five results end at the last boundary's contents. -/
theorem results : θ_run defs (onTc (τ := τ) (main (F := F))) ⟨m, fun _ => 0, ρ⟩ (fun r => (∀ c : Dev nD,
      r.2.mem ((c.tc : Thread nD τ).loc main_v5) = W6 m ρ c (Proc.devRef .tc main_v5)
      ∧       r.2.mem ((c.tc : Thread nD τ).loc main_v4_1) = W6 m ρ c (Proc.devRef .tc main_v4_1)
      ∧       r.2.mem ((c.tc : Thread nD τ).loc main_v4_2) = W6 m ρ c (Proc.devRef .tc main_v4_2)
      ∧       r.2.mem ((c.tc : Thread nD τ).loc main_v2_1) = W6 m ρ c (Proc.devRef .tc main_v2_1)
      ∧       r.2.mem ((c.tc : Thread nD τ).loc main_v3) = W6 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun r h c =>
      ⟨h.1 c _ (mem_uc main_v5 (by decide)), h.1 c _ (mem_uc main_v4_1 (by decide)), h.1 c _ (mem_uc main_v4_2 (by decide)), h.1 c _ (mem_uc main_v2_1 (by decide)), h.1 c _ (mem_uc main_v3 (by decide)),
       (h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c)⟩) (run_all m ρ)

end Cert.KernelIdeal.Hand

end
-- ==== Proof.Maths.Rot.lean ====
module

public import proofs.«01_k».proof.Proof.HandKernelIdeal.Tiles
public import Idealize.ShloMosaic.Lib.Pointwise
public import Idealize.ShloMosaic.PureOps.Ideal.Laws

/-! The entries of the kernel's rotation matrix: block diagonal, the columns of each block of 16 reordered. -/

@[expose] public section

set_option maxRecDepth 16384

noncomputable section

namespace Cert.Maths

open Cert.KernelIdeal Cert.KernelIdeal.Gen Cert.KernelIdeal.Hand
open Idealize.ShloMosaic

/-- Whether the numbers `a` and `b` below 16 share an even number of bits. -/
def evenBits (a b : ℕ) : Bool :=
  (((a &&& b) % 2 + (a &&& b) / 2 % 2 + (a &&& b) / 4 % 2 + (a &&& b) / 8 % 2) % 2) == 0

/-- The rotation's entry: a quarter, with the parity's sign, times the row's sign. -/
def rotEntry (g : Fin 16 → EReal) (a b : ℕ) : EReal :=
  (if evenBits a b then Ideal.ofBits .f32 0x3E800000#32 else Ideal.ofBits .f32 0xBE800000#32) * g ⟨a % 16, Nat.mod_lt _ (by decide)⟩

theorem rotI_col (r c : Fin 256) : rotI (ix2 r c) = rotI (ix2 r 0) := rfl

theorem rotI_row (r : Fin 256) : rotI (ix2 r 0) = BitVec.ofNat 32 (r.val % 16) := by
  revert r; decide +kernel

theorem rotJ_row (r c : Fin 256) : rotJ (ix2 r c) = rotJ (ix2 0 c) := rfl

theorem rotJ_col (c : Fin 256) : rotJ (ix2 0 c) = BitVec.ofNat 32 (2 * (c.val % 8) + c.val / 128) := by
  revert c; decide +kernel

/-- The block a row of the matrix belongs to, as the kernel computes it. -/
def rowBlk : IVec S256x256 32 :=
  have v195 : IVec S256x256 32 := iota .tc S256x256 32 [0] iota_S256x256_d0_w32
  have c16_i32_134 : BitVec 32 := 16#32
  have v272 : IVec S256x256 32 := broadcast S256x256 c16_i32_134
  have v273 : IVec S256x256 32 := divsi v195 v272
  have c0_i32_135 : BitVec 32 := 0#32
  have v274 : IVec S256x256 32 := broadcast S256x256 c0_i32_135
  have v275 : IVec S256x256 1 := cmpi .sgt v195 v274
  have v276 : IVec S256x256 32 := extui 32 v275 natLt_1_32
  have c0_i32_136 : BitVec 32 := 0#32
  have v277 : IVec S256x256 32 := broadcast S256x256 c0_i32_136
  have v278 : IVec S256x256 1 := cmpi .slt v195 v277
  have v279 : IVec S256x256 32 := extui 32 v278 natLt_1_32
  have v280 : IVec S256x256 32 := subi v276 v279
  have c0_i32_137 : BitVec 32 := 0#32
  have v281 : BitVec 1 := Scalar.cmpi .sgt c16_i32_134 c0_i32_137
  have v282 : BitVec 32 := Scalar.extui v281
  have c0_i32_138 : BitVec 32 := 0#32
  have v283 : BitVec 1 := Scalar.cmpi .slt c16_i32_134 c0_i32_138
  have v284 : BitVec 32 := Scalar.extui v283
  have v285 : BitVec 32 := Scalar.subi v282 v284
  have v286 : IVec S256x256 32 := broadcast S256x256 v285
  have v287 : IVec S256x256 1 := cmpi .ne v280 v286
  have v288 : IVec S256x256 32 := broadcast S256x256 c16_i32_134
  have v289 : IVec S256x256 32 := remsi v195 v288
  have c0_i32_139 : BitVec 32 := 0#32
  have v290 : IVec S256x256 32 := broadcast S256x256 c0_i32_139
  have v291 : IVec S256x256 1 := cmpi .ne v289 v290
  have v292 : IVec S256x256 1 := andi v287 v291
  have c1_i32_140 : BitVec 32 := 1#32
  have v293 : IVec S256x256 32 := broadcast S256x256 c1_i32_140
  have v294 : IVec S256x256 32 := subi v273 v293
  have v295 : IVec S256x256 32 := select v292 v294 v273
  v295

/-- The block a column of the matrix belongs to, as the kernel computes it. -/
def colBlk : IVec S256x256 32 :=
  have c8_i32_141 : BitVec 32 := 8#32
  have v296 : IVec S256x256 32 := broadcast S256x256 c8_i32_141
  have v297 : IVec S256x256 32 := divsi rotLane v296
  have c0_i32_142 : BitVec 32 := 0#32
  have v298 : IVec S256x256 32 := broadcast S256x256 c0_i32_142
  have v299 : IVec S256x256 1 := cmpi .sgt rotLane v298
  have v300 : IVec S256x256 32 := extui 32 v299 natLt_1_32
  have c0_i32_143 : BitVec 32 := 0#32
  have v301 : IVec S256x256 32 := broadcast S256x256 c0_i32_143
  have v302 : IVec S256x256 1 := cmpi .slt rotLane v301
  have v303 : IVec S256x256 32 := extui 32 v302 natLt_1_32
  have v304 : IVec S256x256 32 := subi v300 v303
  have c0_i32_144 : BitVec 32 := 0#32
  have v305 : BitVec 1 := Scalar.cmpi .sgt c8_i32_141 c0_i32_144
  have v306 : BitVec 32 := Scalar.extui v305
  have c0_i32_145 : BitVec 32 := 0#32
  have v307 : BitVec 1 := Scalar.cmpi .slt c8_i32_141 c0_i32_145
  have v308 : BitVec 32 := Scalar.extui v307
  have v309 : BitVec 32 := Scalar.subi v306 v308
  have v310 : IVec S256x256 32 := broadcast S256x256 v309
  have v311 : IVec S256x256 1 := cmpi .ne v304 v310
  have v312 : IVec S256x256 32 := broadcast S256x256 c8_i32_141
  have v313 : IVec S256x256 32 := remsi rotLane v312
  have c0_i32_146 : BitVec 32 := 0#32
  have v314 : IVec S256x256 32 := broadcast S256x256 c0_i32_146
  have v315 : IVec S256x256 1 := cmpi .ne v313 v314
  have v316 : IVec S256x256 1 := andi v311 v315
  have c1_i32_147 : BitVec 32 := 1#32
  have v317 : IVec S256x256 32 := broadcast S256x256 c1_i32_147
  have v318 : IVec S256x256 32 := subi v297 v317
  have v319 : IVec S256x256 32 := select v316 v318 v297
  v319

theorem rotSame_eq : rotSame = cmpi .eq rowBlk colBlk := rfl

theorem rowBlk_row (r c : Fin 256) : rowBlk (ix2 r c) = rowBlk (ix2 r 0) := rfl

theorem rowBlk_val (r : Fin 256) : rowBlk (ix2 r 0) = BitVec.ofNat 32 (r.val / 16) := by
  revert r; decide +kernel

theorem colBlk_col (r c : Fin 256) : colBlk (ix2 r c) = colBlk (ix2 0 c) := rfl

theorem colBlk_val (c : Fin 256) : colBlk (ix2 0 c) = BitVec.ofNat 32 (c.val % 128 / 8) := by
  revert c; decide +kernel

theorem ofNat_eq_iff {a b : ℕ} (ha : a < 16) (hb : b < 16) : BitVec.ofNat 32 a = BitVec.ofNat 32 b ↔ a = b := by
  constructor
  · intro h
    have := congrArg BitVec.toNat h
    simp only [BitVec.toNat_ofNat] at this
    omega
  · rintro rfl; rfl

theorem rotSame_apply (r c : Fin 256) : rotSame (ix2 r c) = if r.val / 16 = c.val % 128 / 8 then 1#1 else 0#1 := by
  rw [rotSame_eq]
  show IntOp.cmpi .eq (rowBlk (ix2 r c)) (colBlk (ix2 r c)) = _
  rw [rowBlk_row, rowBlk_val, colBlk_col, colBlk_val]
  have h := ofNat_eq_iff (a := r.val / 16) (b := c.val % 128 / 8) (by omega) (by omega)
  by_cases e : r.val / 16 = c.val % 128 / 8
  · rw [if_pos e, e]; simp [IntOp.cmpi]
  · rw [if_neg e]
    have : ¬ (BitVec.ofNat 32 (r.val / 16) = BitVec.ofNat 32 (c.val % 128 / 8)) := fun q => e (h.1 q)
    show BitVec.ofBool (_ == _) = _
    rw [beq_eq_false_iff_ne.2 this]; rfl

/-- The parity of the shared bits, as the kernel computes it on words. -/
def evenW (a b : BitVec 32) : BitVec 1 :=
  IntOp.cmpi .eq (IntOp.andi (IntOp.xori (IntOp.xori (IntOp.andi a b) (IntOp.shrsi .vector (IntOp.andi a b) 2#32)) (IntOp.shrsi .vector (IntOp.xori (IntOp.andi a b) (IntOp.shrsi .vector (IntOp.andi a b) 2#32)) 1#32)) 1#32) 0#32

theorem rotEven_eq (r c : Fin 256) : rotEven (ix2 r c) = evenW (rotI (ix2 r c)) (rotJ (ix2 r c)) := rfl

theorem evenW_val (a b : Fin 16) : evenW (BitVec.ofNat 32 a.val) (BitVec.ofNat 32 b.val) = if evenBits a.val b.val then 1#1 else 0#1 := by
  revert a b; decide +kernel

/-- The place of a column inside its block of 16 before reordering. -/
def colIn (c : ℕ) : ℕ := 2 * (c % 8) + c / 128

theorem colIn_lt (c : Fin 256) : colIn c.val < 16 := by unfold colIn; omega

theorem rotEven_apply (r c : Fin 256) : rotEven (ix2 r c) = if evenBits (r.val % 16) (colIn c.val) then 1#1 else 0#1 := by
  rw [rotEven_eq, rotI_col, rotI_row, rotJ_row, rotJ_col]
  exact evenW_val ⟨r.val % 16, by omega⟩ ⟨colIn c.val, colIn_lt c⟩

/-- The sign of a row, as the kernel selects it by the row's word. -/
def signW (g : Fin 16 → EReal) (a : BitVec 32) : EReal :=
  Scalar.select (IntOp.cmpi .eq a 15#32) (g 15) <| Scalar.select (IntOp.cmpi .eq a 14#32) (g 14) <|
  Scalar.select (IntOp.cmpi .eq a 13#32) (g 13) <| Scalar.select (IntOp.cmpi .eq a 12#32) (g 12) <|
  Scalar.select (IntOp.cmpi .eq a 11#32) (g 11) <| Scalar.select (IntOp.cmpi .eq a 10#32) (g 10) <|
  Scalar.select (IntOp.cmpi .eq a 9#32) (g 9) <| Scalar.select (IntOp.cmpi .eq a 8#32) (g 8) <|
  Scalar.select (IntOp.cmpi .eq a 7#32) (g 7) <| Scalar.select (IntOp.cmpi .eq a 6#32) (g 6) <|
  Scalar.select (IntOp.cmpi .eq a 5#32) (g 5) <| Scalar.select (IntOp.cmpi .eq a 4#32) (g 4) <|
  Scalar.select (IntOp.cmpi .eq a 3#32) (g 3) <| Scalar.select (IntOp.cmpi .eq a 2#32) (g 2) <|
  Scalar.select (IntOp.cmpi .eq a 1#32) (g 1) <| Scalar.select (IntOp.cmpi .eq a 0#32) (g 0) (Ideal.ofBits .f32 0x00000000#32)

theorem rotSign_eq (g : Fin 16 → EReal) (r c : Fin 256) : rotSign (F := Ideal) g (ix2 r c) = signW g (rotI (ix2 r c)) := rfl

theorem signW_val (g : Fin 16 → EReal) (a : Fin 16) : signW g (BitVec.ofNat 32 a.val) = g a := by
  fin_cases a <;> rfl

theorem rotSign_apply (g : Fin 16 → EReal) (r c : Fin 256) : rotSign (F := Ideal) g (ix2 r c) = g ⟨r.val % 16, Nat.mod_lt _ (by decide)⟩ := by
  rw [rotSign_eq, rotI_col, rotI_row]
  exact signW_val g ⟨r.val % 16, by omega⟩

/-- The rotation matrix at an entry. -/
theorem rotTile_apply (g : Fin 16 → EReal) (r c : Fin 256) :
    rotTile (F := Ideal) g (ix2 r c) = if r.val / 16 = c.val % 128 / 8 then rotEntry g (r.val % 16) (colIn c.val) else 0 := by
  unfold rotTile
  rw [shapeCast_self]
  show Scalar.select (rotSame (ix2 r c)) (Scalar.select (rotEven (ix2 r c)) (Ideal.ofBits .f32 0x3E800000#32) (Ideal.ofBits .f32 0xBE800000#32) * rotSign (F := Ideal) g (ix2 r c)) (Ideal.ofBits .f32 0x00000000#32) = _
  rw [rotSame_apply, rotEven_apply, rotSign_apply, Ideal.ofBits_zero_f32]
  unfold rotEntry
  by_cases h : r.val / 16 = c.val % 128 / 8
  · rw [if_pos h, if_pos h]
    by_cases e : evenBits (r.val % 16) (colIn c.val) = true
    · simp [e, Scalar.select]
    · simp [e, Scalar.select]
  · rw [if_neg h, if_neg h]; rfl

end Cert.Maths

end
-- ==== Proof.Maths.Spec.lean ====
module

public import proofs.«01_k».proof.Proof.Maths.Rot

/-! What both programs compute, over plain numbers: an array is read at natural numbers and is zero outside; the
rotated array, the block maxima, the scales. -/

@[expose] public section

set_option maxRecDepth 16384

noncomputable section

namespace Cert.Maths

open Idealize.ShloMosaic

/-- An array of rank two read at natural numbers, zero outside. -/
def at2 {a b : ℕ} (x : (⟨2, ![a, b]⟩ : Shape).Idx → EReal) (n k : ℕ) : EReal :=
  if h : n < a ∧ k < b then x (ix2 ⟨n, h.1⟩ ⟨k, h.2⟩) else 0

theorem at2_in {a b : ℕ} (x : (⟨2, ![a, b]⟩ : Shape).Idx → EReal) (n k : ℕ) (hn : n < a) (hk : k < b) :
    at2 x n k = x (ix2 ⟨n, hn⟩ ⟨k, hk⟩) := dif_pos ⟨hn, hk⟩

theorem at2_out {a b : ℕ} (x : (⟨2, ![a, b]⟩ : Shape).Idx → EReal) (n k : ℕ) (hk : b ≤ k) : at2 x n k = 0 :=
  dif_neg fun h => absurd h.2 (by omega)

/-- The rotated array: each row's blocks of 16 times the rotation. -/
def rotAt (A : ℕ → ℕ → EReal) (g : Fin 16 → EReal) (n k : ℕ) : EReal :=
  ∑ i : Fin 16, A n (16 * (k / 16) + i.val) * rotEntry g i.val (k % 16)

/-- Where column `c` of a reordered tile comes from. -/
def colOf (c : ℕ) : ℕ := 16 * (c % 128 / 8) + colIn c

theorem colOf_lt (c : Fin 256) : colOf c.val < 256 := by unfold colOf colIn; omega

theorem sum_256 (f : ℕ → EReal) : ∑ r : Fin 256, f r.val = ∑ b : Fin 16, ∑ i : Fin 16, f (16 * b.val + i.val) := by
  rw [← Fintype.sum_prod_type' (f := fun (b i : Fin 16) => f (16 * b.val + i.val))]
  refine (Equiv.sum_comp (finProdFinEquiv (m := 16) (n := 16)) (fun r : Fin (16 * 16) => f r.val)).symm.trans ?_
  refine Finset.sum_congr rfl fun p _ => ?_
  simp [finProdFinEquiv, add_comm]

theorem rotAt_congr {A B : ℕ → ℕ → EReal} (g : Fin 16 → EReal) {n m : ℕ} (h : ∀ k, A n k = B m k) (k : ℕ) :
    rotAt A g n k = rotAt B g m k := by
  unfold rotAt; exact Finset.sum_congr rfl fun i _ => by rw [h]

theorem rotAt_out {A : ℕ → ℕ → EReal} (g : Fin 16 → EReal) {n b : ℕ} (h : ∀ k, 16 * b ≤ k → A n k = 0) (k : ℕ) (hk : 16 * b ≤ k) :
    rotAt A g n k = 0 := by
  unfold rotAt
  refine Finset.sum_eq_zero fun i _ => ?_
  rw [h _ (by omega), zero_mul]

/-- The kernel's matrix at natural numbers. -/
def rotM (g : Fin 16 → EReal) (r c : ℕ) : EReal :=
  if r / 16 = c % 128 / 8 then rotEntry g (r % 16) (colIn c) else 0

/-- A row of 256 entries times the kernel's matrix is the rotated row, reordered. -/
theorem tile_sum (A : ℕ → ℕ → EReal) (g : Fin 16 → EReal) (n j : ℕ) (c : Fin 256) :
    ∑ r : Fin 256, A n (256 * j + r.val) * rotM g r.val c.val = rotAt A g n (256 * j + colOf c.val) := by
  rw [sum_256 (fun r => A n (256 * j + r) * rotM g r c.val)]
  have hb : c.val % 128 / 8 < 16 := by omega
  rw [Finset.sum_eq_single (⟨c.val % 128 / 8, hb⟩ : Fin 16)]
  · unfold rotAt
    refine Finset.sum_congr rfl fun i _ => ?_
    have h1 : (256 * j + colOf c.val) / 16 = 16 * j + c.val % 128 / 8 := by unfold colOf; have := colIn_lt c; omega
    have h2 : (256 * j + colOf c.val) % 16 = colIn c.val := by unfold colOf; have := colIn_lt c; omega
    rw [h1, h2]
    have h3 : 256 * j + (16 * (c.val % 128 / 8) + i.val) = 16 * (16 * j + c.val % 128 / 8) + i.val := by omega
    unfold rotM
    rw [if_pos (by show (16 * (c.val % 128 / 8) + i.val) / 16 = _; omega)]
    show A n (256 * j + (16 * (c.val % 128 / 8) + i.val)) * rotEntry g ((16 * (c.val % 128 / 8) + i.val) % 16) _ = _
    rw [h3, show (16 * (c.val % 128 / 8) + i.val) % 16 = i.val by omega]
  · intro b _ hne
    refine Finset.sum_eq_zero fun i _ => ?_
    unfold rotM
    rw [if_neg (by
      intro h
      apply hne
      apply Fin.ext
      show b.val = c.val % 128 / 8
      have h1 : (16 * b.val + i.val) / 16 = c.val % 128 / 8 := h
      have h2 : (16 * b.val + i.val) / 16 = b.val := by omega
      exact h2.symm.trans h1), mul_zero]
  · intro h; exact absurd (Finset.mem_univ _) h

/-- The same for the last tile, 64 entries wide, of an array that is zero from column `256 j + 64` on. -/
theorem tail_sum (A : ℕ → ℕ → EReal) (g : Fin 16 → EReal) (n j : ℕ) (hA : ∀ k, 256 * j + 64 ≤ k → A n k = 0) (c : Fin 256) :
    ∑ r : Fin 64, A n (256 * j + r.val) * rotM g r.val c.val = rotAt A g n (256 * j + colOf c.val) := by
  rw [← tile_sum]
  refine Eq.symm ((Fin.sum_univ_add (a := 64) (b := 192) (fun r : Fin (64 + 192) => A n (256 * j + r.val) * rotM g r.val c.val)).trans ?_)
  rw [show (∑ i : Fin 192, A n (256 * j + (Fin.natAdd 64 i).val) * rotM g (Fin.natAdd 64 i).val c.val) = 0 from
    Finset.sum_eq_zero fun i _ => by rw [hA _ (by simp only [Fin.val_natAdd]; omega), zero_mul], add_zero]
  rfl

/-- The greatest magnitude in block row `I`, block column `K` of an array. -/
def blockMax (R : ℕ → ℕ → EReal) (I K : ℕ) : EReal :=
  (Finset.univ : Finset (Fin 16 × Fin 16)).sup fun p => max (R (16 * I + p.1.val) (16 * K + p.2.val)) (-R (16 * I + p.1.val) (16 * K + p.2.val))

theorem blockMax_le {R : ℕ → ℕ → EReal} {I K : ℕ} {z : EReal} :
    blockMax R I K ≤ z ↔ ∀ a b : Fin 16, max (R (16 * I + a.val) (16 * K + b.val)) (-R (16 * I + a.val) (16 * K + b.val)) ≤ z := by
  unfold blockMax
  rw [Finset.sup_le_iff]
  exact ⟨fun h a b => h (a, b) (Finset.mem_univ _), fun h p _ => h p.1 p.2⟩

end Cert.Maths

end
-- ==== Proof.Maths.Tile.lean ====
module

public import proofs.«01_k».proof.Proof.Maths.Spec

/-! One column tile of the kernel read at an index: the product with the rotation matrix, and the block maxima. -/

@[expose] public section

set_option maxRecDepth 16384

noncomputable section

namespace Cert.Maths

open Cert.KernelIdeal Cert.KernelIdeal.Gen Cert.KernelIdeal.Hand
open Idealize.ShloMosaic

theorem mm_apply (a : Vec Ideal S256x256 .bf16) (g : Fin 16 → EReal) (p c : Fin 256) (A : ℕ → ℕ → EReal) (n j : ℕ)
    (h : ∀ r : Fin 256, a (ix2 p r) = A n (256 * j + r.val)) :
    matmul (F := Ideal) (φ₁ := .bf16) (φ₂ := .bf16) dot_S256x256_S256x256_S256x256_1_0_0_1_n_n none a (rotTile (F := Ideal) g) (constant (F := Ideal) S256x256 .f32 0x00000000#32) (ix2 p c)
      = rotAt A g n (256 * j + colOf c.val) := by
  rw [← tile_sum]
  pointwise
  refine Finset.sum_congr rfl fun r _ => ?_
  rw [h r, rotTile_apply]; rfl

theorem mmTail_apply (a : Vec Ideal S256x64 .bf16) (T : Vec Ideal S64x256 .bf16) (g : Fin 16 → EReal) (p c : Fin 256) (A : ℕ → ℕ → EReal) (n j : ℕ)
    (h : ∀ r : Fin 64, a (ix2 p r) = A n (256 * j + r.val)) (hT : ∀ r : Fin 64, T (ix2 r c) = rotM g r.val c.val)
    (hA : ∀ k, 256 * j + 64 ≤ k → A n k = 0) :
    matmul (F := Ideal) (φ₁ := .bf16) (φ₂ := .bf16) dot_S256x64_S64x256_S256x256_1_0_0_1_n_n none a T (constant (F := Ideal) S256x256 .f32 0x00000000#32) (ix2 p c)
      = rotAt A g n (256 * j + colOf c.val) := by
  rw [← tail_sum A g n j hA]
  pointwise
  refine Finset.sum_congr rfl fun r _ => ?_
  rw [h r, hT]

theorem ofBits_bot : Ideal.ofBits .f32 0xFF800000#32 = ⊥ := by simp [Ideal.ofBits, Ideal.ieee]

theorem amaxOf_apply (v : FVec Ideal S256x256 .f32) (V : ℕ → ℕ → EReal) (hv : ∀ p c : Fin 256, v (ix2 p c) = V p.val c.val)
    (q : Fin 16) (l : Fin 128) (hl : l.val % 8 = 7) (z : EReal) :
    amaxOf (F := Ideal) v (ix2 q l) ≤ z ↔ ∀ a b : Fin 16, max (V (16 * q.val + a.val) (8 * (l.val / 8) + b.val / 2 + 128 * (b.val % 2)))
      (-V (16 * q.val + a.val) (8 * (l.val / 8) + b.val / 2 + 128 * (b.val % 2))) ≤ z := by
  obtain ⟨K, hK⟩ : ∃ K, l.val / 8 = K := ⟨_, rfl⟩
  have e0 : l.val = 8 * K + 7 := by omega
  have hK16 : K < 16 := by omega
  have e1 : (8 * K + 7 + 128 - 1) % 128 = 8 * K + 6 := by omega
  have e2 : (8 * K + 7 + 128 - 2) % 128 = 8 * K + 5 := by omega
  have e3 : (8 * K + 7 + 128 - 4) % 128 = 8 * K + 3 := by omega
  have e4 : (8 * K + 5 + 128 - 1) % 128 = 8 * K + 4 := by omega
  have e5 : (8 * K + 3 + 128 - 1) % 128 = 8 * K + 2 := by omega
  have e6 : (8 * K + 3 + 128 - 2) % 128 = 8 * K + 1 := by omega
  have e7 : (8 * K + 1 + 128 - 1) % 128 = 8 * K := by omega
  rw [hK]
  pointwise [amaxOf]
  simp only [Ideal.absf_def, hv, e0, e1, e2, e3, e4, e5, e6, e7, max_le_iff, Finset.fold_max_le, ofBits_bot, bot_le, true_and, Finset.mem_univ, forall_true_left]
  constructor
  · rintro ⟨⟨⟨h7, h6⟩, h5, h4⟩, ⟨h3, h2⟩, h1, h0⟩ a b
    have key : ∀ i, i < 8 → ((V (q.val * 16 + a.val) (8 * K + i) ≤ z ∧ -V (q.val * 16 + a.val) (8 * K + i) ≤ z)
        ∧ (V (q.val * 16 + a.val) (128 + (8 * K + i)) ≤ z ∧ -V (q.val * 16 + a.val) (128 + (8 * K + i)) ≤ z)) := by
      intro i hi
      interval_cases i
      · exact h0 a
      · exact h1 a
      · exact h2 a
      · exact h3 a
      · exact h4 a
      · exact h5 a
      · exact h6 a
      · exact h7 a
    have k := key (b.val / 2) (by omega)
    rw [show 16 * q.val + a.val = q.val * 16 + a.val by omega]
    rcases (show b.val % 2 = 0 ∨ b.val % 2 = 1 by omega) with hb | hb
    · rw [hb, show 8 * K + b.val / 2 + 128 * 0 = 8 * K + b.val / 2 by omega]; exact k.1
    · rw [hb, show 8 * K + b.val / 2 + 128 * 1 = 128 + (8 * K + b.val / 2) by omega]; exact k.2
  · intro h
    have key : ∀ (a : Fin 16) (i : ℕ), i < 8 → ((V (q.val * 16 + a.val) (8 * K + i) ≤ z ∧ -V (q.val * 16 + a.val) (8 * K + i) ≤ z)
        ∧ (V (q.val * 16 + a.val) (128 + (8 * K + i)) ≤ z ∧ -V (q.val * 16 + a.val) (128 + (8 * K + i)) ≤ z)) := by
      intro a i hi
      have u := h a ⟨2 * i, by omega⟩
      have w := h a ⟨2 * i + 1, by omega⟩
      simp only [show 2 * i / 2 = i by omega, show 2 * i % 2 = 0 by omega, show (2 * i + 1) / 2 = i by omega, show (2 * i + 1) % 2 = 1 by omega] at u w
      rw [show 16 * q.val + a.val = q.val * 16 + a.val by omega] at u w
      rw [show 8 * K + i + 128 * 0 = 8 * K + i by omega] at u
      rw [show 8 * K + i + 128 * 1 = 128 + (8 * K + i) by omega] at w
      exact ⟨u, w⟩
    exact ⟨⟨⟨fun a => key a 7 (by omega), fun a => key a 6 (by omega)⟩, fun a => key a 5 (by omega), fun a => key a 4 (by omega)⟩,
      ⟨fun a => key a 3 (by omega), fun a => key a 2 (by omega)⟩, fun a => key a 1 (by omega), fun a => key a 0 (by omega)⟩

/-- The block maxima of a reordered tile are those of the rotated array. -/
theorem amaxOf_eq (v : FVec Ideal S256x256 .f32) (R : ℕ → ℕ → EReal) (I j : ℕ)
    (hv : ∀ p c : Fin 256, v (ix2 p c) = R (256 * I + p.val) (256 * j + colOf c.val))
    (q : Fin 16) (l : Fin 128) (hl : l.val % 8 = 7) :
    amaxOf (F := Ideal) v (ix2 q l) = blockMax R (16 * I + q.val) (16 * j + l.val / 8) := by
  refine eq_of_forall_ge_iff fun z => ?_
  rw [amaxOf_apply v (fun p c => R (256 * I + p) (256 * j + colOf c)) hv q l hl z, blockMax_le]
  refine forall_congr' fun a => forall_congr' fun b => ?_
  have h1 : 256 * I + (16 * q.val + a.val) = 16 * (16 * I + q.val) + a.val := by omega
  have h2 : 256 * j + colOf (8 * (l.val / 8) + b.val / 2 + 128 * (b.val % 2)) = 16 * (16 * j + l.val / 8) + b.val := by
    unfold colOf colIn
    have h3 : l.val / 8 < 16 := by omega
    rcases (show b.val % 2 = 0 ∨ b.val % 2 = 1 by omega) with hb | hb <;> rw [hb] <;> omega
  rw [h1, h2]

end Cert.Maths

end
-- ==== Proof.Maths.Grid.lean ====
module

public import proofs.«01_k».proof.Proof.Maths.Spec
public import Idealize.ShloMosaic.Lib.IdealHost

/-! The quantiser on one number. The kernel finds the four-bit level of a clipped weight by seven comparisons; the
reference rounds to the nearest value, ties to even, in each of the three spacings. Both are the same level here. -/

@[expose] public section

set_option maxRecDepth 16384

noncomputable section

namespace Cert.Maths

open Idealize.ShloMosaic

/-! ## The constants -/

theorem b_0 : Ideal.ofBits .f32 0x00000000#32 = ((0 : ℝ) : EReal) := by simp [Ideal.ofBits, Ideal.ieee, -EReal.coe_mul]
theorem b_025 : Ideal.ofBits .f32 0x3E800000#32 = ((1 / 4 : ℝ) : EReal) := by simp [Ideal.ofBits, Ideal.ieee, -EReal.coe_mul]; norm_num
theorem b_05 : Ideal.ofBits .f32 0x3F000000#32 = ((1 / 2 : ℝ) : EReal) := by simp [Ideal.ofBits, Ideal.ieee, -EReal.coe_mul]; norm_num
theorem b_075 : Ideal.ofBits .f32 0x3F400000#32 = ((3 / 4 : ℝ) : EReal) := by simp [Ideal.ofBits, Ideal.ieee, -EReal.coe_mul]; norm_num
theorem b_1 : Ideal.ofBits .f32 0x3F800000#32 = ((1 : ℝ) : EReal) := by simp [Ideal.ofBits, Ideal.ieee, -EReal.coe_mul]; norm_num
theorem b_125 : Ideal.ofBits .f32 0x3FA00000#32 = ((5 / 4 : ℝ) : EReal) := by simp [Ideal.ofBits, Ideal.ieee, -EReal.coe_mul]; norm_num
theorem b_15 : Ideal.ofBits .f32 0x3FC00000#32 = ((3 / 2 : ℝ) : EReal) := by simp [Ideal.ofBits, Ideal.ieee, -EReal.coe_mul]; norm_num
theorem b_175 : Ideal.ofBits .f32 0x3FE00000#32 = ((7 / 4 : ℝ) : EReal) := by simp [Ideal.ofBits, Ideal.ieee, -EReal.coe_mul]; norm_num
theorem b_2 : Ideal.ofBits .f32 0x40000000#32 = ((2 : ℝ) : EReal) := by simp [Ideal.ofBits, Ideal.ieee, -EReal.coe_mul]; norm_num
theorem b_25 : Ideal.ofBits .f32 0x40200000#32 = ((5 / 2 : ℝ) : EReal) := by simp [Ideal.ofBits, Ideal.ieee, -EReal.coe_mul]; norm_num
theorem b_3 : Ideal.ofBits .f32 0x40400000#32 = ((3 : ℝ) : EReal) := by simp [Ideal.ofBits, Ideal.ieee, -EReal.coe_mul]; norm_num
theorem b_35 : Ideal.ofBits .f32 0x40600000#32 = ((7 / 2 : ℝ) : EReal) := by simp [Ideal.ofBits, Ideal.ieee, -EReal.coe_mul]; norm_num
theorem b_4 : Ideal.ofBits .f32 0x40800000#32 = ((4 : ℝ) : EReal) := by simp [Ideal.ofBits, Ideal.ieee, -EReal.coe_mul]; norm_num
theorem b_5 : Ideal.ofBits .f32 0x40A00000#32 = ((5 : ℝ) : EReal) := by simp [Ideal.ofBits, Ideal.ieee, -EReal.coe_mul]; norm_num
theorem b_6 : Ideal.ofBits .f32 0x40C00000#32 = ((6 : ℝ) : EReal) := by simp [Ideal.ofBits, Ideal.ieee, -EReal.coe_mul]; norm_num
theorem b_m6 : Ideal.ofBits .f32 0xC0C00000#32 = ((-6 : ℝ) : EReal) := by simp [Ideal.ofBits, Ideal.ieee, -EReal.coe_mul, -EReal.coe_neg]; norm_num

/-! ## Rounding to the nearest integer, ties to even -/

theorem round_eq {r : ℝ} {n : ℤ} (h1 : (n : ℝ) - 1 / 2 ≤ r) (h2 : r ≤ n + 1 / 2)
    (he : Even n ∨ ((n : ℝ) - 1 / 2 < r ∧ r < n + 1 / 2)) : Ideal.roundHalfEven r = n := by
  unfold Ideal.roundHalfEven
  by_cases hr : (n : ℝ) ≤ r
  · have hf : ⌊r⌋ = n := Int.floor_eq_iff.2 ⟨hr, by linarith⟩
    rw [hf]
    dsimp only
    split_ifs with h3 h4 h5
    · rfl
    · linarith
    · rfl
    · rcases he with he | he
      · exact absurd he h5
      · linarith [he.2]
  · rw [not_le] at hr
    have hf : ⌊r⌋ = n - 1 := Int.floor_eq_iff.2 ⟨by push_cast; linarith, by push_cast; linarith⟩
    rw [hf]
    dsimp only
    push_cast
    split_ifs with h3 h4 h5
    · linarith
    · ring
    · rcases he with he | he
      · exact absurd h5 (by rw [Int.even_sub]; simp [he])
      · linarith [he.1]
    · ring

/-! ## The level of a number of size at most six -/

/-- The level of a size by the seven comparisons. -/
def level (a : ℝ) : ℕ :=
  if 5 < a then 7 else if 7 / 2 ≤ a then 6 else if 5 / 2 < a then 5 else if 7 / 4 ≤ a then 4
  else if 5 / 4 < a then 3 else if 3 / 4 ≤ a then 2 else if 1 / 4 < a then 1 else 0

/-- The value of each level. -/
def levelVal : ℕ → ℝ
  | 0 => 0 | 1 => 1 / 2 | 2 => 1 | 3 => 3 / 2 | 4 => 2 | 5 => 3 | 6 => 4 | _ => 6

theorem level_lt (a : ℝ) : level a < 8 := by unfold level; split_ifs <;> decide

/-- The nearest four-bit value of a number. -/
def qVal (r : ℝ) : ℝ := if r < 0 then -levelVal (level |r|) else levelVal (level |r|)

/-- The four-bit code of a number. -/
def qCode (r : ℝ) : ℕ := if r < 0 then level |r| + 8 else level |r|

theorem qCode_lt (r : ℝ) : qCode r < 16 := by have := level_lt |r|; unfold qCode; split_ifs <;> omega

theorem select_ofBool {α : Type} (P : Prop) [Decidable P] (x y : α) :
    Scalar.select (BitVec.ofBool (decide P)) x y = if P then x else y := by
  by_cases h : P <;> simp [Scalar.select, h]

theorem cmp_ogt (x y : EReal) : Ideal.cmp .ogt x y = BitVec.ofBool (decide (y < x)) := rfl
theorem cmp_oge (x y : EReal) : Ideal.cmp .oge x y = BitVec.ofBool (decide (y ≤ x)) := rfl
theorem cmp_olt (x y : EReal) : Ideal.cmp .olt x y = BitVec.ofBool (decide (x < y)) := rfl

theorem max_neg_coe (r : ℝ) : max (r : EReal) (-(r : EReal)) = ((|r| : ℝ) : EReal) := by
  rw [← EReal.coe_neg, abs, EReal.coe_strictMono.monotone.map_max]

/-- The kernel's value of a number. -/
def kerQ (v : EReal) : EReal :=
  let a : EReal := max v (-v)
  let q : EReal := Scalar.select (Ideal.cmp .ogt a (Ideal.ofBits .f32 0x40A00000#32)) (Ideal.ofBits .f32 0x40C00000#32) <|
    Scalar.select (Ideal.cmp .oge a (Ideal.ofBits .f32 0x40600000#32)) (Ideal.ofBits .f32 0x40800000#32) <|
    Scalar.select (Ideal.cmp .ogt a (Ideal.ofBits .f32 0x40200000#32)) (Ideal.ofBits .f32 0x40400000#32) <|
    Scalar.select (Ideal.cmp .oge a (Ideal.ofBits .f32 0x3FE00000#32)) (Ideal.ofBits .f32 0x40000000#32) <|
    Scalar.select (Ideal.cmp .ogt a (Ideal.ofBits .f32 0x3FA00000#32)) (Ideal.ofBits .f32 0x3FC00000#32) <|
    Scalar.select (Ideal.cmp .oge a (Ideal.ofBits .f32 0x3F400000#32)) (Ideal.ofBits .f32 0x3F800000#32) <|
    Scalar.select (Ideal.cmp .ogt a (Ideal.ofBits .f32 0x3E800000#32)) (Ideal.ofBits .f32 0x3F000000#32) (Ideal.ofBits .f32 0x00000000#32)
  Scalar.select (Ideal.cmp .olt v (Ideal.ofBits .f32 0x00000000#32)) (Ideal.ofBits .f32 0x00000000#32 - q) q

/-- The kernel's code of a number. -/
def kerC (v : EReal) : BitVec 8 :=
  let a : EReal := max v (-v)
  let q : BitVec 32 := Scalar.select (Ideal.cmp .ogt a (Ideal.ofBits .f32 0x40A00000#32)) 7#32 <|
    Scalar.select (Ideal.cmp .oge a (Ideal.ofBits .f32 0x40600000#32)) 6#32 <|
    Scalar.select (Ideal.cmp .ogt a (Ideal.ofBits .f32 0x40200000#32)) 5#32 <|
    Scalar.select (Ideal.cmp .oge a (Ideal.ofBits .f32 0x3FE00000#32)) 4#32 <|
    Scalar.select (Ideal.cmp .ogt a (Ideal.ofBits .f32 0x3FA00000#32)) 3#32 <|
    Scalar.select (Ideal.cmp .oge a (Ideal.ofBits .f32 0x3F400000#32)) 2#32 <|
    Scalar.select (Ideal.cmp .ogt a (Ideal.ofBits .f32 0x3E800000#32)) 1#32 0#32
  (Scalar.select (Ideal.cmp .olt v (Ideal.ofBits .f32 0x00000000#32)) (q + 8#32) q).setWidth 8

theorem kerQ_coe (r : ℝ) : kerQ r = (qVal r : EReal) := by
  unfold kerQ qVal
  simp only [b_0, b_025, b_05, b_075, b_1, b_125, b_15, b_175, b_2, b_25, b_3, b_35, b_4, b_5, b_6, max_neg_coe, cmp_ogt, cmp_oge, cmp_olt,
    select_ofBool, EReal.coe_lt_coe_iff, EReal.coe_le_coe_iff]
  generalize |r| = a
  unfold level
  split_ifs <;> simp [levelVal]

theorem kerC_coe (r : ℝ) : kerC r = BitVec.ofNat 8 (qCode r) := by
  unfold kerC qCode
  simp only [b_0, b_025, b_05, b_075, b_1, b_125, b_15, b_175, b_2, b_25, b_3, b_35, b_4, b_5, b_6, max_neg_coe, cmp_ogt, cmp_oge, cmp_olt,
    select_ofBool, EReal.coe_lt_coe_iff, EReal.coe_le_coe_iff]
  generalize |r| = a
  unfold level
  split_ifs <;> rfl

/-- The reference's size of the nearest value. -/
def refA (a : EReal) : EReal :=
  Scalar.select (Ideal.cmp .olt a (Ideal.ofBits .f32 0x40000000#32))
    (Ideal.div (Ideal.liftRound Ideal.roundHalfEven (Ideal.ofBits .f32 0x40000000#32 * a)) (Ideal.ofBits .f32 0x40000000#32)) <|
  Scalar.select (Ideal.cmp .olt a (Ideal.ofBits .f32 0x40800000#32)) (Ideal.liftRound Ideal.roundHalfEven a)
    (Ideal.ofBits .f32 0x40000000#32 * Ideal.liftRound Ideal.roundHalfEven (Ideal.div a (Ideal.ofBits .f32 0x40000000#32)))

/-- The reference's index of a value. -/
def refI (q : EReal) : BitVec 32 :=
  Ideal.fptosi 32 <|
    Scalar.select (Ideal.cmp .olt q (Ideal.ofBits .f32 0x40000000#32)) (Ideal.ofBits .f32 0x40000000#32 * q) <|
    Scalar.select (Ideal.cmp .olt q (Ideal.ofBits .f32 0x40800000#32)) (q + Ideal.ofBits .f32 0x40000000#32)
      (Ideal.div q (Ideal.ofBits .f32 0x40000000#32) + Ideal.ofBits .f32 0x40800000#32)

/-- The reference's value of a number. -/
def refQ (v : EReal) : EReal :=
  Scalar.select (Ideal.cmp .olt v (Ideal.ofBits .f32 0x00000000#32)) (-refA (max v (-v))) (refA (max v (-v)))

/-- The reference's code of a number. -/
def refC (v : EReal) : BitVec 32 :=
  IntOp.ori (IntOp.shli .host ((Ideal.cmp .olt v (Ideal.ofBits .f32 0x00000000#32)).setWidth 32) 3#32) (refI (refA (max v (-v))))

theorem div_two (r : ℝ) : Ideal.div (r : EReal) ((2 : ℝ) : EReal) = ((r / 2 : ℝ) : EReal) := by
  unfold Ideal.div
  rw [if_neg (by norm_cast), ← EReal.coe_inv, ← EReal.coe_mul, div_eq_mul_inv]

theorem lift_coe (r : ℝ) : Ideal.liftRound Ideal.roundHalfEven (r : EReal) = ((Ideal.roundHalfEven r : ℝ) : EReal) := rfl

theorem refA_coe (a : ℝ) (h0 : 0 ≤ a) (h6 : a ≤ 6) : refA a = (levelVal (level a) : EReal) := by
  unfold refA
  simp only [b_2, b_4, cmp_olt, select_ofBool, EReal.coe_lt_coe_iff, ← EReal.coe_mul, lift_coe, div_two]
  have R : ∀ (r : ℝ) (n : ℤ), (n : ℝ) - 1 / 2 ≤ r → r ≤ n + 1 / 2 → (Even n ∨ ((n : ℝ) - 1 / 2 < r ∧ r < n + 1 / 2)) →
      Ideal.roundHalfEven r = n := fun r n => round_eq
  unfold level
  split_ifs with h1 h2 h3 h4 h5 h6' h7 h8 h9 <;> first | (exfalso; linarith) | skip
  all_goals congr 1
  all_goals simp only [levelVal]
  all_goals first
    | (rw [R _ 0 (by norm_num; linarith) (by norm_num; linarith) (Or.inl (by decide))]; norm_num; done)
    | (rw [R _ 1 (by norm_num; linarith) (by norm_num; linarith) (Or.inr ⟨by norm_num; linarith, by norm_num; linarith⟩)]; norm_num; done)
    | (rw [R _ 2 (by norm_num; linarith) (by norm_num; linarith) (Or.inl (by decide))]; norm_num; done)
    | (rw [R _ 3 (by norm_num; linarith) (by norm_num; linarith) (Or.inr ⟨by norm_num; linarith, by norm_num; linarith⟩)]; norm_num; done)
    | (rw [R _ 4 (by norm_num; linarith) (by norm_num; linarith) (Or.inl (by decide))]; norm_num; done)

theorem fptosi_nat (n : ℕ) (h : n < 8) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  interval_cases n <;> decide

theorem refI_val (n : ℕ) (h : n < 8) : refI (levelVal n : EReal) = BitVec.ofNat 32 n := by
  rw [← fptosi_nat n h]
  unfold refI
  simp only [b_2, b_4, cmp_olt, select_ofBool, EReal.coe_lt_coe_iff, ← EReal.coe_mul, div_two, ← EReal.coe_add]
  congr 1
  interval_cases n <;> simp only [levelVal] <;> norm_num

theorem refQ_coe (r : ℝ) (h : |r| ≤ 6) : refQ r = (qVal r : EReal) := by
  unfold refQ qVal
  rw [max_neg_coe, refA_coe _ (abs_nonneg r) h, b_0, cmp_olt, select_ofBool]
  simp only [EReal.coe_lt_coe_iff]
  split_ifs <;> simp

theorem refC_coe (r : ℝ) (h : |r| ≤ 6) : refC r = BitVec.ofNat 32 (qCode r) := by
  unfold refC qCode
  rw [max_neg_coe, refA_coe _ (abs_nonneg r) h, refI_val _ (level_lt _), b_0, cmp_olt]
  simp only [EReal.coe_lt_coe_iff]
  have hl := level_lt |r|
  generalize level |r| = n at *
  by_cases hr : r < 0
  · simp only [hr, decide_true, if_true]
    interval_cases n <;> decide
  · simp only [hr, decide_false, if_false]
    interval_cases n <;> decide

/-! ## Clipping -/

/-- A number clipped to between minus six and six. -/
def clip (x : EReal) : EReal := min ((6 : ℝ) : EReal) (max ((-6 : ℝ) : EReal) x)

theorem clip_real (x : EReal) : ∃ r : ℝ, |r| ≤ 6 ∧ clip x = (r : EReal) := by
  induction x with
  | bot => exact ⟨-6, by norm_num, by simp [clip]; norm_cast⟩
  | top => exact ⟨6, by norm_num, by simp [clip]⟩
  | coe r =>
    refine ⟨min 6 (max (-6) r), abs_le.2 ⟨le_min (by norm_num) (le_max_left _ _), min_le_left _ _⟩, ?_⟩
    unfold clip
    rw [← EReal.coe_strictMono.monotone.map_max, ← EReal.coe_strictMono.monotone.map_min]

theorem ker_ref_Q (x : EReal) : kerQ (clip x) = refQ (clip x) := by
  obtain ⟨r, h, e⟩ := clip_real x
  rw [e, kerQ_coe, refQ_coe r h]

theorem ker_ref_C (x : EReal) : (kerC (clip x)).setWidth 32 = refC (clip x) ∧ (kerC (clip x)).toNat < 16 := by
  obtain ⟨r, h, e⟩ := clip_real x
  rw [e, kerC_coe, refC_coe r h]
  have := qCode_lt r
  generalize qCode r = n at *
  constructor
  · interval_cases n <;> decide
  · interval_cases n <;> decide

end Cert.Maths
-- ==== Proof.Maths.QuantTile.lean ====
module

public import proofs.«01_k».proof.Proof.Maths.Tile
public import proofs.«01_k».proof.Proof.Maths.Grid

/-! The quantiser's tile read at an index. -/

@[expose] public section

set_option maxRecDepth 16384

noncomputable section

namespace Cert.Maths

open Cert.KernelIdeal Cert.KernelIdeal.Gen Cert.KernelIdeal.Hand
open Idealize.ShloMosaic

theorem quantQ_apply (v : FVec Ideal S256x256 .f32) (i : S256x256.Idx) : quantQ (F := Ideal) v i = kerQ (v i) := rfl

theorem quantC_apply (v : FVec Ideal S256x256 .f32) (i : S256x256.Idx) : quantC (F := Ideal) v i = kerC (v i) := rfl

/-- The scaled and clipped tile: each entry times the inverse scale of its block. -/
theorem quantV_apply (v3 : Vec Ideal S16x128 .f32) (v11 : FVec Ideal S256x256 .f32) (p c : Fin 256) :
    quantV (F := Ideal) v3 v11 (ix2 p c)
      = clip (v11 (ix2 p c) * v3 (ix2 (⟨p.val / 16, by omega⟩ : Fin 16) (⟨c.val % 128, Nat.mod_lt _ (by decide)⟩ : Fin 128))) := by
  unfold clip
  rw [← b_6, ← b_m6]
  pointwise [quantV]
  have hc := c.isLt
  by_cases h : c.val < 128
  · rw [dif_pos h]; have e : c.val % 128 = c.val := by omega
    simp only [e]
  · rw [dif_neg h]; have e : c.val % 128 = c.val - 128 := by omega
    simp only [e]

theorem dqOf_apply (v : FVec Ideal S256x256 .f32) (w : Vec Ideal S16x128 .bf16) (p c : Fin 256) :
    dqOf (F := Ideal) v w (ix2 p c)
      = v (ix2 p c) * w (ix2 (⟨p.val / 16, by omega⟩ : Fin 16) (⟨c.val % 128, Nat.mod_lt _ (by decide)⟩ : Fin 128)) := by
  pointwise [dqOf]
  have hc := c.isLt
  by_cases h : c.val < 128
  · rw [dif_pos h]; have e : c.val % 128 = c.val := by omega
    simp only [e]
  · rw [dif_neg h]; have e : c.val % 128 = c.val - 128 := by omega
    simp only [e]

end Cert.Maths
-- ==== Proof.Maths.Pack.lean ====
module

public import proofs.«01_k».proof.Proof.Maths.Spec
public import proofs.«01_k».proof.Proof.HandKernelIdeal.Tiles
public import Idealize.ShloMosaic.Lib.BitcastFour
public import Idealize.ShloMosaic.Lib.Pointwise

/-! The two packings of four-bit codes read at an index: two codes of neighbouring columns, or of neighbouring rows,
in one byte. -/

@[expose] public section

set_option maxRecDepth 16384

noncomputable section

namespace Cert.Maths

open Cert.KernelIdeal Cert.KernelIdeal.Gen Cert.KernelIdeal.Hand
open Idealize.ShloMosaic

/-- Two four-bit codes in one byte. -/
def pack (a b : BitVec 8) : BitVec 8 := a ||| (b <<< 4)

/-- A byte of a word: the inverse of reading four bytes as one word. -/
theorem word_byte (x : S64x128.Idx → BitVec 32) (h : S64x128.Bitcasts 32 S256x128 8) (p : Fin 256) (l : Fin 128) (q : ℕ) (hq : q < 8) :
    (bitcast S256x128 8 x h (ix2 p l)).getLsbD q = (x (ix2 (⟨p.val / 4, by omega⟩ : Fin 64) l)).getLsbD (8 * (p.val % 4) + q) := by
  rw [bitcast_getLsbD x h _ q hq (by decide)]
  have e1 : (S256x128.row (ix2 p l) * 8 + q) % 32 = 8 * (p.val % 4) + q := by show (p.val * 8 + q) % 32 = 8 * (p.val % 4) + q; omega
  rw [e1]
  congr 2
  funext c
  match c with
  | ⟨0, _⟩ => exact Fin.ext ((h.srcIdx_row _ _ _ ⟨0, Nat.zero_lt_two⟩ rfl).trans (by show (p.val * 8 + q) / 32 = p.val / 4; omega))
  | ⟨1, _⟩ => exact Fin.ext (h.srcIdx_other _ _ _ ⟨1, Nat.one_lt_two⟩ (by show ¬ 1 + 2 = 2; omega))

/-- A half of a word. -/
theorem word_half (x : S64x128.Idx → BitVec 32) (h : S64x128.Bitcasts 32 S128x128 16) (p l : Fin 128) (q : ℕ) (hq : q < 16) :
    (bitcast S128x128 16 x h (ix2 p l)).getLsbD q = (x (ix2 (⟨p.val / 2, by omega⟩ : Fin 64) l)).getLsbD (16 * (p.val % 2) + q) := by
  rw [bitcast_getLsbD x h _ q hq (by decide)]
  have e1 : (S128x128.row (ix2 p l) * 16 + q) % 32 = 16 * (p.val % 2) + q := by show (p.val * 16 + q) % 32 = 16 * (p.val % 2) + q; omega
  rw [e1]
  congr 2
  funext c
  match c with
  | ⟨0, _⟩ => exact Fin.ext ((h.srcIdx_row _ _ _ ⟨0, Nat.zero_lt_two⟩ rfl).trans (by show (p.val * 16 + q) / 32 = p.val / 2; omega))
  | ⟨1, _⟩ => exact Fin.ext (h.srcIdx_other _ _ _ ⟨1, Nat.one_lt_two⟩ (by show ¬ 1 + 2 = 2; omega))

/-- Two halves in a word. -/
theorem half_word (x : S128x128.Idx → BitVec 16) (h : S128x128.Bitcasts 16 S64x128 32) (a : Fin 64) (l : Fin 128) (q : ℕ) (hq : q < 32) :
    (bitcast S64x128 32 x h (ix2 a l)).getLsbD q = (x (ix2 (⟨2 * a.val + q / 16, by omega⟩ : Fin 128) l)).getLsbD (q % 16) := by
  rw [bitcast_getLsbD x h _ q hq (by decide)]
  have e1 : (S64x128.row (ix2 a l) * 32 + q) % 16 = q % 16 := by show (a.val * 32 + q) % 16 = q % 16; omega
  rw [e1]
  congr 2
  funext c
  match c with
  | ⟨0, _⟩ => exact Fin.ext ((h.srcIdx_row _ _ _ ⟨0, Nat.zero_lt_two⟩ rfl).trans (by show (a.val * 32 + q) / 16 = 2 * a.val + q / 16; omega))
  | ⟨1, _⟩ => exact Fin.ext (h.srcIdx_other _ _ _ ⟨1, Nat.one_lt_two⟩ (by show ¬ 1 + 2 = 2; omega))

/-- A byte in a word. -/
theorem byte_word (x : S256x128.Idx → BitVec 8) (h : S256x128.Bitcasts 8 S64x128 32) (a : Fin 64) (l : Fin 128) (q : ℕ) (hq : q < 32)
    (p : Fin 256) (hp : p.val = 4 * a.val + q / 8) :
    (bitcast S64x128 32 x h (ix2 a l)).getLsbD q = (x (ix2 p l)).getLsbD (q % 8) := by
  rw [bitcast_8_32_getLsbD x h _ q hq]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

theorem shl4 (x : BitVec 32) (i : ℕ) (hi : i < 32) : (IntOp.shli .vector x 4#32).getLsbD i = (decide (4 ≤ i) && x.getLsbD (i - 4)) := by
  have e : IntOp.shli .vector x 4#32 = x <<< 4 := by simp [IntOp.shli]
  rw [e, BitVec.getLsbD_shiftLeft]
  by_cases h : i < 4 <;> simp [h, hi] <;> omega

theorem pack_bit (a b : BitVec 8) (q : ℕ) (hq : q < 8) : (pack a b).getLsbD q = (a.getLsbD q || (decide (4 ≤ q) && b.getLsbD (q - 4))) := by
  unfold pack
  rw [BitVec.getLsbD_or, BitVec.getLsbD_shiftLeft]
  by_cases h : q < 4
  · simp [h, hq, Nat.not_le.2 h]
  · simp [h, hq, Nat.not_lt.1 h]

theorem high_bit (a : BitVec 8) (ha : a.toNat < 16) (q : ℕ) (hq : 4 ≤ q) : a.getLsbD q = false := by
  rw [BitVec.getLsbD, Nat.testBit_lt_two_pow]
  exact lt_of_lt_of_le ha (by calc 16 = 2 ^ 4 := rfl
    _ ≤ 2 ^ q := Nat.pow_le_pow_right (by decide) hq)

/-- The column packing at an index. -/
theorem ckOf_apply (v : IVec S256x256 8) (hv : ∀ i, (v i).toNat < 16) (p : Fin 256) (l : Fin 128) :
    ckOf v (ix2 p l) = pack (v (ix2 p (⟨l.val, by omega⟩ : Fin 256))) (v (ix2 p (⟨l.val + 128, by omega⟩ : Fin 256))) := by
  have h1 : ∀ (p : Fin 256) (l : Fin 128), extractStridedSlice S256x128 ![0, 0] v slices_S256x256_o0_0_S256x128 (ix2 p l) = v (ix2 p (⟨l.val, by omega⟩ : Fin 256)) := by
    intro p l; pointwise
  have h2 : ∀ (p : Fin 256) (l : Fin 128), extractStridedSlice S256x128 ![0, 128] v slices_S256x256_o0_128_S256x128 (ix2 p l) = v (ix2 p (⟨l.val + 128, by omega⟩ : Fin 256)) := by
    intro p l; pointwise; congr 2; apply Fin.ext; show _ = _; simp; omega
  rw [← h1, ← h2]
  have hE : ∀ (p : Fin 256) (l : Fin 128), (extractStridedSlice S256x128 ![0, 128] v slices_S256x256_o0_128_S256x128 (ix2 p l)).toNat < 16 := by
    intro p l; rw [h2]; exact hv _
  unfold ckOf
  generalize extractStridedSlice S256x128 ![0, 0] v slices_S256x256_o0_0_S256x128 = E at *
  generalize extractStridedSlice S256x128 ![0, 128] v slices_S256x256_o0_128_S256x128 = O at *
  apply BitVec.eq_of_getLsbD_eq
  intro q hq
  rw [word_byte _ _ p l q hq, pack_bit _ _ q hq]
  have hp := p.isLt
  have hi : 8 * (p.val % 4) + q < 32 := by omega
  show (IntOp.ori _ (IntOp.shli .vector _ 4#32)).getLsbD _ = _
  rw [IntOp.ori, BitVec.getLsbD_or, shl4 _ _ hi, byte_word _ _ _ _ _ hi p (by show p.val = 4 * (p.val / 4) + _; omega)]
  have e1 : (8 * (p.val % 4) + q) % 8 = q := by omega
  rw [e1]
  congr 1
  by_cases h4 : 4 ≤ q
  · have e2 : (8 * (p.val % 4) + q - 4) % 8 = q - 4 := by omega
    rw [byte_word _ _ _ _ _ (by omega) p (by show p.val = 4 * (p.val / 4) + _; omega), e2]
    simp [h4]; intro; omega
  · by_cases h8 : 4 ≤ 8 * (p.val % 4) + q
    · rw [byte_word _ _ _ _ _ (by omega) (⟨p.val - 1, by omega⟩ : Fin 256) (by show p.val - 1 = 4 * (p.val / 4) + _; omega),
        high_bit _ (hE _ _) _ (by omega)]
      simp [h4]
    · simp [h4, h8]

/-- Codes of two neighbouring rows in one byte. -/
theorem pairs_apply (E : IVec S256x128 8) (hE : ∀ i, (E i).toNat < 16) (P l : Fin 128) :
    trunci 8 (ori (extui 32 (bitcast S128x128 16 (bitcast S64x128 32 E bitcasts_S256x128_w8_S64x128_w32) bitcasts_S64x128_w32_S128x128_w16) natLt_16_32)
      (shrsi (extui 32 (bitcast S128x128 16 (bitcast S64x128 32 E bitcasts_S256x128_w8_S64x128_w32) bitcasts_S64x128_w32_S128x128_w16) natLt_16_32) (broadcast S128x128 4#32))) natLt_8_32 (ix2 P l)
      = pack (E (ix2 (⟨2 * P.val, by omega⟩ : Fin 256) l)) (E (ix2 (⟨2 * P.val + 1, by omega⟩ : Fin 256) l)) := by
  have hb : ∀ q : ℕ, q < 16 → (bitcast S128x128 16 (bitcast S64x128 32 E bitcasts_S256x128_w8_S64x128_w32) bitcasts_S64x128_w32_S128x128_w16 (ix2 P l)).getLsbD q
      = (E (ix2 (⟨(2 * P.val + q / 8) % 256, Nat.mod_lt _ (by decide)⟩ : Fin 256) l)).getLsbD (q % 8) := by
    intro q hq
    have hP := P.isLt
    have hm : (2 * P.val + q / 8) % 256 = 2 * P.val + q / 8 := Nat.mod_eq_of_lt (by omega)
    have hi : 16 * (P.val % 2) + q < 32 := by omega
    have e : (16 * (P.val % 2) + q) % 8 = q % 8 := by omega
    rw [word_half _ _ P l q hq, byte_word _ _ _ _ _ hi (⟨(2 * P.val + q / 8) % 256, Nat.mod_lt _ (by decide)⟩ : Fin 256) (by show (2 * P.val + q / 8) % 256 = 4 * (P.val / 2) + _; omega), e]
  show ((IntOp.ori ((bitcast S128x128 16 (bitcast S64x128 32 E bitcasts_S256x128_w8_S64x128_w32) bitcasts_S64x128_w32_S128x128_w16 (ix2 P l)).setWidth 32) (IntOp.shrsi .vector ((bitcast S128x128 16 (bitcast S64x128 32 E bitcasts_S256x128_w8_S64x128_w32) bitcasts_S64x128_w32_S128x128_w16 (ix2 P l)).setWidth 32) 4#32)).setWidth 8) = _
  generalize bitcast S128x128 16 (bitcast S64x128 32 E bitcasts_S256x128_w8_S64x128_w32) bitcasts_S64x128_w32_S128x128_w16 (ix2 P l) = w at *
  have es : ∀ i : ℕ, i < 28 → (IntOp.shrsi .vector (w.setWidth 32) 4#32).getLsbD i = (w.setWidth 32).getLsbD (i + 4) := by
    intro i hi
    have e : IntOp.shrsi .vector (w.setWidth 32) 4#32 = (w.setWidth 32).sshiftRight 4 := by simp [IntOp.shrsi, BitVec.sshiftRight']
    rw [e, BitVec.getLsbD_sshiftRight]
    have h1 : 4 + i < 32 := by omega
    have h2 : ¬ 32 ≤ i := by omega
    simp only [h1, h2, decide_false, Bool.not_false, Bool.true_and, if_true, Nat.add_comm 4 i]
    rw [if_pos (by omega)]
  apply BitVec.eq_of_getLsbD_eq
  intro q hq
  rw [pack_bit _ _ q hq, BitVec.getLsbD_setWidth, IntOp.ori, BitVec.getLsbD_or, es q (by omega), BitVec.getLsbD_setWidth, BitVec.getLsbD_setWidth,
    hb q (by omega), hb (q + 4) (by omega)]
  have e0 : q / 8 = 0 := by omega
  have e1 : q % 8 = q := by omega
  have e2 : q < 32 := by omega
  have e3 : q + 4 < 32 := by omega
  have hP := P.isLt
  have m0 : 2 * P.val % 256 = 2 * P.val := by omega
  have m1 : (2 * P.val + 1) % 256 = 2 * P.val + 1 := by omega
  simp only [e0, e1, hq, e2, e3, decide_true, Bool.true_and, Nat.add_zero, m0]
  congr 1
  by_cases h4 : 4 ≤ q
  · have e4 : (q + 4) / 8 = 1 := by omega
    have e5 : (q + 4) % 8 = q - 4 := by omega
    simp only [e4, e5, h4, decide_true, Bool.true_and, m1]
  · rw [high_bit _ (hE _) _ (by omega)]
    simp [h4]

/-- The row packing at an index. -/
theorem cnOf_apply (v : IVec S256x256 8) (hv : ∀ i, (v i).toNat < 16) (r : Fin 256) (m : Fin 128) :
    cnOf v (ix2 r m) = pack (v (ix2 (⟨2 * m.val, by omega⟩ : Fin 256) (⟨r.val / 2 + 128 * (r.val % 2), by omega⟩ : Fin 256)))
      (v (ix2 (⟨2 * m.val + 1, by omega⟩ : Fin 256) (⟨r.val / 2 + 128 * (r.val % 2), by omega⟩ : Fin 256))) := by
  have h1 : ∀ (p : Fin 256) (l : Fin 128), extractStridedSlice S256x128 ![0, 0] v slices_S256x256_o0_0_S256x128 (ix2 p l) = v (ix2 p (⟨l.val, by omega⟩ : Fin 256)) := by
    intro p l; pointwise
  have h2 : ∀ (p : Fin 256) (l : Fin 128), extractStridedSlice S256x128 ![0, 128] v slices_S256x256_o0_128_S256x128 (ix2 p l) = v (ix2 p (⟨l.val + 128, by omega⟩ : Fin 256)) := by
    intro p l; pointwise; congr 2; apply Fin.ext; show _ = _; simp; omega
  have hE : ∀ i, (extractStridedSlice S256x128 ![0, 0] v slices_S256x256_o0_0_S256x128 i).toNat < 16 := fun i => hv _
  have hO : ∀ i, (extractStridedSlice S256x128 ![0, 128] v slices_S256x256_o0_128_S256x128 i).toNat < 16 := fun i => hv _
  have hr := r.isLt
  apply BitVec.eq_of_getLsbD_eq
  intro q hq
  unfold cnOf
  rw [word_byte _ _ r m q hq, half_word _ _ _ _ _ (by omega)]
  rw [transpose_apply _ _ transposes_S128x128_p1_0_S128x128 _ (ix2 m (⟨r.val / 2, by omega⟩ : Fin 128)) (fun a => match a with
    | ⟨0, _⟩ => by show r.val / 2 = 2 * (r.val / 4) + (8 * (r.val % 4) + q) / 16; omega
    | ⟨1, _⟩ => rfl)]
  show (IntOp.ori ((trunci 8 _ natLt_8_32 (ix2 m (⟨r.val / 2, by omega⟩ : Fin 128))).setWidth 16)
    (IntOp.shli .vector ((trunci 8 _ natLt_8_32 (ix2 m (⟨r.val / 2, by omega⟩ : Fin 128))).setWidth 16) 8#16)).getLsbD _ = _
  rw [pairs_apply _ hE, pairs_apply _ hO, h1, h1, h2, h2]
  have e8 : ∀ x : BitVec 16, IntOp.shli .vector x 8#16 = x <<< 8 := fun x => by simp [IntOp.shli]
  rw [e8, IntOp.ori, BitVec.getLsbD_or, BitVec.getLsbD_shiftLeft, BitVec.getLsbD_setWidth, BitVec.getLsbD_setWidth]
  rcases Nat.mod_two_eq_zero_or_one r.val with h | h
  · have e1 : (8 * (r.val % 4) + q) % 16 = q := by omega
    have e2 : r.val / 2 + 128 * (r.val % 2) = r.val / 2 := by omega
    simp only [e1, e2]
    have e3 : q < 16 := by omega
    simp [e3, hq]
  · have e1 : (8 * (r.val % 4) + q) % 16 = 8 + q := by omega
    have e2 : r.val / 2 + 128 * (r.val % 2) = r.val / 2 + 128 := by omega
    simp only [e1, e2]
    have e3 : 8 + q < 16 := by omega
    have e4 : q < 16 := by omega
    rw [BitVec.getLsbD_of_ge _ (8 + q) (by omega)]
    simp [e3, e4]

end Cert.Maths
-- ==== Proof.Maths.Pieces.lean ====
module

public import proofs.«01_k».proof.Proof.Maths.QuantTile
public import proofs.«01_k».proof.Proof.Maths.Pack
public import proofs.«01_k».proof.Proof.HandKernelIdeal.AmaxNext

/-! The twelve column tiles put together: what each array of the kernel holds at an index, in terms of the rotated rows. -/

@[expose] public section

set_option maxRecDepth 16384

noncomputable section

namespace Cert.Maths

open Cert.KernelIdeal Cert.KernelIdeal.Gen Cert.KernelIdeal.Hand
open Idealize.ShloMosaic

/-- Every index of a two-axis array is a row and a column. -/
theorem ex2 {a b : ℕ} (z : (⟨2, ![a, b]⟩ : Shape).Idx) : ∃ (p : Fin a) (c : Fin b), z = ix2 p c :=
  ⟨z 0, z 1, funext fun i => match i with | ⟨0, _⟩ => rfl | ⟨1, _⟩ => rfl⟩

/-- What every piece has of a property, the array made of the pieces has. -/
theorem canon_forall_of_pieces {s : Shape} {e : EltTy} (P : s.Idx → Elt Ideal e → Prop) :
    ∀ (L : List (View.Piece (Elt Ideal) s e)) (_ : ∀ p ∈ L, ∀ x : p.1.shape.Idx, P (p.1.emb x) (p.2 x)) (y : s.Idx)
      (_ : ∃ p ∈ L, y ∈ p.1.set), P y (View.canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_forall_of_pieces P L (fun q hq => hL q (by simp [hq])) y ?_
      obtain ⟨q, hq, hyq⟩ := hy
      rcases List.mem_cons.mp hq with rfl | hq'
      · exact absurd hyq hm
      · exact ⟨q, hq', hyq⟩

variable (x : Vec Ideal S256x2880 .bf16) (g : Fin 16 → EReal) (A : ℕ → ℕ → EReal) (n0 : ℕ)

/-- A block of 256 rows of `A`, the columns beyond the last being zero. -/
def IsRows : Prop := (∀ (p : Fin 256) (k : Fin 2880), x (ix2 p k) = A (n0 + p.val) k.val) ∧ ∀ n k, 2880 ≤ k → A n k = 0

variable {x g A n0}

theorem tile_mm (hx : IsRows x A n0) (j o : ℕ) (ho : o = 256 * j) (inb : ∀ a, ![0, o] a + S256x256.size a ≤ S256x2880.size a) (p c : Fin 256) :
    matmul (F := Ideal) (φ₁ := .bf16) (φ₂ := .bf16) dot_S256x256_S256x256_S256x256_1_0_0_1_n_n none
        (View.ld x (Rect.unit (s := S256x2880) ![0, o] S256x256.size inb)) (rotTile (F := Ideal) g) (constant (F := Ideal) S256x256 .f32 0x00000000#32) (ix2 p c)
      = rotAt A g (n0 + p.val) (256 * j + colOf c.val) := by
  have hb : o + 256 ≤ 2880 := inb 1
  refine mm_apply _ g p c A (n0 + p.val) j fun r => ?_
  have e : View.ld x (Rect.unit (s := S256x2880) ![0, o] S256x256.size inb) (ix2 p r) = x (ix2 p (⟨o + r.val, by omega⟩ : Fin 2880)) := by
    refine congrArg x (funext fun a => match a with
      | ⟨0, _⟩ => Fin.ext (by show 0 + 1 * p.val = p.val; omega)
      | ⟨1, _⟩ => Fin.ext (by show o + 1 * r.val = o + r.val; omega))
  rw [e, hx.1]
  show A _ (o + r.val) = _
  rw [ho]

theorem tail_mm (hx : IsRows x A n0) (inb : ∀ a, ![0, 2816] a + S256x64.size a ≤ S256x2880.size a) (inb' : ∀ a, ![0, 0] a + S64x256.size a ≤ S256x256.size a) (p c : Fin 256) :
    matmul (F := Ideal) (φ₁ := .bf16) (φ₂ := .bf16) dot_S256x64_S64x256_S256x256_1_0_0_1_n_n none
        (View.ld x (Rect.unit (s := S256x2880) ![0, 2816] S256x64.size inb))
        (View.ld (Val := Elt Ideal) (e' := .bf16) (rotTile (F := Ideal) g) (Rect.unit (s := S256x256) ![0, 0] S64x256.size inb')) (constant (F := Ideal) S256x256 .f32 0x00000000#32) (ix2 p c)
      = rotAt A g (n0 + p.val) (256 * 11 + colOf c.val) := by
  refine mmTail_apply _ _ g p c A (n0 + p.val) 11 (fun r => ?_) (fun r => ?_) (fun k hk => hx.2 _ _ hk)
  · have e : View.ld x (Rect.unit (s := S256x2880) ![0, 2816] S256x64.size inb) (ix2 p r) = x (ix2 p (⟨2816 + r.val, by omega⟩ : Fin 2880)) := by
      refine congrArg x (funext fun a => match a with
        | ⟨0, _⟩ => Fin.ext (by show 0 + 1 * p.val = p.val; omega)
        | ⟨1, _⟩ => Fin.ext (by show 2816 + 1 * r.val = 2816 + r.val; omega))
    rw [e, hx.1]
  · have e : View.ld (Val := Elt Ideal) (e' := .bf16) (rotTile (F := Ideal) g) (Rect.unit (s := S256x256) ![0, 0] S64x256.size inb') (ix2 r c) = rotTile (F := Ideal) g (ix2 (⟨r.val, by omega⟩ : Fin 256) c) := by
      refine congrArg (rotTile (F := Ideal) g) (funext fun a => match a with
        | ⟨0, _⟩ => Fin.ext (by show 0 + 1 * r.val = r.val; omega)
        | ⟨1, _⟩ => Fin.ext (by show 0 + 1 * c.val = c.val; omega))
    rw [e, rotTile_apply]; rfl

/-- The whole rotation matrix loaded is the rotation matrix. -/
theorem ld_rot (R : Vec Ideal S256x256 .bf16) : View.ld R (Rect.unit (s := S256x256) ![0, 0] S256x256.size inb_S256x256_S256x256_0_0) = R :=
  View.ld_unit_zero off00 _ _

/-! ## The rotated activations -/

/-- The column of the rotated activations that a lane of the tiled array holds. -/
def tcol (C : ℕ) : ℕ := 256 * (C / 256) + colOf (C % 256)

theorem tcol_eq (j c : ℕ) (hc : c < 256) : tcol (256 * j + c) = 256 * j + colOf c := by
  unfold tcol
  have e1 : (256 * j + c) / 256 = j := by omega
  have e2 : (256 * j + c) % 256 = c := by omega
  rw [e1, e2]

theorem xp_piece (hx : IsRows x A n0) (j o : ℕ) (ho : o = 256 * j) (inb : ∀ a, ![0, o] a + S256x256.size a ≤ S256x2880.size a)
    (inb' : ∀ a, ![0, o] a + S256x256.size a ≤ S256x3072.size a) (z : S256x256.Idx) :
    xpTile (F := Ideal) (View.ld x (Rect.unit (s := S256x2880) ![0, o] S256x256.size inb)) (rotTile (F := Ideal) g) z
      = rotAt A g (n0 + ((Rect.unit (s := S256x3072) ![0, o] S256x256.size inb').emb z 0).val) (tcol ((Rect.unit (s := S256x3072) ![0, o] S256x256.size inb').emb z 1).val) := by
  obtain ⟨p, c, rfl⟩ := ex2 z
  have e0 : ((Rect.unit (s := S256x3072) ![0, o] S256x256.size inb').emb (ix2 p c) 0).val = p.val := by show 0 + 1 * p.val = p.val; omega
  have e1 : ((Rect.unit (s := S256x3072) ![0, o] S256x256.size inb').emb (ix2 p c) 1).val = 256 * j + c.val := by show o + 1 * c.val = _; omega
  rw [e0, e1, tcol_eq _ _ c.isLt]
  unfold xpTile
  rw [shapeCast_self]
  exact tile_mm hx j o ho inb p c

theorem xp_piece_tail (hx : IsRows x A n0) (z : S256x256.Idx) :
    xpTail (F := Ideal) (View.ld x (Rect.unit (s := S256x2880) ![0, 2816] S256x64.size inb_S256x2880_S256x64_0_2816))
        (View.ld (Val := Elt Ideal) (e' := .bf16) (rotTile (F := Ideal) g) (Rect.unit (s := S256x256) ![0, 0] S64x256.size inb_S256x256_S64x256_0_0)) z
      = rotAt A g (n0 + ((Rect.unit (s := S256x3072) ![0, 2816] S256x256.size inb_S256x3072_S256x256_0_2816).emb z 0).val)
          (tcol ((Rect.unit (s := S256x3072) ![0, 2816] S256x256.size inb_S256x3072_S256x256_0_2816).emb z 1).val) := by
  obtain ⟨p, c, rfl⟩ := ex2 z
  have e0 : ((Rect.unit (s := S256x3072) ![0, 2816] S256x256.size inb_S256x3072_S256x256_0_2816).emb (ix2 p c) 0).val = p.val := by show 0 + 1 * p.val = p.val; omega
  have e1 : ((Rect.unit (s := S256x3072) ![0, 2816] S256x256.size inb_S256x3072_S256x256_0_2816).emb (ix2 p c) 1).val = 256 * 11 + c.val := by show 2816 + 1 * c.val = _; omega
  rw [e0, e1, tcol_eq _ _ c.isLt]
  unfold xpTail
  rw [shapeCast_self]
  exact tail_mm hx _ _ p c

theorem xp_canon (hx : IsRows x A n0) (p : Fin 256) (C : Fin 3072) :
    View.canon (xpPieces (F := Ideal) (rotTile (F := Ideal) g) x) (ix2 p C) = rotAt A g (n0 + p.val) (tcol C.val) := by
  refine canon_forall_of_pieces (fun y v => v = rotAt A g (n0 + (y 0).val) (tcol (y 1).val)) _ ?_ _ (xp_cover _ _ _)
  unfold xpPieces xpPiecesL
  rw [ld_rot]
  refine List.forall_mem_cons.2 ⟨fun z => xp_piece_tail hx z, ?_⟩
  refine List.forall_mem_cons.2 ⟨fun z => xp_piece hx 10 2560 rfl inb_S256x2880_S256x256_0_2560 inb_S256x3072_S256x256_0_2560 z, ?_⟩
  refine List.forall_mem_cons.2 ⟨fun z => xp_piece hx 9 2304 rfl inb_S256x2880_S256x256_0_2304 inb_S256x3072_S256x256_0_2304 z, ?_⟩
  refine List.forall_mem_cons.2 ⟨fun z => xp_piece hx 8 2048 rfl inb_S256x2880_S256x256_0_2048 inb_S256x3072_S256x256_0_2048 z, ?_⟩
  refine List.forall_mem_cons.2 ⟨fun z => xp_piece hx 7 1792 rfl inb_S256x2880_S256x256_0_1792 inb_S256x3072_S256x256_0_1792 z, ?_⟩
  refine List.forall_mem_cons.2 ⟨fun z => xp_piece hx 6 1536 rfl inb_S256x2880_S256x256_0_1536 inb_S256x3072_S256x256_0_1536 z, ?_⟩
  refine List.forall_mem_cons.2 ⟨fun z => xp_piece hx 5 1280 rfl inb_S256x2880_S256x256_0_1280 inb_S256x3072_S256x256_0_1280 z, ?_⟩
  refine List.forall_mem_cons.2 ⟨fun z => xp_piece hx 4 1024 rfl inb_S256x2880_S256x256_0_1024 inb_S256x3072_S256x256_0_1024 z, ?_⟩
  refine List.forall_mem_cons.2 ⟨fun z => xp_piece hx 3 768 rfl inb_S256x2880_S256x256_0_768 inb_S256x3072_S256x256_0_768 z, ?_⟩
  refine List.forall_mem_cons.2 ⟨fun z => xp_piece hx 2 512 rfl inb_S256x2880_S256x256_0_512 inb_S256x3072_S256x256_0_512 z, ?_⟩
  refine List.forall_mem_cons.2 ⟨fun z => xp_piece hx 1 256 rfl inb_S256x2880_S256x256_0_256 inb_S256x3072_S256x256_0_256 z, ?_⟩
  refine List.forall_mem_cons.2 ⟨fun z => xp_piece hx 0 0 rfl inb_S256x2880_S256x256_0_0 inb_S256x3072_S256x256_0_0 z, ?_⟩
  exact fun _ h => absurd h List.not_mem_nil

/-! ## The block maxima -/

theorem amax_piece {I : ℕ} (hx : IsRows x A (256 * I)) (j o o' : ℕ) (ho : o = 256 * j) (ho' : o' = 128 * j) (inb : ∀ a, ![0, o] a + S256x256.size a ≤ S256x2880.size a)
    (inb' : ∀ a, ![0, o'] a + S16x128.size a ≤ S16x1536.size a) (z : S16x128.Idx)
    (hz : ((Rect.unit (s := S16x1536) ![0, o'] S16x128.size inb').emb z 1).val % 8 = 7) :
    amaxTile (F := Ideal) (View.ld x (Rect.unit (s := S256x2880) ![0, o] S256x256.size inb)) (rotTile (F := Ideal) g) z
      = blockMax (rotAt A g) (16 * I + ((Rect.unit (s := S16x1536) ![0, o'] S16x128.size inb').emb z 0).val) (((Rect.unit (s := S16x1536) ![0, o'] S16x128.size inb').emb z 1).val / 8) := by
  revert hz
  obtain ⟨q, l, rfl⟩ := ex2 z
  have e0 : ((Rect.unit (s := S16x1536) ![0, o'] S16x128.size inb').emb (ix2 q l) 0).val = q.val := by show 0 + 1 * q.val = q.val; omega
  have e1 : ((Rect.unit (s := S16x1536) ![0, o'] S16x128.size inb').emb (ix2 q l) 1).val = 128 * j + l.val := by show o' + 1 * l.val = _; omega
  rw [e0, e1]
  intro hz
  have e2 : (128 * j + l.val) / 8 = 16 * j + l.val / 8 := by omega
  rw [e2]
  unfold amaxTile
  exact amaxOf_eq _ (rotAt A g) I j (fun p c => tile_mm hx j o ho inb p c) q l (by omega)

theorem amax_piece_tail {I : ℕ} (hx : IsRows x A (256 * I)) (z : S16x128.Idx)
    (hz : ((Rect.unit (s := S16x1536) ![0, 1408] S16x128.size inb_S16x1536_S16x128_0_1408).emb z 1).val % 8 = 7) :
    amaxTail (F := Ideal) (View.ld x (Rect.unit (s := S256x2880) ![0, 2816] S256x64.size inb_S256x2880_S256x64_0_2816))
        (View.ld (Val := Elt Ideal) (e' := .bf16) (rotTile (F := Ideal) g) (Rect.unit (s := S256x256) ![0, 0] S64x256.size inb_S256x256_S64x256_0_0)) z
      = blockMax (rotAt A g) (16 * I + ((Rect.unit (s := S16x1536) ![0, 1408] S16x128.size inb_S16x1536_S16x128_0_1408).emb z 0).val)
          (((Rect.unit (s := S16x1536) ![0, 1408] S16x128.size inb_S16x1536_S16x128_0_1408).emb z 1).val / 8) := by
  revert hz
  obtain ⟨q, l, rfl⟩ := ex2 z
  have e0 : ((Rect.unit (s := S16x1536) ![0, 1408] S16x128.size inb_S16x1536_S16x128_0_1408).emb (ix2 q l) 0).val = q.val := by show 0 + 1 * q.val = q.val; omega
  have e1 : ((Rect.unit (s := S16x1536) ![0, 1408] S16x128.size inb_S16x1536_S16x128_0_1408).emb (ix2 q l) 1).val = 128 * 11 + l.val := by show 1408 + 1 * l.val = _; omega
  rw [e0, e1]
  intro hz
  have e2 : (128 * 11 + l.val) / 8 = 16 * 11 + l.val / 8 := by omega
  rw [e2]
  unfold amaxTail
  exact amaxOf_eq _ (rotAt A g) I 11 (fun p c => tail_mm hx _ _ p c) q l (by omega)

theorem amax_canon {I : ℕ} (hx : IsRows x A (256 * I)) (q : Fin 16) (L : Fin 1536) (hL : L.val % 8 = 7) :
    View.canon (amaxPieces (F := Ideal) (rotTile (F := Ideal) g) x) (ix2 q L) = blockMax (rotAt A g) (16 * I + q.val) (L.val / 8) := by
  have e1 : (ix2 q L 1).val = L.val := rfl
  refine canon_forall_of_pieces (fun y v => (y 1).val % 8 = 7 → v = blockMax (rotAt A g) (16 * I + (y 0).val) ((y 1).val / 8)) _ ?_ (ix2 q L) (amax_cover _ _ _) (e1 ▸ hL)
  unfold amaxPieces amaxPiecesL
  rw [ld_rot]
  refine List.forall_mem_cons.2 ⟨fun z hz => amax_piece_tail hx z hz, ?_⟩
  refine List.forall_mem_cons.2 ⟨fun z hz => amax_piece hx 10 2560 1280 rfl rfl inb_S256x2880_S256x256_0_2560 inb_S16x1536_S16x128_0_1280 z hz, ?_⟩
  refine List.forall_mem_cons.2 ⟨fun z hz => amax_piece hx 9 2304 1152 rfl rfl inb_S256x2880_S256x256_0_2304 inb_S16x1536_S16x128_0_1152 z hz, ?_⟩
  refine List.forall_mem_cons.2 ⟨fun z hz => amax_piece hx 8 2048 1024 rfl rfl inb_S256x2880_S256x256_0_2048 inb_S16x1536_S16x128_0_1024 z hz, ?_⟩
  refine List.forall_mem_cons.2 ⟨fun z hz => amax_piece hx 7 1792 896 rfl rfl inb_S256x2880_S256x256_0_1792 inb_S16x1536_S16x128_0_896 z hz, ?_⟩
  refine List.forall_mem_cons.2 ⟨fun z hz => amax_piece hx 6 1536 768 rfl rfl inb_S256x2880_S256x256_0_1536 inb_S16x1536_S16x128_0_768 z hz, ?_⟩
  refine List.forall_mem_cons.2 ⟨fun z hz => amax_piece hx 5 1280 640 rfl rfl inb_S256x2880_S256x256_0_1280 inb_S16x1536_S16x128_0_640 z hz, ?_⟩
  refine List.forall_mem_cons.2 ⟨fun z hz => amax_piece hx 4 1024 512 rfl rfl inb_S256x2880_S256x256_0_1024 inb_S16x1536_S16x128_0_512 z hz, ?_⟩
  refine List.forall_mem_cons.2 ⟨fun z hz => amax_piece hx 3 768 384 rfl rfl inb_S256x2880_S256x256_0_768 inb_S16x1536_S16x128_0_384 z hz, ?_⟩
  refine List.forall_mem_cons.2 ⟨fun z hz => amax_piece hx 2 512 256 rfl rfl inb_S256x2880_S256x256_0_512 inb_S16x1536_S16x128_0_256 z hz, ?_⟩
  refine List.forall_mem_cons.2 ⟨fun z hz => amax_piece hx 1 256 128 rfl rfl inb_S256x2880_S256x256_0_256 inb_S16x1536_S16x128_0_128 z hz, ?_⟩
  refine List.forall_mem_cons.2 ⟨fun z hz => amax_piece hx 0 0 0 rfl rfl inb_S256x2880_S256x256_0_0 inb_S16x1536_S16x128_0_0 z hz, ?_⟩
  exact fun _ h => absurd h List.not_mem_nil

end Cert.Maths
-- ==== Proof.Maths.Pieces2.lean ====
module

public import proofs.«01_k».proof.Proof.Maths.Pieces

/-! The quantiser's twelve column tiles put together: the scaled weights and the two packings at an index. -/

@[expose] public section

set_option maxRecDepth 16384

noncomputable section

namespace Cert.Maths

open Cert.KernelIdeal Cert.KernelIdeal.Gen Cert.KernelIdeal.Hand
open Idealize.ShloMosaic

/-- The clipped number the quantiser sees at a row and a column: the rotated weight times its block's inverse scale. -/
def qv (A : ℕ → ℕ → EReal) (g : Fin 16 → EReal) (iv : ℕ → ℕ → EReal) (n k : ℕ) : EReal := clip (rotAt A g n k * iv (n / 16) (k / 16))

/-- A block of 16 rows of an array with eight equal lanes for each column block. -/
def IsLanes {e : EltTy} (x : Vec Ideal S16x1536 e) (cv : Elt Ideal e → EReal) (f : ℕ → ℕ → EReal) (I : ℕ) : Prop :=
  ∀ (q : Fin 16) (L : Fin 1536), cv (x (ix2 q L)) = f (16 * I + q.val) (L.val / 8)

variable {x : Vec Ideal S256x2880 .bf16} {g : Fin 16 → EReal} {A : ℕ → ℕ → EReal} {I : ℕ}
variable {x4 : Vec Ideal S16x1536 .f32} {x5 : Vec Ideal S16x1536 .bf16} {iv sc : ℕ → ℕ → EReal}

theorem ld_lane {e : EltTy} (x : Vec Ideal S16x1536 e) (cv : Elt Ideal e → EReal) (f : ℕ → ℕ → EReal) (h : IsLanes x cv f I) (j o : ℕ) (ho : o = 128 * j)
    (inb : ∀ a, ![0, o] a + S16x128.size a ≤ S16x1536.size a) (p c : Fin 256) :
    cv (View.ld x (Rect.unit (s := S16x1536) ![0, o] S16x128.size inb) (ix2 (⟨p.val / 16, by omega⟩ : Fin 16) (⟨c.val % 128, Nat.mod_lt _ (by decide)⟩ : Fin 128)))
      = f ((256 * I + p.val) / 16) ((256 * j + colOf c.val) / 16) := by
  have hb : o + 128 ≤ 1536 := inb 1
  have hc := c.isLt
  have hp := p.isLt
  have e1 : View.ld x (Rect.unit (s := S16x1536) ![0, o] S16x128.size inb) (ix2 (⟨p.val / 16, by omega⟩ : Fin 16) (⟨c.val % 128, Nat.mod_lt _ (by decide)⟩ : Fin 128))
      = x (ix2 (⟨p.val / 16, by omega⟩ : Fin 16) (⟨o + c.val % 128, by omega⟩ : Fin 1536)) :=
    congrArg x (funext fun a => match a with
      | ⟨0, _⟩ => Fin.ext (by show 0 + 1 * (p.val / 16) = p.val / 16; omega)
      | ⟨1, _⟩ => Fin.ext (by show o + 1 * (c.val % 128) = o + c.val % 128; omega))
  rw [e1, h]
  have e2 : (256 * I + p.val) / 16 = 16 * I + p.val / 16 := by omega
  have e3 : (256 * j + colOf c.val) / 16 = (o + c.val % 128) / 8 := by unfold colOf colIn; omega
  rw [e2, e3]

theorem quant_tile (hx : IsRows x A (256 * I)) (h4 : IsLanes x4 id iv I) (j o o' : ℕ) (ho : o = 256 * j) (ho' : o' = 128 * j)
    (inb : ∀ a, ![0, o] a + S256x256.size a ≤ S256x2880.size a) (inb' : ∀ a, ![0, o'] a + S16x128.size a ≤ S16x1536.size a) (p c : Fin 256) :
    quantTile (F := Ideal) (View.ld x4 (Rect.unit (s := S16x1536) ![0, o'] S16x128.size inb')) (View.ld x (Rect.unit (s := S256x2880) ![0, o] S256x256.size inb)) (rotTile (F := Ideal) g) (ix2 p c)
      = qv A g iv (256 * I + p.val) (256 * j + colOf c.val) := by
  unfold quantTile qv
  rw [quantV_apply, tile_mm hx j o ho inb p c]
  exact congrArg (fun z => clip (_ * z)) (ld_lane x4 id iv h4 j o' ho' inb' p c)

theorem quant_tail (hx : IsRows x A (256 * I)) (h4 : IsLanes x4 id iv I) (p c : Fin 256) :
    quantTail (F := Ideal) (View.ld x4 (Rect.unit (s := S16x1536) ![0, 1408] S16x128.size inb_S16x1536_S16x128_0_1408))
        (View.ld x (Rect.unit (s := S256x2880) ![0, 2816] S256x64.size inb_S256x2880_S256x64_0_2816))
        (View.ld (Val := Elt Ideal) (e' := .bf16) (rotTile (F := Ideal) g) (Rect.unit (s := S256x256) ![0, 0] S64x256.size inb_S256x256_S64x256_0_0)) (ix2 p c)
      = qv A g iv (256 * I + p.val) (256 * 11 + colOf c.val) := by
  unfold quantTail qv
  rw [quantV_apply, tail_mm hx _ _ p c]
  exact congrArg (fun z => clip (_ * z)) (ld_lane x4 id iv h4 11 1408 rfl inb_S16x1536_S16x128_0_1408 p c)

/-! ## The scaled weights -/

theorem wd_tile (v : FVec Ideal S256x256 .f32) (h5 : IsLanes x5 id sc I) (j o o' : ℕ) (ho : o = 256 * j) (ho' : o' = 128 * j)
    (hv : ∀ p c : Fin 256, v (ix2 p c) = qv A g iv (256 * I + p.val) (256 * j + colOf c.val))
    (inb : ∀ a, ![0, o] a + S256x256.size a ≤ S256x3072.size a) (inb' : ∀ a, ![0, o'] a + S16x128.size a ≤ S16x1536.size a) (z : S256x256.Idx) :
    dqOf (F := Ideal) (quantQ (F := Ideal) v) (View.ld x5 (Rect.unit (s := S16x1536) ![0, o'] S16x128.size inb')) z
      = kerQ (qv A g iv (256 * I + ((Rect.unit (s := S256x3072) ![0, o] S256x256.size inb).emb z 0).val) (tcol ((Rect.unit (s := S256x3072) ![0, o] S256x256.size inb).emb z 1).val))
        * sc ((256 * I + ((Rect.unit (s := S256x3072) ![0, o] S256x256.size inb).emb z 0).val) / 16) (tcol ((Rect.unit (s := S256x3072) ![0, o] S256x256.size inb).emb z 1).val / 16) := by
  obtain ⟨p, c, rfl⟩ := ex2 z
  have e0 : ((Rect.unit (s := S256x3072) ![0, o] S256x256.size inb).emb (ix2 p c) 0).val = p.val := by show 0 + 1 * p.val = p.val; omega
  have e1 : ((Rect.unit (s := S256x3072) ![0, o] S256x256.size inb).emb (ix2 p c) 1).val = 256 * j + c.val := by show o + 1 * c.val = _; omega
  rw [e0, e1, tcol_eq _ _ c.isLt, dqOf_apply, quantQ_apply, hv]
  exact congrArg (fun z => _ * z) (ld_lane x5 id sc h5 j o' ho' inb' p c)

theorem wd_canon (hx : IsRows x A (256 * I)) (h4 : IsLanes x4 id iv I) (h5 : IsLanes x5 id sc I) (p : Fin 256) (C : Fin 3072) :
    wdOf (F := Ideal) (rotTile (F := Ideal) g) x x4 x5 (ix2 p C)
      = kerQ (qv A g iv (256 * I + p.val) (tcol C.val)) * sc ((256 * I + p.val) / 16) (tcol C.val / 16) := by
  unfold wdOf
  refine canon_forall_of_pieces (fun y v => v = kerQ (qv A g iv (256 * I + (y 0).val) (tcol (y 1).val)) * sc ((256 * I + (y 0).val) / 16) (tcol (y 1).val / 16)) _ ?_ (ix2 p C)
    (View.cover_of_tiledL (wdPieces _ _ _ _) S256x256.size (by sl_kernel_rfl) _)
  unfold wdPieces wdPiecesL
  rw [ld_rot]
  refine List.forall_mem_cons.2 ⟨fun z => wd_tile _ h5 11 2816 1408 rfl rfl (fun p c => quant_tail hx h4 p c) inb_S256x3072_S256x256_0_2816 inb_S16x1536_S16x128_0_1408 z, ?_⟩
  refine List.forall_mem_cons.2 ⟨fun z => wd_tile _ h5 10 2560 1280 rfl rfl (fun p c => quant_tile hx h4 10 2560 1280 rfl rfl inb_S256x2880_S256x256_0_2560 inb_S16x1536_S16x128_0_1280 p c) inb_S256x3072_S256x256_0_2560 inb_S16x1536_S16x128_0_1280 z, ?_⟩
  refine List.forall_mem_cons.2 ⟨fun z => wd_tile _ h5 9 2304 1152 rfl rfl (fun p c => quant_tile hx h4 9 2304 1152 rfl rfl inb_S256x2880_S256x256_0_2304 inb_S16x1536_S16x128_0_1152 p c) inb_S256x3072_S256x256_0_2304 inb_S16x1536_S16x128_0_1152 z, ?_⟩
  refine List.forall_mem_cons.2 ⟨fun z => wd_tile _ h5 8 2048 1024 rfl rfl (fun p c => quant_tile hx h4 8 2048 1024 rfl rfl inb_S256x2880_S256x256_0_2048 inb_S16x1536_S16x128_0_1024 p c) inb_S256x3072_S256x256_0_2048 inb_S16x1536_S16x128_0_1024 z, ?_⟩
  refine List.forall_mem_cons.2 ⟨fun z => wd_tile _ h5 7 1792 896 rfl rfl (fun p c => quant_tile hx h4 7 1792 896 rfl rfl inb_S256x2880_S256x256_0_1792 inb_S16x1536_S16x128_0_896 p c) inb_S256x3072_S256x256_0_1792 inb_S16x1536_S16x128_0_896 z, ?_⟩
  refine List.forall_mem_cons.2 ⟨fun z => wd_tile _ h5 6 1536 768 rfl rfl (fun p c => quant_tile hx h4 6 1536 768 rfl rfl inb_S256x2880_S256x256_0_1536 inb_S16x1536_S16x128_0_768 p c) inb_S256x3072_S256x256_0_1536 inb_S16x1536_S16x128_0_768 z, ?_⟩
  refine List.forall_mem_cons.2 ⟨fun z => wd_tile _ h5 5 1280 640 rfl rfl (fun p c => quant_tile hx h4 5 1280 640 rfl rfl inb_S256x2880_S256x256_0_1280 inb_S16x1536_S16x128_0_640 p c) inb_S256x3072_S256x256_0_1280 inb_S16x1536_S16x128_0_640 z, ?_⟩
  refine List.forall_mem_cons.2 ⟨fun z => wd_tile _ h5 4 1024 512 rfl rfl (fun p c => quant_tile hx h4 4 1024 512 rfl rfl inb_S256x2880_S256x256_0_1024 inb_S16x1536_S16x128_0_512 p c) inb_S256x3072_S256x256_0_1024 inb_S16x1536_S16x128_0_512 z, ?_⟩
  refine List.forall_mem_cons.2 ⟨fun z => wd_tile _ h5 3 768 384 rfl rfl (fun p c => quant_tile hx h4 3 768 384 rfl rfl inb_S256x2880_S256x256_0_768 inb_S16x1536_S16x128_0_384 p c) inb_S256x3072_S256x256_0_768 inb_S16x1536_S16x128_0_384 z, ?_⟩
  refine List.forall_mem_cons.2 ⟨fun z => wd_tile _ h5 2 512 256 rfl rfl (fun p c => quant_tile hx h4 2 512 256 rfl rfl inb_S256x2880_S256x256_0_512 inb_S16x1536_S16x128_0_256 p c) inb_S256x3072_S256x256_0_512 inb_S16x1536_S16x128_0_256 z, ?_⟩
  refine List.forall_mem_cons.2 ⟨fun z => wd_tile _ h5 1 256 128 rfl rfl (fun p c => quant_tile hx h4 1 256 128 rfl rfl inb_S256x2880_S256x256_0_256 inb_S16x1536_S16x128_0_128 p c) inb_S256x3072_S256x256_0_256 inb_S16x1536_S16x128_0_128 z, ?_⟩
  refine List.forall_mem_cons.2 ⟨fun z => wd_tile _ h5 0 0 0 rfl rfl (fun p c => quant_tile hx h4 0 0 0 rfl rfl inb_S256x2880_S256x256_0_0 inb_S16x1536_S16x128_0_0 p c) inb_S256x3072_S256x256_0_0 inb_S16x1536_S16x128_0_0 z, ?_⟩
  exact fun _ h => absurd h List.not_mem_nil

/-! ## The codes -/

theorem codes_lt {v : FVec Ideal S256x256 .f32} {j : ℕ} (hv : ∀ p c : Fin 256, v (ix2 p c) = qv A g iv (256 * I + p.val) (256 * j + colOf c.val)) (i : S256x256.Idx) :
    (quantC (F := Ideal) v i).toNat < 16 := by
  obtain ⟨p, c, rfl⟩ := ex2 i
  rw [quantC_apply, hv]
  exact (ker_ref_C _).2

/-- The two codes of neighbouring columns in one byte. -/
def ckAt (A : ℕ → ℕ → EReal) (g : Fin 16 → EReal) (iv : ℕ → ℕ → EReal) (n m : ℕ) : BitVec 8 := pack (kerC (qv A g iv n (2 * m))) (kerC (qv A g iv n (2 * m + 1)))

/-- The two codes of neighbouring rows in one byte. -/
def cnAt (A : ℕ → ℕ → EReal) (g : Fin 16 → EReal) (iv : ℕ → ℕ → EReal) (k m : ℕ) : BitVec 8 := pack (kerC (qv A g iv (2 * m) k)) (kerC (qv A g iv (2 * m + 1) k))

theorem ck_entry {v : FVec Ideal S256x256 .f32} {j : ℕ} (hv : ∀ p c : Fin 256, v (ix2 p c) = qv A g iv (256 * I + p.val) (256 * j + colOf c.val)) (p : Fin 256) (l : Fin 128) :
    ckOf (quantC (F := Ideal) v) (ix2 p l) = ckAt A g iv (256 * I + p.val) (128 * j + l.val) := by
  have hl := l.isLt
  rw [ckOf_apply _ (codes_lt hv), quantC_apply, quantC_apply, hv, hv]
  unfold ckAt
  have e1 : 256 * j + colOf l.val = 2 * (128 * j + l.val) := by unfold colOf colIn; omega
  have e2 : 256 * j + colOf (l.val + 128) = 2 * (128 * j + l.val) + 1 := by unfold colOf colIn; omega
  show pack (kerC (qv A g iv (256 * I + p.val) (256 * j + colOf l.val))) (kerC (qv A g iv (256 * I + p.val) (256 * j + colOf (l.val + 128)))) = _
  rw [e1, e2]

theorem colOf_row : ∀ r : Fin 256, colOf (r.val / 2 + 128 * (r.val % 2)) = r.val := by decide +kernel

theorem cn_entry {v : FVec Ideal S256x256 .f32} {j : ℕ} (hv : ∀ p c : Fin 256, v (ix2 p c) = qv A g iv (256 * I + p.val) (256 * j + colOf c.val)) (r : Fin 256) (m : Fin 128) :
    cnOf (quantC (F := Ideal) v) (ix2 r m) = cnAt A g iv (256 * j + r.val) (128 * I + m.val) := by
  have hr := r.isLt
  rw [cnOf_apply _ (codes_lt hv), quantC_apply, quantC_apply, hv, hv]
  unfold cnAt
  have e1 : 256 * j + colOf (r.val / 2 + 128 * (r.val % 2)) = 256 * j + r.val := by rw [colOf_row]
  have e2 : 256 * I + 2 * m.val = 2 * (128 * I + m.val) := by omega
  have e3 : 256 * I + (2 * m.val + 1) = 2 * (128 * I + m.val) + 1 := by omega
  show pack (kerC (qv A g iv (256 * I + 2 * m.val) (256 * j + colOf (r.val / 2 + 128 * (r.val % 2))))) (kerC (qv A g iv (256 * I + (2 * m.val + 1)) (256 * j + colOf (r.val / 2 + 128 * (r.val % 2))))) = _
  rw [e1, e2, e3]

theorem ck_piece {v : FVec Ideal S256x256 .f32} (j o : ℕ) (ho : o = 128 * j) (hv : ∀ p c : Fin 256, v (ix2 p c) = qv A g iv (256 * I + p.val) (256 * j + colOf c.val))
    (inb : ∀ a, ![0, o] a + S256x128.size a ≤ S256x1440.size a) (z : S256x128.Idx) :
    ckOf (quantC (F := Ideal) v) z = ckAt A g iv (256 * I + ((Rect.unit (s := S256x1440) ![0, o] S256x128.size inb).emb z 0).val) ((Rect.unit (s := S256x1440) ![0, o] S256x128.size inb).emb z 1).val := by
  obtain ⟨p, c, rfl⟩ := ex2 z
  have e0 : ((Rect.unit (s := S256x1440) ![0, o] S256x128.size inb).emb (ix2 p c) 0).val = p.val := by show 0 + 1 * p.val = p.val; omega
  have e1 : ((Rect.unit (s := S256x1440) ![0, o] S256x128.size inb).emb (ix2 p c) 1).val = 128 * j + c.val := by show o + 1 * c.val = _; omega
  rw [e0, e1]
  exact ck_entry hv p c

theorem ck_piece_tail {v : FVec Ideal S256x256 .f32} (hv : ∀ p c : Fin 256, v (ix2 p c) = qv A g iv (256 * I + p.val) (256 * 11 + colOf c.val)) (z : S256x32.Idx) :
    extractStridedSlice S256x32 ![0, 0] (ckOf (quantC (F := Ideal) v)) slices_S256x128_o0_0_S256x32 z
      = ckAt A g iv (256 * I + ((Rect.unit (s := S256x1440) ![0, 1408] S256x32.size inb_S256x1440_S256x32_0_1408).emb z 0).val) ((Rect.unit (s := S256x1440) ![0, 1408] S256x32.size inb_S256x1440_S256x32_0_1408).emb z 1).val := by
  obtain ⟨p, c, rfl⟩ := ex2 z
  have e0 : ((Rect.unit (s := S256x1440) ![0, 1408] S256x32.size inb_S256x1440_S256x32_0_1408).emb (ix2 p c) 0).val = p.val := by show 0 + 1 * p.val = p.val; omega
  have e1 : ((Rect.unit (s := S256x1440) ![0, 1408] S256x32.size inb_S256x1440_S256x32_0_1408).emb (ix2 p c) 1).val = 128 * 11 + c.val := by show 1408 + 1 * c.val = _; omega
  rw [e0, e1]
  have e : extractStridedSlice S256x32 ![0, 0] (ckOf (quantC (F := Ideal) v)) slices_S256x128_o0_0_S256x32 (ix2 p c) = ckOf (quantC (F := Ideal) v) (ix2 p (⟨c.val, by omega⟩ : Fin 128)) := by
    generalize ckOf (quantC (F := Ideal) v) = w
    pointwise
  rw [e]
  exact ck_entry hv p _

theorem ck_canon (hx : IsRows x A (256 * I)) (h4 : IsLanes x4 id iv I) (p : Fin 256) (m : Fin 1440) :
    View.canon (ckPieces (F := Ideal) (rotTile (F := Ideal) g) x x4) (ix2 p m) = ckAt A g iv (256 * I + p.val) m.val := by
  refine canon_forall_of_pieces (fun y v => v = ckAt A g iv (256 * I + (y 0).val) (y 1).val) _ ?_ (ix2 p m)
    (View.cover_of_tiledBy (ckPieces _ _ _) ![256, 32] (by sl_kernel_rfl) _)
  unfold ckPieces ckPiecesL
  rw [ld_rot]
  refine List.forall_mem_cons.2 ⟨fun z => ck_piece_tail (fun p c => quant_tail hx h4 p c) z, ?_⟩
  refine List.forall_mem_cons.2 ⟨fun z => ck_piece 10 1280 rfl (fun p c => quant_tile hx h4 10 2560 1280 rfl rfl inb_S256x2880_S256x256_0_2560 inb_S16x1536_S16x128_0_1280 p c) inb_S256x1440_S256x128_0_1280 z, ?_⟩
  refine List.forall_mem_cons.2 ⟨fun z => ck_piece 9 1152 rfl (fun p c => quant_tile hx h4 9 2304 1152 rfl rfl inb_S256x2880_S256x256_0_2304 inb_S16x1536_S16x128_0_1152 p c) inb_S256x1440_S256x128_0_1152 z, ?_⟩
  refine List.forall_mem_cons.2 ⟨fun z => ck_piece 8 1024 rfl (fun p c => quant_tile hx h4 8 2048 1024 rfl rfl inb_S256x2880_S256x256_0_2048 inb_S16x1536_S16x128_0_1024 p c) inb_S256x1440_S256x128_0_1024 z, ?_⟩
  refine List.forall_mem_cons.2 ⟨fun z => ck_piece 7 896 rfl (fun p c => quant_tile hx h4 7 1792 896 rfl rfl inb_S256x2880_S256x256_0_1792 inb_S16x1536_S16x128_0_896 p c) inb_S256x1440_S256x128_0_896 z, ?_⟩
  refine List.forall_mem_cons.2 ⟨fun z => ck_piece 6 768 rfl (fun p c => quant_tile hx h4 6 1536 768 rfl rfl inb_S256x2880_S256x256_0_1536 inb_S16x1536_S16x128_0_768 p c) inb_S256x1440_S256x128_0_768 z, ?_⟩
  refine List.forall_mem_cons.2 ⟨fun z => ck_piece 5 640 rfl (fun p c => quant_tile hx h4 5 1280 640 rfl rfl inb_S256x2880_S256x256_0_1280 inb_S16x1536_S16x128_0_640 p c) inb_S256x1440_S256x128_0_640 z, ?_⟩
  refine List.forall_mem_cons.2 ⟨fun z => ck_piece 4 512 rfl (fun p c => quant_tile hx h4 4 1024 512 rfl rfl inb_S256x2880_S256x256_0_1024 inb_S16x1536_S16x128_0_512 p c) inb_S256x1440_S256x128_0_512 z, ?_⟩
  refine List.forall_mem_cons.2 ⟨fun z => ck_piece 3 384 rfl (fun p c => quant_tile hx h4 3 768 384 rfl rfl inb_S256x2880_S256x256_0_768 inb_S16x1536_S16x128_0_384 p c) inb_S256x1440_S256x128_0_384 z, ?_⟩
  refine List.forall_mem_cons.2 ⟨fun z => ck_piece 2 256 rfl (fun p c => quant_tile hx h4 2 512 256 rfl rfl inb_S256x2880_S256x256_0_512 inb_S16x1536_S16x128_0_256 p c) inb_S256x1440_S256x128_0_256 z, ?_⟩
  refine List.forall_mem_cons.2 ⟨fun z => ck_piece 1 128 rfl (fun p c => quant_tile hx h4 1 256 128 rfl rfl inb_S256x2880_S256x256_0_256 inb_S16x1536_S16x128_0_128 p c) inb_S256x1440_S256x128_0_128 z, ?_⟩
  refine List.forall_mem_cons.2 ⟨fun z => ck_piece 0 0 rfl (fun p c => quant_tile hx h4 0 0 0 rfl rfl inb_S256x2880_S256x256_0_0 inb_S16x1536_S16x128_0_0 p c) inb_S256x1440_S256x128_0_0 z, ?_⟩
  exact fun _ h => absurd h List.not_mem_nil

theorem cn_piece {v : FVec Ideal S256x256 .f32} (j o : ℕ) (ho : o = 256 * j) (hv : ∀ p c : Fin 256, v (ix2 p c) = qv A g iv (256 * I + p.val) (256 * j + colOf c.val))
    (inb : ∀ a, ![o, 0] a + S256x128.size a ≤ S2880x128.size a) (z : S256x128.Idx) :
    cnOf (quantC (F := Ideal) v) z = cnAt A g iv ((Rect.unit (s := S2880x128) ![o, 0] S256x128.size inb).emb z 0).val (128 * I + ((Rect.unit (s := S2880x128) ![o, 0] S256x128.size inb).emb z 1).val) := by
  obtain ⟨p, c, rfl⟩ := ex2 z
  have e0 : ((Rect.unit (s := S2880x128) ![o, 0] S256x128.size inb).emb (ix2 p c) 0).val = 256 * j + p.val := by show o + 1 * p.val = _; omega
  have e1 : ((Rect.unit (s := S2880x128) ![o, 0] S256x128.size inb).emb (ix2 p c) 1).val = c.val := by show 0 + 1 * c.val = _; omega
  rw [e0, e1]
  exact cn_entry hv p c

theorem cn_piece_tail {v : FVec Ideal S256x256 .f32} (hv : ∀ p c : Fin 256, v (ix2 p c) = qv A g iv (256 * I + p.val) (256 * 11 + colOf c.val)) (z : S64x128.Idx) :
    extractStridedSlice S64x128 ![0, 0] (cnOf (quantC (F := Ideal) v)) slices_S256x128_o0_0_S64x128 z
      = cnAt A g iv ((Rect.unit (s := S2880x128) ![2816, 0] S64x128.size inb_S2880x128_S64x128_2816_0).emb z 0).val (128 * I + ((Rect.unit (s := S2880x128) ![2816, 0] S64x128.size inb_S2880x128_S64x128_2816_0).emb z 1).val) := by
  obtain ⟨p, c, rfl⟩ := ex2 z
  have e0 : ((Rect.unit (s := S2880x128) ![2816, 0] S64x128.size inb_S2880x128_S64x128_2816_0).emb (ix2 p c) 0).val = 256 * 11 + p.val := by show 2816 + 1 * p.val = _; omega
  have e1 : ((Rect.unit (s := S2880x128) ![2816, 0] S64x128.size inb_S2880x128_S64x128_2816_0).emb (ix2 p c) 1).val = c.val := by show 0 + 1 * c.val = _; omega
  rw [e0, e1]
  have e : extractStridedSlice S64x128 ![0, 0] (cnOf (quantC (F := Ideal) v)) slices_S256x128_o0_0_S64x128 (ix2 p c) = cnOf (quantC (F := Ideal) v) (ix2 (⟨p.val, by omega⟩ : Fin 256) c) := by
    generalize cnOf (quantC (F := Ideal) v) = w
    pointwise
  rw [e]
  exact cn_entry hv _ c

theorem cn_canon (hx : IsRows x A (256 * I)) (h4 : IsLanes x4 id iv I) (k : Fin 2880) (m : Fin 128) :
    View.canon (cnPieces (F := Ideal) (rotTile (F := Ideal) g) x x4) (ix2 k m) = cnAt A g iv k.val (128 * I + m.val) := by
  refine canon_forall_of_pieces (fun y v => v = cnAt A g iv (y 0).val (128 * I + (y 1).val)) _ ?_ (ix2 k m)
    (View.cover_of_tiledBy (cnPieces _ _ _) ![64, 128] (by sl_kernel_rfl) _)
  unfold cnPieces cnPiecesL
  rw [ld_rot]
  refine List.forall_mem_cons.2 ⟨fun z => cn_piece_tail (fun p c => quant_tail hx h4 p c) z, ?_⟩
  refine List.forall_mem_cons.2 ⟨fun z => cn_piece 10 2560 rfl (fun p c => quant_tile hx h4 10 2560 1280 rfl rfl inb_S256x2880_S256x256_0_2560 inb_S16x1536_S16x128_0_1280 p c) inb_S2880x128_S256x128_2560_0 z, ?_⟩
  refine List.forall_mem_cons.2 ⟨fun z => cn_piece 9 2304 rfl (fun p c => quant_tile hx h4 9 2304 1152 rfl rfl inb_S256x2880_S256x256_0_2304 inb_S16x1536_S16x128_0_1152 p c) inb_S2880x128_S256x128_2304_0 z, ?_⟩
  refine List.forall_mem_cons.2 ⟨fun z => cn_piece 8 2048 rfl (fun p c => quant_tile hx h4 8 2048 1024 rfl rfl inb_S256x2880_S256x256_0_2048 inb_S16x1536_S16x128_0_1024 p c) inb_S2880x128_S256x128_2048_0 z, ?_⟩
  refine List.forall_mem_cons.2 ⟨fun z => cn_piece 7 1792 rfl (fun p c => quant_tile hx h4 7 1792 896 rfl rfl inb_S256x2880_S256x256_0_1792 inb_S16x1536_S16x128_0_896 p c) inb_S2880x128_S256x128_1792_0 z, ?_⟩
  refine List.forall_mem_cons.2 ⟨fun z => cn_piece 6 1536 rfl (fun p c => quant_tile hx h4 6 1536 768 rfl rfl inb_S256x2880_S256x256_0_1536 inb_S16x1536_S16x128_0_768 p c) inb_S2880x128_S256x128_1536_0 z, ?_⟩
  refine List.forall_mem_cons.2 ⟨fun z => cn_piece 5 1280 rfl (fun p c => quant_tile hx h4 5 1280 640 rfl rfl inb_S256x2880_S256x256_0_1280 inb_S16x1536_S16x128_0_640 p c) inb_S2880x128_S256x128_1280_0 z, ?_⟩
  refine List.forall_mem_cons.2 ⟨fun z => cn_piece 4 1024 rfl (fun p c => quant_tile hx h4 4 1024 512 rfl rfl inb_S256x2880_S256x256_0_1024 inb_S16x1536_S16x128_0_512 p c) inb_S2880x128_S256x128_1024_0 z, ?_⟩
  refine List.forall_mem_cons.2 ⟨fun z => cn_piece 3 768 rfl (fun p c => quant_tile hx h4 3 768 384 rfl rfl inb_S256x2880_S256x256_0_768 inb_S16x1536_S16x128_0_384 p c) inb_S2880x128_S256x128_768_0 z, ?_⟩
  refine List.forall_mem_cons.2 ⟨fun z => cn_piece 2 512 rfl (fun p c => quant_tile hx h4 2 512 256 rfl rfl inb_S256x2880_S256x256_0_512 inb_S16x1536_S16x128_0_256 p c) inb_S2880x128_S256x128_512_0 z, ?_⟩
  refine List.forall_mem_cons.2 ⟨fun z => cn_piece 1 256 rfl (fun p c => quant_tile hx h4 1 256 128 rfl rfl inb_S256x2880_S256x256_0_256 inb_S16x1536_S16x128_0_128 p c) inb_S2880x128_S256x128_256_0 z, ?_⟩
  refine List.forall_mem_cons.2 ⟨fun z => cn_piece 0 0 rfl (fun p c => quant_tile hx h4 0 0 0 rfl rfl inb_S256x2880_S256x256_0_0 inb_S16x1536_S16x128_0_0 p c) inb_S2880x128_S256x128_0_0 z, ?_⟩
  exact fun _ h => absurd h List.not_mem_nil

end Cert.Maths
-- ==== Proof.Maths.Scales.lean ====
module

public import proofs.«01_k».proof.Proof.Maths.Pieces2
public import proofs.«01_k».proof.Proof.HandKernelIdeal.Region1

/-! The scales: the per-tensor scale, the block scales, and the inverse scales on their lanes. -/

@[expose] public section

set_option maxRecDepth 16384

noncomputable section

namespace Cert.Maths

open Cert.KernelIdeal Cert.KernelIdeal.Gen Cert.KernelIdeal.Hand
open Idealize.ShloMosaic

/-! ## What the scales are -/

/-- The greatest magnitude of the first rows and columns of an array. -/
def magMax (N M : ℕ) (R : ℕ → ℕ → EReal) : EReal :=
  (Finset.univ : Finset (Fin N × Fin M)).sup fun p => max (R p.1.val p.2.val) (-R p.1.val p.2.val)

theorem magMax_le {N M : ℕ} {R : ℕ → ℕ → EReal} {z : EReal} : magMax N M R ≤ z ↔ ∀ (n : Fin N) (k : Fin M), max (R n.val k.val) (-R n.val k.val) ≤ z := by
  unfold magMax
  rw [Finset.sup_le_iff]
  exact ⟨fun h a b => h (a, b) (Finset.mem_univ _), fun h p _ => h p.1 p.2⟩

/-- The greatest magnitude of the whole array. -/
def allMax (R : ℕ → ℕ → EReal) : EReal := magMax 11520 2880 R

theorem allMax_le {R : ℕ → ℕ → EReal} {z : EReal} : allMax R ≤ z ↔ ∀ (n : Fin 11520) (k : Fin 2880), max (R n.val k.val) (-R n.val k.val) ≤ z := magMax_le

/-- The scale of the whole array: its greatest magnitude over 6 · 448. -/
def sT (R : ℕ → ℕ → EReal) : EReal := Ideal.div (allMax R) (Ideal.ofBits .f32 0x45280000#32)

/-- The scale of a block, capped at 448. -/
def sB (R : ℕ → ℕ → EReal) (I K : ℕ) : EReal :=
  min (Ideal.div (blockMax R I K) (sT R * Ideal.ofBits .f32 0x40C00000#32)) (Ideal.ofBits .f32 0x43E00000#32)

/-- The inverse of a block's two scales together, zero where they are not positive. -/
def iV (R : ℕ → ℕ → EReal) (I K : ℕ) : EReal := if 0 < sB R I K * sT R then Ideal.div 1 (sB R I K * sT R) else 0

/-! ## The masked maxima -/

/-- Whether a lane is the last of its eight, as the kernel computes it. -/
def maskV : IVec S720x1536 1 :=
  have v0 : IVec S720x1536 32 := iota .tc S720x1536 32 [1] iota_S720x1536_d1_w32
  let v1 : BitVec 1 := Scalar.cmpi .eq 8#32 0#32
  let v2 : BitVec 32 := Scalar.select v1 1#32 8#32
  have v3 : IVec S720x1536 32 := broadcast S720x1536 v2
  have v4 : IVec S720x1536 32 := remsi v0 v3
  have v5 : IVec S720x1536 32 := broadcast S720x1536 0#32
  have v6 : IVec S720x1536 1 := cmpi .ne v4 v5
  have v7 : IVec S720x1536 32 := broadcast S720x1536 0#32
  have v8 : IVec S720x1536 1 := cmpi .slt v4 v7
  let v9 : BitVec 1 := Scalar.cmpi .slt v2 0#32
  have v10 : IVec S720x1536 1 := broadcast S720x1536 v9
  have v11 : IVec S720x1536 1 := broadcastTo S720x1536 v10 broadcasts_S720x1536_S720x1536
  have v12 : IVec S720x1536 1 := xori v8 v11
  have v13 : IVec S720x1536 1 := andi v12 v6
  have v14 : IVec S720x1536 32 := broadcast S720x1536 v2
  have v15 : IVec S720x1536 32 := addi v4 v14
  have v16 : IVec S720x1536 32 := select v13 v15 v4
  have v17 : IVec S720x1536 32 := broadcast S720x1536 7#32
  have v18 : IVec S720x1536 1 := cmpi .eq v16 v17
  v18

theorem mask_col (I : Fin 720) (L : Fin 1536) : maskV (ix2 I L) = maskV (ix2 0 L) := rfl

theorem mask_val (L : Fin 1536) : maskV (ix2 0 L) = if L.val % 8 = 7 then 1#1 else 0#1 := by
  revert L; decide +kernel

theorem masked_eq (v : Vec Ideal S720x1536 .f32) :
    k1_pay2 (F := Ideal) v = select maskV (shapeCast S720x1536 v shapeCasts_S720x1536_S720x1536) (broadcast S720x1536 (Ideal.ofBits .f32 0x00000000#32)) := rfl

theorem masked_apply (v : Vec Ideal S720x1536 .f32) (I : Fin 720) (L : Fin 1536) :
    k1_pay2 (F := Ideal) v (ix2 I L) = if L.val % 8 = 7 then v (ix2 I L) else 0 := by
  have e : k1_pay2 (F := Ideal) v (ix2 I L) = Scalar.select (maskV (ix2 I L)) (v (ix2 I L)) (Ideal.ofBits .f32 0x00000000#32) := by
    rw [masked_eq]
    generalize maskV = w
    pointwise
  rw [e, mask_col, mask_val, b_0, EReal.coe_zero]
  split_ifs <;> rfl

/-- Block maxima on the last lane of each eight. -/
def IsMax (x : Vec Ideal S720x1536 .f32) (R : ℕ → ℕ → EReal) : Prop :=
  (∀ (I : Fin 720) (L : Fin 1536), L.val % 8 = 7 → x (ix2 I L) = blockMax R I.val (L.val / 8)) ∧ ∀ n k, 2880 ≤ k → R n k = 0

variable {x : Vec Ideal S720x1536 .f32} {R : ℕ → ℕ → EReal}

theorem mag_nonneg (a : EReal) : 0 ≤ max a (-a) := by
  rcases le_total 0 a with h | h
  · exact le_max_of_le_left h
  · exact le_max_of_le_right (EReal.neg_nonneg.2 h)

theorem total_apply (v : FVec Ideal S1x720x1536 .f32) (z : EReal) (j : S1.Idx) :
    multiReduction .maximumf [1, 2] S1 v 0xFF800000#32 reduces_S1x720x1536_S1 (.inl rfl) rfl j ≤ z ↔ ∀ i, v i ≤ z := by
  refine (iff_of_eq (congrArg (· ≤ z) (multiReduction_maximumf_eq_fold (F := Ideal) v 0xFF800000#32 reduces_S1x720x1536_S1 (.inl rfl) rfl j))).trans ?_
  rw [Finset.filter_true_of_mem fun i _ => funext fun b => Fin.ext (by
    have h1 := (reduces_S1x720x1536_S1.drop i b).isLt; have h2 := (j b).isLt
    have h3 : S1.size b = 1 := (by decide : ∀ b, S1.size b = 1) b
    omega)]
  show Finset.fold max (Ideal.ofBits .f32 0xFF800000#32) v Finset.univ ≤ z ↔ _
  rw [Finset.fold_max_le, ofBits_bot]
  exact ⟨fun h i => h.2 i (Finset.mem_univ _), fun h => ⟨bot_le, fun i _ => h i⟩⟩

theorem scale_all (hx : IsMax x R) : k1_pay3 (F := Ideal) x = sT R := by
  have e : k1_pay3 (F := Ideal) x = Ideal.div (multiReduction .maximumf [1, 2] S1
      (shapeCast S1x720x1536 (k1_pay2 (F := Ideal) x) shapeCasts_S720x1536_S1x720x1536) 0xFF800000#32 reduces_S1x720x1536_S1 (.inl rfl) rfl (ix1 (0 : Fin 1))) (Ideal.ofBits .f32 0x45280000#32) := by
    unfold k1_pay3
    generalize k1_pay2 (F := Ideal) x = w
    generalize hq : multiReduction .maximumf [1, 2] S1 (shapeCast S1x720x1536 w shapeCasts_S720x1536_S1x720x1536) 0xFF800000#32 reduces_S1x720x1536_S1 (.inl rfl) rfl = q
    simp only [hq]
    exact congrArg (fun z => Ideal.div (q z) (Ideal.ofBits .f32 0x45280000#32)) (funext fun a => match a with | ⟨0, _⟩ => Subsingleton.elim (α := Fin 1) _ _)
  rw [e]
  unfold sT
  generalize hq : multiReduction .maximumf [1, 2] S1 (shapeCast S1x720x1536 (k1_pay2 (F := Ideal) x) shapeCasts_S720x1536_S1x720x1536) 0xFF800000#32 reduces_S1x720x1536_S1 (.inl rfl) rfl (ix1 (0 : Fin 1)) = q
  suffices h : q = allMax R by rw [h]
  refine eq_of_forall_ge_iff fun z => ?_
  rw [← hq]
  rw [total_apply, allMax_le]
  have key : ∀ (I : Fin 720) (L : Fin 1536), (shapeCast S1x720x1536 (k1_pay2 (F := Ideal) x) shapeCasts_S720x1536_S1x720x1536) (ix3 (0 : Fin 1) I L)
      = if L.val % 8 = 7 then blockMax R I.val (L.val / 8) else 0 := by
    intro I L
    have : (shapeCast S1x720x1536 (k1_pay2 (F := Ideal) x) shapeCasts_S720x1536_S1x720x1536) (ix3 (0 : Fin 1) I L) = k1_pay2 (F := Ideal) x (ix2 I L) := by
      generalize k1_pay2 (F := Ideal) x = w
      pointwise
    rw [this, masked_apply]
    by_cases h : L.val % 8 = 7
    · rw [if_pos h, if_pos h, hx.1 I L h]
    · rw [if_neg h, if_neg h]
  constructor
  · intro h n k
    have h1 := h (ix3 (0 : Fin 1) (⟨n.val / 16, by omega⟩ : Fin 720) (⟨8 * (k.val / 16) + 7, by omega⟩ : Fin 1536))
    rw [key, if_pos (by show (8 * (k.val / 16) + 7) % 8 = 7; omega)] at h1
    have h2 := blockMax_le.1 h1 ⟨n.val % 16, by omega⟩ ⟨k.val % 16, by omega⟩
    have e1 : 16 * (n.val / 16) + n.val % 16 = n.val := by omega
    have e2 : 16 * ((8 * (k.val / 16) + 7) / 8) + k.val % 16 = k.val := by omega
    have h3 : max (R (16 * (n.val / 16) + n.val % 16) (16 * ((8 * (k.val / 16) + 7) / 8) + k.val % 16)) (-R (16 * (n.val / 16) + n.val % 16) (16 * ((8 * (k.val / 16) + 7) / 8) + k.val % 16)) ≤ z := h2
    rwa [e1, e2] at h3
  · intro h i
    have hz : 0 ≤ z := (mag_nonneg _).trans (h ⟨0, by decide⟩ ⟨0, by decide⟩)
    obtain ⟨I, L, rfl⟩ : ∃ (I : Fin 720) (L : Fin 1536), i = ix3 (0 : Fin 1) I L := ⟨i 1, i 2, funext fun a => match a with
      | ⟨0, _⟩ => Subsingleton.elim (α := Fin 1) _ _
      | ⟨1, _⟩ => rfl
      | ⟨2, _⟩ => rfl⟩
    rw [key]
    split_ifs with hL
    · refine blockMax_le.2 fun a b => ?_
      have ha := a.isLt
      have hI := I.isLt
      rcases Nat.lt_or_ge (16 * (L.val / 8) + b.val) 2880 with hk | hk
      · exact h ⟨16 * I.val + a.val, by omega⟩ ⟨16 * (L.val / 8) + b.val, hk⟩
      · rw [hx.2 _ _ hk, neg_zero, max_self]
        exact hz
    · exact hz

/-! ## The block scales -/

theorem scaled_apply (hx : IsMax x R) (I : Fin 720) (L : Fin 1536) (hL : L.val % 8 = 7) : k1_pay5 (F := Ideal) x (ix2 I L) = sB R I.val (L.val / 8) := by
  have e : k1_pay5 (F := Ideal) x (ix2 I L) = min (Ideal.div (k1_pay2 (F := Ideal) x (ix2 I L)) (k1_pay3 (F := Ideal) x * Ideal.ofBits .f32 0x40C00000#32)) (Ideal.ofBits .f32 0x43E00000#32) := rfl
  rw [e, scale_all hx, masked_apply, if_pos hL, hx.1 I L hL]
  rfl

/-- The row of the one entry of a column of the spreading matrix. -/
def spreadCol : IVec S128x128 32 :=
  have v38 : IVec S128x128 32 := iota .tc S128x128 32 [1] iota_S128x128_d1_w32
  have v40 : IVec S128x128 32 := k1_pay6
  let c8_i32_10 : BitVec 32 := 8#32
  let c0_i32_11 : BitVec 32 := 0#32
  have v41 : IVec S128x128 32 := broadcast S128x128 c0_i32_11
  have v42 : IVec S128x128 1 := cmpi .sgt v38 v41
  have v43 : IVec S128x128 32 := extui 32 v42 natLt_1_32
  have v44 : IVec S128x128 32 := broadcast S128x128 0#32
  have v45 : IVec S128x128 1 := cmpi .slt v38 v44
  have v46 : IVec S128x128 32 := extui 32 v45 natLt_1_32
  have v47 : IVec S128x128 32 := subi v43 v46
  let v48 : BitVec 1 := Scalar.cmpi .sgt c8_i32_10 0#32
  let v49 : BitVec 32 := Scalar.extui v48
  let v50 : BitVec 1 := Scalar.cmpi .slt c8_i32_10 0#32
  let v51 : BitVec 32 := Scalar.extui v50
  let v52 : BitVec 32 := Scalar.subi v49 v51
  have v53 : IVec S128x128 32 := broadcast S128x128 v52
  have v54 : IVec S128x128 1 := cmpi .ne v47 v53
  have v55 : IVec S128x128 32 := broadcast S128x128 c8_i32_10
  have v56 : IVec S128x128 32 := remsi v38 v55
  have v57 : IVec S128x128 32 := broadcast S128x128 0#32
  have v58 : IVec S128x128 1 := cmpi .ne v56 v57
  have v59 : IVec S128x128 1 := andi v54 v58
  have v60 : IVec S128x128 32 := broadcast S128x128 1#32
  have v61 : IVec S128x128 32 := subi v40 v60
  have v62 : IVec S128x128 32 := select v59 v61 v40
  have v63 : IVec S128x128 32 := broadcast S128x128 8#32
  have v64 : IVec S128x128 32 := muli v62 v63
  have v65 : IVec S128x128 32 := broadcast S128x128 8#32
  have v66 : IVec S128x128 32 := addi v64 v65
  have v67 : IVec S128x128 32 := broadcast S128x128 1#32
  have v68 : IVec S128x128 32 := subi v66 v67
  v68

/-- The matrix of ones that puts a block's scale on its eight lanes. -/
def spreadM : FVec Ideal S128x128 .bf16 :=
  k1_pay7 (F := Ideal) (iota .tc S128x128 32 [0] iota_S128x128_d0_w32) (iota .tc S128x128 32 [1] iota_S128x128_d1_w32) 8#32 k1_pay6 0#32

/-- A word that is one or zero as a number. -/
def oneIf (b : BitVec 1) : EReal := (((b.setWidth 32).toInt : ℝ) : EReal)

theorem spreadM_eq (k l : Fin 128) : spreadM (ix2 k l) = oneIf (Scalar.cmpi .eq (BitVec.ofNat 32 k.val) (spreadCol (ix2 k l))) := by
  have e : spreadM (ix2 k l) = oneIf (Scalar.cmpi .eq (BitVec.ofNat 32 (0 * 128 + k.val)) (spreadCol (ix2 k l))) := rfl
  rw [e, Nat.zero_mul, Nat.zero_add]

theorem spreadCol_row (k l : Fin 128) : spreadCol (ix2 k l) = spreadCol (ix2 0 l) := rfl

theorem spreadCol_val (l : Fin 128) : spreadCol (ix2 0 l) = BitVec.ofNat 32 (8 * (l.val / 8) + 7) := by
  revert l; decide +kernel

theorem oneIf_eq (a b : ℕ) (ha : a < 2048) (hb : b < 2048) : oneIf (Scalar.cmpi .eq (BitVec.ofNat 32 a) (BitVec.ofNat 32 b)) = if a = b then 1 else 0 := by
  by_cases h : a = b
  · subst h
    rw [if_pos rfl]
    have : Scalar.cmpi .eq (BitVec.ofNat 32 a) (BitVec.ofNat 32 a) = 1#1 := by show BitVec.ofBool (_ == _) = _; rw [beq_self_eq_true]; rfl
    rw [this]
    show (((((1#1 : BitVec 1).setWidth 32).toInt : ℤ) : ℝ) : EReal) = 1
    have : ((1#1 : BitVec 1).setWidth 32).toInt = 1 := by decide
    rw [this]; simp
  · rw [if_neg h]
    have hne : BitVec.ofNat 32 a ≠ BitVec.ofNat 32 b := fun hh => h (by
      have := congrArg BitVec.toNat hh
      simp only [BitVec.toNat_ofNat] at this
      omega)
    have : Scalar.cmpi .eq (BitVec.ofNat 32 a) (BitVec.ofNat 32 b) = 0#1 := by show BitVec.ofBool (_ == _) = _; rw [beq_eq_false_iff_ne.2 hne]; rfl
    rw [this]
    show (((((0#1 : BitVec 1).setWidth 32).toInt : ℤ) : ℝ) : EReal) = 0
    have : ((0#1 : BitVec 1).setWidth 32).toInt = 0 := by decide
    rw [this]; simp

theorem spreadM_apply (k l : Fin 128) : spreadM (ix2 k l) = if k.val = 8 * (l.val / 8) + 7 then 1 else 0 := by
  rw [spreadM_eq, spreadCol_row, spreadCol_val]
  exact oneIf_eq _ _ (by omega) (by omega)

/-- A part of 128 lanes with each block's scale on its eight lanes. -/
def spreadPart (s : FVec Ideal S720x1536 .bf16) (o : ℕ) (h : S720x1536.Slices ![0, o] S720x128) : FVec Ideal S720x128 .f32 :=
  matmul dot_S720x128_S128x128_S720x128_1_0_0_1_n_n none (extractStridedSlice S720x128 ![0, o] s h) spreadM (constant S720x128 .f32 0x00000000#32)

theorem spread_apply (hx : IsMax x R) (j o : ℕ) (ho : o = 128 * j) (hj : j < 12) (h : S720x1536.Slices ![0, o] S720x128) (I : Fin 720) (l : Fin 128) :
    spreadPart (k1_pay5 (F := Ideal) x) o h (ix2 I l) = sB R I.val ((o + l.val) / 8) := by
  have e : spreadPart (k1_pay5 (F := Ideal) x) o h (ix2 I l) = ∑ k : Fin 128, (k1_pay5 (F := Ideal) x) (ix2 I (⟨o + k.val, by omega⟩ : Fin 1536)) * spreadM (ix2 k l) := by
    unfold spreadPart
    generalize k1_pay5 (F := Ideal) x = w
    generalize spreadM = w'
    pointwise
  rw [e, Finset.sum_eq_single (⟨8 * (l.val / 8) + 7, by omega⟩ : Fin 128)]
  · rw [spreadM_apply, if_pos rfl, mul_one, scaled_apply hx _ _ (by show (o + (8 * (l.val / 8) + 7)) % 8 = 7; omega)]
    show sB R I.val ((o + (8 * (l.val / 8) + 7)) / 8) = _
    congr 1; omega
  · intro k _ hk
    rw [spreadM_apply, if_neg fun hh => hk (Fin.ext hh), mul_zero]
  · intro hh
    exact absurd (Finset.mem_univ _) hh

/-- The inverse scales of a part, zero where the scale is not positive. -/
def invPart (s : FVec Ideal S720x128 .f32) (st : EReal) : FVec Ideal S720x128 .f32 :=
  select (cmpf .ogt (mulf s (broadcast S720x128 st)) (broadcast S720x128 (Ideal.ofBits .f32 0x00000000#32)))
    (divf (broadcast S720x128 (Ideal.ofBits .f32 0x3F800000#32)) (select (cmpf .ogt (mulf s (broadcast S720x128 st)) (broadcast S720x128 (Ideal.ofBits .f32 0x00000000#32))) (mulf s (broadcast S720x128 st)) (broadcast S720x128 (Ideal.ofBits .f32 0x3F800000#32))))
    (broadcast S720x128 (Ideal.ofBits .f32 0x00000000#32))

theorem invPart_apply (s : FVec Ideal S720x128 .f32) (i : S720x128.Idx) (I K : ℕ) (h : s i = sB R I K) : invPart s (sT R) i = iV R I K := by
  have e : invPart s (sT R) i = Scalar.select (Ideal.cmp .ogt (s i * sT R) (Ideal.ofBits .f32 0x00000000#32))
      (Ideal.div (Ideal.ofBits .f32 0x3F800000#32) (Scalar.select (Ideal.cmp .ogt (s i * sT R) (Ideal.ofBits .f32 0x00000000#32)) (s i * sT R) (Ideal.ofBits .f32 0x3F800000#32)))
      (Ideal.ofBits .f32 0x00000000#32) := rfl
  rw [e, cmp_ogt, select_ofBool, select_ofBool, b_0, b_1, h, EReal.coe_zero, EReal.coe_one]
  unfold iV
  by_cases hd : 0 < sB R I K * sT R
  · rw [if_pos hd, if_pos hd, if_pos hd]
  · rw [if_neg hd, if_neg hd]

theorem inv_piece (hx : IsMax x R) (j o : ℕ) (ho : o = 128 * j) (hj : j < 12) (h : S720x1536.Slices ![0, o] S720x128)
    (inb : ∀ a, ![0, o] a + S720x128.size a ≤ S720x1536.size a) (z : S720x128.Idx) :
    invPart (spreadPart (k1_pay5 (F := Ideal) x) o h) (k1_pay3 (F := Ideal) x) z
      = iV R ((Rect.unit (s := S720x1536) ![0, o] S720x128.size inb).emb z 0).val (((Rect.unit (s := S720x1536) ![0, o] S720x128.size inb).emb z 1).val / 8) := by
  obtain ⟨p, c, rfl⟩ := ex2 z
  have e0 : ((Rect.unit (s := S720x1536) ![0, o] S720x128.size inb).emb (ix2 p c) 0).val = p.val := by show 0 + 1 * p.val = p.val; omega
  have e1 : ((Rect.unit (s := S720x1536) ![0, o] S720x128.size inb).emb (ix2 p c) 1).val = o + c.val := by show o + 1 * c.val = _; omega
  rw [e0, e1, scale_all hx]
  exact invPart_apply _ _ _ _ (spread_apply hx j o ho hj h p c)

theorem s8_piece (hx : IsMax x R) (j o : ℕ) (ho : o = 128 * j) (hj : j < 12) (h : S720x1536.Slices ![0, o] S720x128)
    (inb : ∀ a, ![0, o] a + S720x128.size a ≤ S720x1536.size a) (z : S720x128.Idx) :
    spreadPart (k1_pay5 (F := Ideal) x) o h z
      = sB R ((Rect.unit (s := S720x1536) ![0, o] S720x128.size inb).emb z 0).val (((Rect.unit (s := S720x1536) ![0, o] S720x128.size inb).emb z 1).val / 8) := by
  obtain ⟨p, c, rfl⟩ := ex2 z
  have e0 : ((Rect.unit (s := S720x1536) ![0, o] S720x128.size inb).emb (ix2 p c) 0).val = p.val := by show 0 + 1 * p.val = p.val; omega
  have e1 : ((Rect.unit (s := S720x1536) ![0, o] S720x128.size inb).emb (ix2 p c) 1).val = o + c.val := by show o + 1 * c.val = _; omega
  rw [e0, e1]
  exact spread_apply hx j o ho hj h p c

theorem ld_x (x : Vec Ideal S720x1536 .f32) : View.ld x r1_0 = x :=
  funext fun i => congrArg x (funext fun a => match a with
    | ⟨0, _⟩ => Fin.ext (by show 0 + 1 * (i 0).val = (i 0).val; omega)
    | ⟨1, _⟩ => Fin.ext (by show 0 + 1 * (i 1).val = (i 1).val; omega))

/-- The twelve parts of the inverse scales, last first. -/
def invPieces (s : FVec Ideal S720x1536 .bf16) (st : EReal) : List (View.Piece (Elt Ideal) S720x1536 .f32) :=
  [⟨r1_13, invPart (spreadPart s 1408 slices_S720x1536_o0_1408_S720x128) st⟩,
    ⟨r1_12, invPart (spreadPart s 1280 slices_S720x1536_o0_1280_S720x128) st⟩,
    ⟨r1_11, invPart (spreadPart s 1152 slices_S720x1536_o0_1152_S720x128) st⟩,
    ⟨r1_10, invPart (spreadPart s 1024 slices_S720x1536_o0_1024_S720x128) st⟩,
    ⟨r1_9, invPart (spreadPart s 896 slices_S720x1536_o0_896_S720x128) st⟩,
    ⟨r1_8, invPart (spreadPart s 768 slices_S720x1536_o0_768_S720x128) st⟩,
    ⟨r1_7, invPart (spreadPart s 640 slices_S720x1536_o0_640_S720x128) st⟩,
    ⟨r1_6, invPart (spreadPart s 512 slices_S720x1536_o0_512_S720x128) st⟩,
    ⟨r1_5, invPart (spreadPart s 384 slices_S720x1536_o0_384_S720x128) st⟩,
    ⟨r1_4, invPart (spreadPart s 256 slices_S720x1536_o0_256_S720x128) st⟩,
    ⟨r1_3, invPart (spreadPart s 128 slices_S720x1536_o0_128_S720x128) st⟩,
    ⟨r1_2, invPart (spreadPart s 0 slices_S720x1536_o0_0_S720x128) st⟩]

/-- The twelve parts of the spread scales, last first. -/
def s8Pieces (s : FVec Ideal S720x1536 .bf16) : List (View.Piece (Elt Ideal) S720x1536 .bf16) :=
  [⟨r1_13, spreadPart s 1408 slices_S720x1536_o0_1408_S720x128⟩,
    ⟨r1_12, spreadPart s 1280 slices_S720x1536_o0_1280_S720x128⟩,
    ⟨r1_11, spreadPart s 1152 slices_S720x1536_o0_1152_S720x128⟩,
    ⟨r1_10, spreadPart s 1024 slices_S720x1536_o0_1024_S720x128⟩,
    ⟨r1_9, spreadPart s 896 slices_S720x1536_o0_896_S720x128⟩,
    ⟨r1_8, spreadPart s 768 slices_S720x1536_o0_768_S720x128⟩,
    ⟨r1_7, spreadPart s 640 slices_S720x1536_o0_640_S720x128⟩,
    ⟨r1_6, spreadPart s 512 slices_S720x1536_o0_512_S720x128⟩,
    ⟨r1_5, spreadPart s 384 slices_S720x1536_o0_384_S720x128⟩,
    ⟨r1_4, spreadPart s 256 slices_S720x1536_o0_256_S720x128⟩,
    ⟨r1_3, spreadPart s 128 slices_S720x1536_o0_128_S720x128⟩,
    ⟨r1_2, spreadPart s 0 slices_S720x1536_o0_0_S720x128⟩]

theorem out_inv (x : Vec Ideal S720x1536 .f32) : out1_1 (F := Ideal) x = View.canon (invPieces (k1_pay5 (View.ld x r1_0)) (k1_pay3 (View.ld x r1_0))) := by sl_kernel_rfl

theorem out_s8 (x : Vec Ideal S720x1536 .f32) : out1_3 (F := Ideal) x = View.canon (s8Pieces (k1_pay5 (View.ld x r1_0))) := by sl_kernel_rfl

theorem inv_canon (hx : IsMax x R) (I : Fin 720) (L : Fin 1536) : out1_1 (F := Ideal) x (ix2 I L) = iV R I.val (L.val / 8) := by
  rw [out_inv, ld_x]
  refine canon_forall_of_pieces (fun y v => v = iV R (y 0).val ((y 1).val / 8)) _ ?_ (ix2 I L) (cover1_1 _ _ _ _ _ _ _ _ _ _ _ _ _)
  refine List.forall_mem_cons.2 ⟨fun z => inv_piece hx 11 1408 rfl (by decide) slices_S720x1536_o0_1408_S720x128 inb_S720x1536_S720x128_0_1408 z, ?_⟩
  refine List.forall_mem_cons.2 ⟨fun z => inv_piece hx 10 1280 rfl (by decide) slices_S720x1536_o0_1280_S720x128 inb_S720x1536_S720x128_0_1280 z, ?_⟩
  refine List.forall_mem_cons.2 ⟨fun z => inv_piece hx 9 1152 rfl (by decide) slices_S720x1536_o0_1152_S720x128 inb_S720x1536_S720x128_0_1152 z, ?_⟩
  refine List.forall_mem_cons.2 ⟨fun z => inv_piece hx 8 1024 rfl (by decide) slices_S720x1536_o0_1024_S720x128 inb_S720x1536_S720x128_0_1024 z, ?_⟩
  refine List.forall_mem_cons.2 ⟨fun z => inv_piece hx 7 896 rfl (by decide) slices_S720x1536_o0_896_S720x128 inb_S720x1536_S720x128_0_896 z, ?_⟩
  refine List.forall_mem_cons.2 ⟨fun z => inv_piece hx 6 768 rfl (by decide) slices_S720x1536_o0_768_S720x128 inb_S720x1536_S720x128_0_768 z, ?_⟩
  refine List.forall_mem_cons.2 ⟨fun z => inv_piece hx 5 640 rfl (by decide) slices_S720x1536_o0_640_S720x128 inb_S720x1536_S720x128_0_640 z, ?_⟩
  refine List.forall_mem_cons.2 ⟨fun z => inv_piece hx 4 512 rfl (by decide) slices_S720x1536_o0_512_S720x128 inb_S720x1536_S720x128_0_512 z, ?_⟩
  refine List.forall_mem_cons.2 ⟨fun z => inv_piece hx 3 384 rfl (by decide) slices_S720x1536_o0_384_S720x128 inb_S720x1536_S720x128_0_384 z, ?_⟩
  refine List.forall_mem_cons.2 ⟨fun z => inv_piece hx 2 256 rfl (by decide) slices_S720x1536_o0_256_S720x128 inb_S720x1536_S720x128_0_256 z, ?_⟩
  refine List.forall_mem_cons.2 ⟨fun z => inv_piece hx 1 128 rfl (by decide) slices_S720x1536_o0_128_S720x128 inb_S720x1536_S720x128_0_128 z, ?_⟩
  refine List.forall_mem_cons.2 ⟨fun z => inv_piece hx 0 0 rfl (by decide) slices_S720x1536_o0_0_S720x128 inb_S720x1536_S720x128_0_0 z, ?_⟩
  exact fun _ h => absurd h List.not_mem_nil

theorem s8_canon (hx : IsMax x R) (I : Fin 720) (L : Fin 1536) : out1_3 (F := Ideal) x (ix2 I L) = sB R I.val (L.val / 8) := by
  rw [out_s8, ld_x]
  refine canon_forall_of_pieces (fun y v => v = sB R (y 0).val ((y 1).val / 8)) _ ?_ (ix2 I L) (cover1_3 _ _ _ _ _ _ _ _ _ _ _ _ _)
  refine List.forall_mem_cons.2 ⟨fun z => s8_piece hx 11 1408 rfl (by decide) slices_S720x1536_o0_1408_S720x128 inb_S720x1536_S720x128_0_1408 z, ?_⟩
  refine List.forall_mem_cons.2 ⟨fun z => s8_piece hx 10 1280 rfl (by decide) slices_S720x1536_o0_1280_S720x128 inb_S720x1536_S720x128_0_1280 z, ?_⟩
  refine List.forall_mem_cons.2 ⟨fun z => s8_piece hx 9 1152 rfl (by decide) slices_S720x1536_o0_1152_S720x128 inb_S720x1536_S720x128_0_1152 z, ?_⟩
  refine List.forall_mem_cons.2 ⟨fun z => s8_piece hx 8 1024 rfl (by decide) slices_S720x1536_o0_1024_S720x128 inb_S720x1536_S720x128_0_1024 z, ?_⟩
  refine List.forall_mem_cons.2 ⟨fun z => s8_piece hx 7 896 rfl (by decide) slices_S720x1536_o0_896_S720x128 inb_S720x1536_S720x128_0_896 z, ?_⟩
  refine List.forall_mem_cons.2 ⟨fun z => s8_piece hx 6 768 rfl (by decide) slices_S720x1536_o0_768_S720x128 inb_S720x1536_S720x128_0_768 z, ?_⟩
  refine List.forall_mem_cons.2 ⟨fun z => s8_piece hx 5 640 rfl (by decide) slices_S720x1536_o0_640_S720x128 inb_S720x1536_S720x128_0_640 z, ?_⟩
  refine List.forall_mem_cons.2 ⟨fun z => s8_piece hx 4 512 rfl (by decide) slices_S720x1536_o0_512_S720x128 inb_S720x1536_S720x128_0_512 z, ?_⟩
  refine List.forall_mem_cons.2 ⟨fun z => s8_piece hx 3 384 rfl (by decide) slices_S720x1536_o0_384_S720x128 inb_S720x1536_S720x128_0_384 z, ?_⟩
  refine List.forall_mem_cons.2 ⟨fun z => s8_piece hx 2 256 rfl (by decide) slices_S720x1536_o0_256_S720x128 inb_S720x1536_S720x128_0_256 z, ?_⟩
  refine List.forall_mem_cons.2 ⟨fun z => s8_piece hx 1 128 rfl (by decide) slices_S720x1536_o0_128_S720x128 inb_S720x1536_S720x128_0_128 z, ?_⟩
  refine List.forall_mem_cons.2 ⟨fun z => s8_piece hx 0 0 rfl (by decide) slices_S720x1536_o0_0_S720x128 inb_S720x1536_S720x128_0_0 z, ?_⟩
  exact fun _ h => absurd h List.not_mem_nil

/-! ## The picked scales -/

/-- The matrix of ones that picks each block's scale from its last lane. -/
def pickM : FVec Ideal S1536x180 .bf16 :=
  truncf .bf16 (sitofp .f32 (extui 32 (cmpi .eq (iota .tc S1536x180 32 [0] iota_S1536x180_d0_w32) (subi k1_pay48 (broadcast S1536x180 1#32))) natLt_1_32)) bitsLt_bf16_f32

theorem pickM_eq (L : Fin 1536) (K : Fin 180) : pickM (ix2 L K) = oneIf (Scalar.cmpi .eq (BitVec.ofNat 32 L.val) (subi k1_pay48 (broadcast S1536x180 1#32) (ix2 L K))) := by
  have e : pickM (ix2 L K) = oneIf (Scalar.cmpi .eq (BitVec.ofNat 32 (0 * 1536 + L.val)) (subi k1_pay48 (broadcast S1536x180 1#32) (ix2 L K))) := rfl
  rw [e, Nat.zero_mul, Nat.zero_add]

theorem pick_row (L : Fin 1536) (K : Fin 180) : subi k1_pay48 (broadcast S1536x180 1#32) (ix2 L K) = subi k1_pay48 (broadcast S1536x180 1#32) (ix2 0 K) := rfl

theorem pick_val (K : Fin 180) : subi k1_pay48 (broadcast S1536x180 1#32) (ix2 0 K) = BitVec.ofNat 32 (8 * K.val + 7) := by
  revert K; decide +kernel

theorem pickM_apply (L : Fin 1536) (K : Fin 180) : pickM (ix2 L K) = if L.val = 8 * K.val + 7 then 1 else 0 := by
  rw [pickM_eq, pick_row, pick_val]
  exact oneIf_eq _ _ (by omega) (by omega)

theorem pick_apply (hx : IsMax x R) (I : Fin 720) (K : Fin 180) :
    k1_pay1 (F := Ideal) (k1_pay5 x) (iota .tc S1536x180 32 [0] iota_S1536x180_d0_w32) k1_pay48 (ix2 I K) = sB R I.val K.val := by
  have e : k1_pay1 (F := Ideal) (k1_pay5 x) (iota .tc S1536x180 32 [0] iota_S1536x180_d0_w32) k1_pay48 (ix2 I K) = ∑ L : Fin 1536, (k1_pay5 (F := Ideal) x) (ix2 I L) * pickM (ix2 L K) := by
    show matmul dot_S720x1536_S1536x180_S720x180_1_0_0_1_n_n none (k1_pay5 (F := Ideal) x) pickM (constant S720x180 .f32 0x00000000#32) (ix2 I K) = _
    generalize k1_pay5 (F := Ideal) x = w
    generalize pickM = w'
    pointwise
  rw [e, Finset.sum_eq_single (⟨8 * K.val + 7, by omega⟩ : Fin 1536)]
  · rw [pickM_apply, if_pos rfl, mul_one, scaled_apply hx _ _ (by show (8 * K.val + 7) % 8 = 7; omega)]
    show sB R I.val ((8 * K.val + 7) / 8) = _
    congr 1; omega
  · intro k _ hk
    rw [pickM_apply, if_neg fun hh => hk (Fin.ext hh), mul_zero]
  · intro hh
    exact absurd (Finset.mem_univ _) hh

theorem sb_canon (hx : IsMax x R) (I : Fin 720) (K : Fin 180) : out1_2 (F := Ideal) x (ix2 I K) = sB R I.val K.val := by
  refine canon_forall_of_pieces (fun y v => v = sB R (y 0).val (y 1).val) _ ?_ (ix2 I K) (cover1_2 _ _)
  refine List.forall_mem_cons.2 ⟨fun z => ?_, fun _ h => absurd h List.not_mem_nil⟩
  obtain ⟨p, c, rfl⟩ := ex2 z
  have e0 : (r1_14.emb (ix2 p c) 0).val = p.val := by show 0 + 1 * p.val = p.val; omega
  have e1 : (r1_14.emb (ix2 p c) 1).val = c.val := by show 0 + 1 * c.val = c.val; omega
  rw [e0, e1, ← pick_apply hx p c]
  show k1_pay1 (F := Ideal) (k1_pay5 (View.ld x r1_0)) _ _ _ = _
  rw [ld_x]

theorem st_canon (hx : IsMax x R) (i : S1x1.Idx) : out1_4 (F := Ideal) x i = sT R := by
  refine canon_forall_of_pieces (fun _ v => v = sT R) _ ?_ i (cover1_4 _ _)
  refine List.forall_mem_cons.2 ⟨fun z => ?_, fun _ h => absurd h List.not_mem_nil⟩
  show k1_pay3 (F := Ideal) (View.ld x r1_0) = _
  rw [ld_x, scale_all hx]

end Cert.Maths
-- ==== Proof.Maths.RefRot.lean ====
module

public import proofs.«01_k».proof.Proof.Maths.Scales
public import proofs.«01_k».proof.Proof.Maths.Grid
public import proofs.«01_k».proof.Proof.Gen.ReferenceIdeal.Read

/-! The reference's rotation: its matrix's entries, the rotated weights and the rotated activations at an index. -/

@[expose] public section

set_option maxRecDepth 16384

noncomputable section

namespace Cert.Maths

open Cert.ReferenceIdeal Cert.ReferenceIdeal.Gen
open Idealize.ShloMosaic Idealize.ShloMosaic.TcCoe Idealize.ShloMosaic.StableHlo

/-- The reference's signs as integers: one, less twice the parity of the common bits. -/
def sgnI : IVec S16x16 32 :=
  subi (broadcastInDim S16x16 ![] bcast_S_S16x16 (constantI S_ 32 1#32)) (muli (broadcastInDim S16x16 ![] bcast_S_S16x16 (constantI S_ 32 2#32)) (andi (ctpop (andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0))))) (broadcastInDim S16x16 ![] bcast_S_S16x16 (constantI S_ 32 1#32))))

/-- The reference's rotation matrix. -/
def refT (g : FVec Ideal S16 .f32) : FVec Ideal S16x16 .f32 :=
  mulf (mulf (broadcastInDim S16x16 ![0, 1] bcast_S16x1_S16x16_0_1 (broadcastInDim S16x1 ![0] bcast_S16_S16x1_0 g)) (sitofp .f32 sgnI)) (broadcastInDim S16x16 ![] bcast_S_S16x16 (constant S_ .f32 0x3E800000#32))

theorem sgnI_val : ∀ a b : Fin 16, sgnI (ix2 a b) = if evenBits a.val b.val then 1#32 else 0xFFFFFFFF#32 := by
  decide +kernel

theorem b_mquarter : Ideal.ofBits .f32 0xBE800000#32 = ((-(1 / 4) : ℝ) : EReal) := by simp [Ideal.ofBits, Ideal.ieee, -EReal.coe_mul]; norm_num

theorem refT_apply (g : FVec Ideal S16 .f32) (a b : Fin 16) : refT g (ix2 a b) = rotEntry (fun i => g (ix1 i)) a.val b.val := by
  have e : refT g (ix2 a b) = (g (ix1 a) * (((sgnI (ix2 a b)).toInt : ℝ) : EReal)) * Ideal.ofBits .f32 0x3E800000#32 := by
    unfold refT
    generalize sgnI = s
    pointwise
    rfl
  rw [e, sgnI_val]
  unfold rotEntry
  have hg : (⟨a.val % 16, Nat.mod_lt _ (by decide)⟩ : Fin 16) = a := Fin.ext (Nat.mod_eq_of_lt a.isLt)
  rw [hg]
  have h1 : ((1#32 : BitVec 32).toInt : ℝ) = 1 := by norm_num
  have h2 : ((0xFFFFFFFF#32 : BitVec 32).toInt : ℝ) = -1 := by
    rw [show (0xFFFFFFFF#32 : BitVec 32).toInt = -1 from by decide]
    norm_num
  by_cases h : evenBits a.val b.val = true
  · rw [if_pos h, if_pos h, h1, EReal.coe_one, mul_one, mul_comm]
  · rw [if_neg h, if_neg h, h2, b_025, b_mquarter, mul_assoc, ← EReal.coe_mul, mul_comm]
    norm_num

/-- The rotated weights, as the reference holds them. -/
def refW (w : FVec Ideal S11520x2880 .bf16) (g : FVec Ideal S16 .f32) : FVec Ideal S11520x2880 .f32 :=
  shapeCast _ (Host.dotGeneral dot_S11520x180x16_S16x16_S11520x180x16_2_0_01_1_n_n (some .fp32) (shapeCast _ (extf .f32 w bitsLt_bf16_f32) shapeCasts_S11520x2880_S11520x180x16) (refT g)) shapeCasts_S11520x180x16_S11520x2880

theorem refW_apply (w : FVec Ideal S11520x2880 .bf16) (g : FVec Ideal S16 .f32) (n : Fin 11520) (k : Fin 2880) :
    refW w g (ix2 n k) = rotAt (at2 w) (fun i => g (ix1 i)) n.val k.val := by
  have e : refW w g (ix2 n k) = ∑ i : Fin 16, w (ix2 n (⟨k.val / 16 * 16 + i.val, by omega⟩ : Fin 2880)) * refT g (ix2 i (⟨k.val % 16, Nat.mod_lt _ (by decide)⟩ : Fin 16)) := by
    unfold refW
    generalize refT g = t
    pointwise
  rw [e]
  unfold rotAt
  refine Finset.sum_congr rfl fun i _ => ?_
  rw [refT_apply, Nat.mul_comm 16, at2_in _ _ _ n.isLt (by omega)]

/-- The rotated weights in blocks of 16 by 16. -/
def refB (w : FVec Ideal S11520x2880 .bf16) (g : FVec Ideal S16 .f32) : FVec Ideal S720x16x180x16 .f32 :=
  shapeCast _ (refW w g) shapeCasts_S11520x2880_S720x16x180x16

theorem refB_apply (w : FVec Ideal S11520x2880 .bf16) (g : FVec Ideal S16 .f32) (I : Fin 720) (a : Fin 16) (K : Fin 180) (b : Fin 16) :
    refB w g (ix4 I a K b) = rotAt (at2 w) (fun i => g (ix1 i)) (16 * I.val + a.val) (16 * K.val + b.val) := by
  have e : refB w g (ix4 I a K b) = refW w g (ix2 (⟨I.val * 16 + a.val, by omega⟩ : Fin 11520) (⟨K.val * 16 + b.val, by omega⟩ : Fin 2880)) := by
    unfold refB
    generalize refW w g = t
    pointwise
  rw [e, refW_apply, Nat.mul_comm 16, Nat.mul_comm 16]

/-- The rotated activations, as the reference holds them. -/
theorem refX_apply (x : FVec Ideal S2x128x2880 .bf16) (g : FVec Ideal S16 .f32) (b : Fin 2) (s : Fin 128) (k : Fin 2880) :
    Cert.ReferenceIdeal.Read.val_main_v103 (F := Ideal) x (refT g) (ix3 b s k)
      = ∑ i : Fin 16, x (ix3 b s (⟨k.val / 16 * 16 + i.val, by omega⟩ : Fin 2880)) * rotEntry (fun i => g (ix1 i)) i.val (k.val % 16) := by
  have e : Cert.ReferenceIdeal.Read.val_main_v103 (F := Ideal) x (refT g) (ix3 b s k)
      = ∑ i : Fin 16, x (ix3 b s (⟨k.val / 16 * 16 + i.val, by omega⟩ : Fin 2880)) * refT g (ix2 i (⟨k.val % 16, Nat.mod_lt _ (by decide)⟩ : Fin 16)) := by
    generalize refT g = t
    pointwise [Cert.ReferenceIdeal.Read.val_main_v103, Cert.ReferenceIdeal.Read.val_main_v102, Cert.ReferenceIdeal.Read.val_main_v101, Cert.ReferenceIdeal.Read.val_main_v100, Cert.ReferenceIdeal.Read.val_main_v99]
  rw [e]
  refine Finset.sum_congr rfl fun i _ => ?_
  rw [refT_apply]

/-! ## The maxima -/

theorem bot_bits : Ideal.ofBits .f32 0xFF800000#32 = ⊥ := ofBits_bot

/-- The greatest magnitude of the whole array, as the reference takes it. -/
theorem all_le (v : FVec Ideal S11520x2880 .f32) (z : EReal) (j : S_.Idx) :
    Host.reduce (FloatOps.maximumf (F := Ideal) (φ := .f32)) (Host.absf v) (constant (F := Ideal) S_ .f32 0xFF800000#32) reducesTo_S11520x2880_S_d0_1 h_S_ j ≤ z ↔ ∀ i, max (v i) (-v i) ≤ z := by
  refine (iff_of_eq (congrArg (· ≤ z) (Host.reduce_eq_fold (FloatOps.maximumf (F := Ideal) (φ := .f32)) (Host.absf v) (constant (F := Ideal) S_ .f32 0xFF800000#32) reducesTo_S11520x2880_S_d0_1 h_S_ j))).trans ?_
  rw [Finset.filter_true_of_mem fun i _ => funext fun b => b.elim0]
  show Finset.fold max (Ideal.ofBits .f32 0xFF800000#32) (fun i => max (v i) (-v i)) Finset.univ ≤ z ↔ _
  rw [Finset.fold_max_le, bot_bits]
  exact ⟨fun h i => h.2 i (Finset.mem_univ _), fun h => ⟨bot_le, fun i _ => h i⟩⟩

theorem ex4 (y : S720x16x180x16.Idx) : ∃ (I : Fin 720) (a : Fin 16) (K : Fin 180) (b : Fin 16), y = ix4 I a K b :=
  ⟨y 0, y 1, y 2, y 3, funext fun a => match a with | ⟨0, _⟩ => rfl | ⟨1, _⟩ => rfl | ⟨2, _⟩ => rfl | ⟨3, _⟩ => rfl⟩

/-- The greatest magnitude of each block, as the reference takes it. -/
theorem block_le (v : FVec Ideal S720x16x180x16 .f32) (z : EReal) (I : Fin 720) (K : Fin 180) :
    Host.reduce (FloatOps.maximumf (F := Ideal) (φ := .f32)) (Host.absf v) (constant (F := Ideal) S_ .f32 0xFF800000#32) reducesTo_S720x16x180x16_S720x180_d1_3 h_S_ (ix2 I K) ≤ z
      ↔ ∀ a b : Fin 16, max (v (ix4 I a K b)) (-v (ix4 I a K b)) ≤ z := by
  refine (iff_of_eq (congrArg (· ≤ z) (Host.reduce_eq_fold (FloatOps.maximumf (F := Ideal) (φ := .f32)) (Host.absf v) (constant (F := Ideal) S_ .f32 0xFF800000#32) reducesTo_S720x16x180x16_S720x180_d1_3 h_S_ (ix2 I K)))).trans ?_
  show Finset.fold max (Ideal.ofBits .f32 0xFF800000#32) (fun i => max (v i) (-v i)) (Finset.univ.filter fun i => reducesTo_S720x16x180x16_S720x180_d1_3.drop i = ix2 I K) ≤ z ↔ _
  rw [Finset.fold_max_le, bot_bits]
  have hd : ∀ (J : Fin 720) (a : Fin 16) (L : Fin 180) (b : Fin 16), reducesTo_S720x16x180x16_S720x180_d1_3.drop (ix4 J a L b) = ix2 J L := by
    intro J a L b
    exact funext fun c => match c with | ⟨0, _⟩ => rfl | ⟨1, _⟩ => rfl
  constructor
  · intro h a b
    exact h.2 (ix4 I a K b) (Finset.mem_filter.2 ⟨Finset.mem_univ _, hd I a K b⟩)
  · intro h
    refine ⟨bot_le, fun i hi => ?_⟩
    obtain ⟨J, a, L, b, rfl⟩ := ex4 i
    have hi := (Finset.mem_filter.1 hi).2
    rw [hd] at hi
    have h0 : J = I := congrFun hi 0
    have h1 : L = K := congrFun hi 1
    subst h0 h1
    exact h a b

end Cert.Maths
-- ==== Proof.Maths.RefRegion.lean ====
module

public import proofs.«01_k».proof.Proof.Maths.RefRot
public import Idealize.ShloMosaic.Lib.Pipeline.ValueKit.Acc
public import Idealize.ShloMosaic.Lib.Pipeline.ValueKit.Geometry
public import proofs.«01_k».proof.Proof.HandKernelIdeal.Run

/-! What the reference's kernel region leaves, and its operands: the block scales and the scale of the whole array. -/

@[expose] public section

set_option maxRecDepth 16384

noncomputable section

namespace Cert.Maths.Ref

open Cert.ReferenceIdeal Cert.ReferenceIdeal.Gen Cert.ReferenceIdeal.Value
open Idealize.ShloMosaic Idealize.ShloMosaic.TcCoe Idealize.ShloMosaic.StableHlo Idealize.SL.Sem

/-- The reference's scale of the whole array. -/
theorem refS_apply (w : FVec Ideal S11520x2880 .bf16) (g : FVec Ideal S16 .f32) (i : S1.Idx) :
    shapeCast S1 (Host.divf (Host.reduce (FloatOps.maximumf (F := Ideal) (φ := .f32)) (Host.absf (refW w g)) (constant (F := Ideal) S_ .f32 0xFF800000#32) reducesTo_S11520x2880_S_d0_1 h_S_) (constant (F := Ideal) S_ .f32 0x45280000#32)) shapeCasts_S_S1 i
      = sT (rotAt (at2 w) (fun i => g (ix1 i))) := by
  have e : ∀ q : FVec Ideal S_ .f32, (∀ j, q j = allMax (rotAt (at2 w) (fun i => g (ix1 i)))) →
      shapeCast S1 (Host.divf q (constant (F := Ideal) S_ .f32 0x45280000#32)) shapeCasts_S_S1 i = sT (rotAt (at2 w) (fun i => g (ix1 i))) := by
    intro q hq
    exact congrArg (fun z => Ideal.div z (Ideal.ofBits .f32 0x45280000#32)) (hq _)
  refine e _ fun j => eq_of_forall_ge_iff fun z => ?_
  rw [all_le, allMax_le]
  constructor
  · intro h n k
    have := h (ix2 n k)
    rwa [refW_apply] at this
  · intro h i
    obtain ⟨n, k, rfl⟩ := ex2 i
    rw [refW_apply]
    exact h n k

/-- The reference's block maxima. -/
theorem refM_apply (w : FVec Ideal S11520x2880 .bf16) (g : FVec Ideal S16 .f32) (I : Fin 720) (K : Fin 180) :
    Host.reduce (FloatOps.maximumf (F := Ideal) (φ := .f32)) (Host.absf (refB w g)) (constant (F := Ideal) S_ .f32 0xFF800000#32) reducesTo_S720x16x180x16_S720x180_d1_3 h_S_ (ix2 I K)
      = blockMax (rotAt (at2 w) (fun i => g (ix1 i))) I.val K.val := by
  refine eq_of_forall_ge_iff fun z => ?_
  rw [block_le, blockMax_le]
  refine forall_congr' fun a => forall_congr' fun b => ?_
  rw [refB_apply]

variable (m : (ℓ : Loc nD τ sig) → Buf (Elt Ideal) ℓ) (c : Dev nD)

/-- The reference's weights and signs as launched. -/
def rW : FVec Ideal S11520x2880 .bf16 := m ((c.tc : Thread nD τ).loc main_arg1)
def rG : FVec Ideal S16 .f32 := m ((c.tc : Thread nD τ).loc main_arg2)
def rX : FVec Ideal S2x128x2880 .bf16 := m ((c.tc : Thread nD τ).loc main_arg0)

/-- The rotated weights of the reference. -/
def RR : ℕ → ℕ → EReal := rotAt (at2 (rW m c)) (fun i => rG m c (ix1 i))

theorem exit_T : exitV m c (Proc.devRef .tc main_v19) = refT (rG m c) := exit_main_v19 m c

theorem exit_B : exitV m c (Proc.devRef .tc main_v28) = refB (rW m c) (rG m c) := exit_main_v28 m c

theorem exit_S : exitV m c (Proc.devRef .tc main_v27) = shapeCast S1 (Host.divf (Host.reduce (FloatOps.maximumf (F := Ideal) (φ := .f32)) (Host.absf (refW (rW m c) (rG m c))) (constant (F := Ideal) S_ .f32 0xFF800000#32) reducesTo_S11520x2880_S_d0_1 h_S_) (constant (F := Ideal) S_ .f32 0x45280000#32)) shapeCasts_S_S1 := exit_main_v27 m c

theorem exit_S_apply (i : S1.Idx) : (exitV m c (Proc.devRef .tc main_v27) : FVec Ideal S1 .f32) i = sT (RR m c) := by
  rw [exit_S]
  exact refS_apply _ _ i

/-- The scale of the whole array at the region's entry. -/
theorem in_S : Gen.V0 m c (Proc.devRef .tc main_v27) = exitV m c (Proc.devRef .tc main_v27) :=
  (((Pipeline.withArrays_arr spec0 Gen.launch0.win.arr_inj c (Gen.V0 m c) _ 1).trans (((Gen.dats m 0 c).arrAt_in 1 rfl _).trans (Gen.A_eq m c 1)))).symm

set_option maxHeartbeats 2000000 in
theorem in_M : Gen.V0 m c (Proc.devRef .tc main_v30) = Host.reduce (FloatOps.maximumf (F := Ideal) (φ := .f32)) (Host.absf (refB (rW m c) (rG m c))) (constant (F := Ideal) S_ .f32 0xFF800000#32) reducesTo_S720x16x180x16_S720x180_d1_3 h_S_ := by
  simp only [Gen.V0, Gen.hostOps0, List.flatten_cons, List.flatten_nil, List.append_nil, List.cons_append, List.nil_append]
  after_results_simp <;> rfl

theorem one_point : ∀ t : Fin cfg0.N, t = ⟨0, by decide +kernel⟩ := by decide +kernel

theorem ix0_0' : ∀ t : Fin cfg0.N, win0_0.index t = ![0, 0] := by decide +kernel
theorem ix0_1' : ∀ t : Fin cfg0.N, win0_1.index t = ![0] := by decide +kernel

theorem read_0 (t : Fin cfg0.N) (z : Vec Ideal S720x180 .f32) : (((cfg0.win 0).blk t).view.read (Elt Ideal) z : Vec Ideal S720x180 .f32) = z := by
  funext y
  show z ((((cfg0.win 0).blk t).view.emb y)) = z y
  congr 1
  blk_ext [ix0_0', ix0_1']

theorem read_1 (t : Fin cfg0.N) (z : Vec Ideal S1 .f32) : (((cfg0.win 1).blk t).view.read (Elt Ideal) z : Vec Ideal S1 .f32) = z := by
  funext y
  show z ((((cfg0.win 1).blk t).view.emb y)) = z y
  congr 1
  blk_ext [ix0_0', ix0_1']

theorem iblk0_0 (t : Fin cfg0.N) : (iblk m c 0 t : Vec Ideal S720x180 .f32) = V m c main_v30 := read_0 t (V m c main_v30)

theorem iblk0_1 (t : Fin cfg0.N) : (iblk m c 1 t : Vec Ideal S1 .f32) = V m c main_v27 := read_1 t (V m c main_v27)

theorem pay_apply (x : FVec Ideal S720x180 .f32) (s : EReal) (I : Fin 720) (K : Fin 180) :
    k0_pay1 (F := Ideal) x s (ix2 I K) = min (Ideal.div (x (ix2 I K)) (s * Ideal.ofBits .f32 0x40C00000#32)) (Ideal.ofBits .f32 0x43E00000#32) := by
  pointwise [k0_pay1]

theorem at_first (x : Vec Ideal S1 .f32) (h : 0 < S1.numel) : x (Shape.Idx.first h) = x (ix1 (0 : Fin 1)) :=
  congrArg x (funext fun a => match a with | ⟨0, _⟩ => Subsingleton.elim (α := Fin 1) _ _)

theorem aft2 (t : Fin cfg0.N) (x0 : Vec Ideal S720x180 .f32) (x1 : Vec Ideal S1 .f32) (h0 : iblk m c 0 t = x0) (h1 : iblk m c 1 t = x1) :
    (dats m 0 c).after 2 t = k0_pay1 (F := Ideal) x0 (x1 (ix1 (0 : Fin 1))) := by
  rw [after0_2]
  unfold outsAt0
  rw [h0, h1]
  dsimp only
  clear h0 h1
  frame_out
  exact congr (congrArg (k0_pay1 (F := Ideal)) (Memref.IsWhole.read_unread _ x0)) ((congrFun (Memref.IsWhole.read_unread _ x1) _).trans (at_first x1 _))

theorem aft3 (t : Fin cfg0.N) (x0 : Vec Ideal S720x180 .f32) (x1 : Vec Ideal S1 .f32) (h0 : iblk m c 0 t = x0) (h1 : iblk m c 1 t = x1) :
    (dats m 0 c).after 3 t = k0_pay1 (F := Ideal) x0 (x1 (ix1 (0 : Fin 1))) := by
  rw [after0_3]
  unfold outsAt0
  rw [h0, h1]
  dsimp only
  clear h0 h1
  frame_out
  exact congr (congrArg (k0_pay1 (F := Ideal)) (Memref.IsWhole.read_unread _ x0)) ((congrFun (Memref.IsWhole.read_unread _ x1) _).trans (at_first x1 _))

theorem aft4 (t : Fin cfg0.N) (x0 : Vec Ideal S720x180 .f32) (x1 : Vec Ideal S1 .f32) (h0 : iblk m c 0 t = x0) (h1 : iblk m c 1 t = x1) :
    (dats m 0 c).after 4 t = k0_pay1 (F := Ideal) x0 (x1 (ix1 (0 : Fin 1))) := by
  rw [after0_4]
  unfold outsAt0
  rw [h0, h1]
  dsimp only
  clear h0 h1
  frame_out
  exact congr (congrArg (k0_pay1 (F := Ideal)) (Memref.IsWhole.read_unread _ x0)) ((congrFun (Memref.IsWhole.read_unread _ x1) _).trans (at_first x1 _))

/-- The block scales, from the region's operands. -/
theorem pay_sB (I : Fin 720) (K : Fin 180) : k0_pay1 (F := Ideal) (V m c main_v30) ((V m c main_v27 : Vec Ideal S1 .f32) (ix1 (0 : Fin 1))) (ix2 I K) = sB (RR m c) I.val K.val := by
  have hM : (V m c main_v30 : Vec Ideal S720x180 .f32) (ix2 I K) = blockMax (RR m c) I.val K.val := (congrFun (in_M m c) (ix2 I K)).trans (refM_apply _ _ I K)
  have hS : (V m c main_v27 : Vec Ideal S1 .f32) (ix1 (0 : Fin 1)) = sT (RR m c) := (congrFun (in_S m c) _).trans (exit_S_apply m c _)
  rw [pay_apply, hM, hS]
  rfl

theorem reg_0 (I : Fin 720) (K : Fin 180) : (reg_main_v31_0 m c : Vec Ideal S720x180 .fp8e4m3) (ix2 I K) = sB (RR m c) I.val K.val := by
  refine ((dats m 0 c).arrAt_emb_eq_after_last 2 (⟨0, by decide +kernel⟩ : Fin cfg0.N) (by decide +kernel) (ix2 I K)).trans ?_
  refine (congrFun (aft2 m c (⟨0, by decide +kernel⟩ : Fin cfg0.N) _ _ (iblk0_0 m c _) (iblk0_1 m c _)) (ix2 I K)).trans ?_
  exact pay_sB m c I K

theorem reg_1 (I : Fin 720) (K : Fin 180) : (reg_main_v31_1 m c : Vec Ideal S720x180 .f32) (ix2 I K) = sB (RR m c) I.val K.val := by
  refine ((dats m 0 c).arrAt_emb_eq_after_last 3 (⟨0, by decide +kernel⟩ : Fin cfg0.N) (by decide +kernel) (ix2 I K)).trans ?_
  refine (congrFun (aft3 m c (⟨0, by decide +kernel⟩ : Fin cfg0.N) _ _ (iblk0_0 m c _) (iblk0_1 m c _)) (ix2 I K)).trans ?_
  exact pay_sB m c I K

theorem reg_2 (I : Fin 720) (K : Fin 180) : (reg_main_v31_2 m c : Vec Ideal S720x180 .bf16) (ix2 I K) = sB (RR m c) I.val K.val := by
  refine ((dats m 0 c).arrAt_emb_eq_after_last 4 (⟨0, by decide +kernel⟩ : Fin cfg0.N) (by decide +kernel) (ix2 I K)).trans ?_
  refine (congrFun (aft4 m c (⟨0, by decide +kernel⟩ : Fin cfg0.N) _ _ (iblk0_0 m c _) (iblk0_1 m c _)) (ix2 I K)).trans ?_
  exact pay_sB m c I K

end Cert.Maths.Ref
-- ==== Proof.Maths.RefQuant.lean ====
module

public import proofs.«01_k».proof.Proof.Maths.RefRegion
public import proofs.«01_k».proof.Proof.Maths.Pieces2

/-! The reference's quantiser at an index: the scaled weights, their four-bit values and their codes. -/

@[expose] public section

set_option maxRecDepth 16384

noncomputable section

namespace Cert.Maths

open Cert.ReferenceIdeal Cert.ReferenceIdeal.Gen Cert.ReferenceIdeal.Read
open Idealize.ShloMosaic Idealize.ShloMosaic.TcCoe Idealize.ShloMosaic.StableHlo Idealize.SL.Sem

variable (r1 : FVec Ideal S720x180 .f32) (r2 : FVec Ideal S720x180 .bf16) (e0 : FVec Ideal S1 .f32) (e1 : FVec Ideal S720x16x180x16 .f32)

/-- The magnitude's nearest four-bit value. -/
theorem v60_apply (i : S720x16x180x16.Idx) : val_main_v60 (F := Ideal) r1 e0 e1 i = refA (max (val_main_v42 (F := Ideal) r1 e0 e1 i) (-(val_main_v42 (F := Ideal) r1 e0 e1 i))) := by
  unfold val_main_v60 val_main_v59 val_main_v58 val_main_v57 val_main_cst_15 val_main_v56 val_main_v55 val_main_v54 val_main_cst_14 val_main_v53 val_main_v52 val_main_v51 val_main_cst_13 val_main_v50 val_main_v49 val_main_cst_12 val_main_v48 val_main_v47 val_main_v46 val_main_cst_11 val_main_v45 val_main_v44 val_main_cst_10 val_main_v43
  generalize val_main_v42 (F := Ideal) r1 e0 e1 = v
  rfl

/-- The code of a scaled weight. -/
theorem v81_apply (i : S720x16x180x16.Idx) : val_main_v81 (F := Ideal) r1 e0 e1 i = refC (val_main_v42 (F := Ideal) r1 e0 e1 i) := by
  have e : val_main_v81 (F := Ideal) r1 e0 e1 i = IntOp.ori (IntOp.shli .host ((Ideal.cmp .olt (val_main_v42 (F := Ideal) r1 e0 e1 i) (Ideal.ofBits .f32 0x00000000#32)).setWidth 32) 3#32) (refI (val_main_v60 (F := Ideal) r1 e0 e1 i)) := by
    unfold val_main_v81 val_main_v80 val_main_v79 val_main_c_23 val_main_v78 val_main_v77 val_main_v76 val_main_cst_22 val_main_v75 val_main_v74 val_main_v73 val_main_v72 val_main_v71 val_main_cst_21 val_main_v70 val_main_v69 val_main_cst_20 val_main_v68 val_main_v67 val_main_cst_19 val_main_v66 val_main_v65 val_main_cst_18 val_main_v64 val_main_v63 val_main_cst_17 val_main_v62 val_main_v61 val_main_cst_16
    generalize val_main_v42 (F := Ideal) r1 e0 e1 = v
    generalize val_main_v60 (F := Ideal) r1 e0 e1 = q
    rfl
  rw [e, v60_apply]
  rfl

/-- The signed four-bit value of a scaled weight. -/
theorem v97_apply (i : S720x16x180x16.Idx) : val_main_v97 (F := Ideal) r1 e0 e1 i = refQ (val_main_v42 (F := Ideal) r1 e0 e1 i) := by
  have e : val_main_v97 (F := Ideal) r1 e0 e1 i = Scalar.select (Ideal.cmp .olt (val_main_v42 (F := Ideal) r1 e0 e1 i) (Ideal.ofBits .f32 0x00000000#32)) (-(val_main_v60 (F := Ideal) r1 e0 e1 i)) (val_main_v60 (F := Ideal) r1 e0 e1 i) := by
    unfold val_main_v97 val_main_v96 val_main_v95 val_main_v94 val_main_cst_26
    generalize val_main_v42 (F := Ideal) r1 e0 e1 = v
    generalize val_main_v60 (F := Ideal) r1 e0 e1 = q
    rfl
  rw [e, v60_apply]
  rfl

variable {r1 r2 e0 e1} {R : ℕ → ℕ → EReal}

theorem b_m6' : Ideal.ofBits .f32 0xC0C00000#32 = ((-6 : ℝ) : EReal) := b_m6

theorem v32_eq (h0 : ∀ i, e0 i = sT R) : val_main_v32 (F := Ideal) e0 = fun _ => sT R := by
  unfold val_main_v32
  exact funext fun i => h0 _

/-- The scaled weights, clipped. -/
theorem v42_apply (h1 : ∀ (I : Fin 720) (K : Fin 180), r1 (ix2 I K) = sB R I.val K.val) (h0 : ∀ i, e0 i = sT R)
    (hB : ∀ (I : Fin 720) (a : Fin 16) (K : Fin 180) (b : Fin 16), e1 (ix4 I a K b) = R (16 * I.val + a.val) (16 * K.val + b.val))
    (I : Fin 720) (a : Fin 16) (K : Fin 180) (b : Fin 16) :
    val_main_v42 (F := Ideal) r1 e0 e1 (ix4 I a K b) = clip (R (16 * I.val + a.val) (16 * K.val + b.val) * iV R I.val K.val) := by
  have e : val_main_v42 (F := Ideal) r1 e0 e1 (ix4 I a K b) = min (Ideal.ofBits .f32 0x40C00000#32) (max (Ideal.ofBits .f32 0xC0C00000#32)
      (Scalar.select (Ideal.cmp .ogt (r1 (ix2 I K) * sT R) (Ideal.ofBits .f32 0x00000000#32))
        (Ideal.div (e1 (ix4 I a K b)) (Scalar.select (Ideal.cmp .ogt (r1 (ix2 I K) * sT R) (Ideal.ofBits .f32 0x00000000#32)) (r1 (ix2 I K) * sT R) (Ideal.ofBits .f32 0x3F800000#32)))
        (Ideal.ofBits .f32 0x00000000#32))) := by
    unfold val_main_v42 val_main_call2_v4 val_main_call2_v3 val_main_call2_v2 val_main_call2_v1 val_main_call2_v0 val_main_cst_9 val_main_cst_8 val_main_v41 val_main_call1_v2 val_main_call1_v1 val_main_call1_v0 val_main_cst_7 val_main_v40 val_main_v39 val_main_v38 val_main_call0_v1 val_main_call0_v0 val_main_cst_6 val_main_v37 val_main_v36 val_main_cst_5 val_main_v35 val_main_v34 val_main_v33
    rw [v32_eq h0]
    generalize sT R = s
    pointwise
    have c1 : (id (constant S_ FTy.f32 1065353216#32) : FVec Ideal S_ .f32) ix0 = (1 : EReal) := b_1.trans EReal.coe_one
    have c0 : (id (constant S_ FTy.f32 0#32) : FVec Ideal S_ .f32) ix0 = (0 : EReal) := b_0.trans EReal.coe_zero
    rw [c1, c0]
    rfl
  rw [e, cmp_ogt, select_ofBool, select_ofBool, b_0, b_1, b_6, b_m6', h1, hB, EReal.coe_zero, EReal.coe_one]
  unfold clip iV
  by_cases hd : 0 < sB R I.val K.val * sT R
  · rw [if_pos hd, if_pos hd, if_pos hd]
    have hn : sB R I.val K.val * sT R ≠ 0 := ne_of_gt hd
    unfold Ideal.div
    rw [if_neg hn, if_neg hn, one_mul]
  · rw [if_neg hd, if_neg hd, mul_zero]

end Cert.Maths
-- ==== Proof.Maths.RefRead.lean ====
module

public import proofs.«01_k».proof.Proof.Maths.RefQuant

/-! The reference's packed codes at an index: two neighbouring codes in a byte, along rows and along columns. -/

@[expose] public section

set_option maxRecDepth 16384

noncomputable section

namespace Cert.Maths

open Cert.ReferenceIdeal Cert.ReferenceIdeal.Gen Cert.ReferenceIdeal.Read
open Idealize.ShloMosaic Idealize.ShloMosaic.TcCoe Idealize.ShloMosaic.StableHlo Idealize.SL.Sem

/-- Blocks joined into a matrix. -/
theorem cast16_apply {α : Type} (x : S720x16x180x16.Idx → α) (n : Fin 11520) (k : Fin 2880) :
    shapeCast S11520x2880 x shapeCasts_S720x16x180x16_S11520x2880 (ix2 n k) = x (ix4 ⟨n.val / 16, by omega⟩ ⟨n.val % 16, by omega⟩ ⟨k.val / 16, by omega⟩ ⟨k.val % 16, by omega⟩) := by
  pointwise

/-- A matrix of every other column cut into blocks. -/
theorem cut8_apply {α : Type} (x : S11520x1440.Idx → α) (I : Fin 720) (a : Fin 16) (K : Fin 180) (b : Fin 8) :
    shapeCast S720x16x180x8 x shapeCasts_S11520x1440_S720x16x180x8 (ix4 I a K b) = x (ix2 ⟨I.val * 16 + a.val, by omega⟩ ⟨K.val * 8 + b.val, by omega⟩) := by
  pointwise

/-- And joined again. -/
theorem cast8_apply {α : Type} (x : S720x16x180x8.Idx → α) (n : Fin 11520) (k : Fin 1440) :
    shapeCast S11520x1440 x shapeCasts_S720x16x180x8_S11520x1440 (ix2 n k) = x (ix4 ⟨n.val / 16, by omega⟩ ⟨n.val % 16, by omega⟩ ⟨k.val / 8, by omega⟩ ⟨k.val % 8, by omega⟩) := by
  pointwise

theorem evenCol_apply {α : Type} (x : S11520x2880.Idx → α) (n : Fin 11520) (k : Fin 1440) :
    Host.slice S11520x1440 ![0, 0] ![1, 2] x slicesBy_S11520x2880_S11520x1440_0s1_0s2 (ix2 n k) = x (ix2 n ⟨2 * k.val, by omega⟩) :=
  congrArg x (funext fun a => match a with
    | ⟨0, _⟩ => Fin.ext (by show 0 + 1 * n.val = n.val; omega)
    | ⟨1, _⟩ => Fin.ext (by show 0 + 2 * k.val = 2 * k.val; omega))

theorem oddCol_apply {α : Type} (x : S11520x2880.Idx → α) (n : Fin 11520) (k : Fin 1440) :
    Host.slice S11520x1440 ![0, 1] ![1, 2] x slicesBy_S11520x2880_S11520x1440_0s1_1s2 (ix2 n k) = x (ix2 n ⟨2 * k.val + 1, by omega⟩) :=
  congrArg x (funext fun a => match a with
    | ⟨0, _⟩ => Fin.ext (by show 0 + 1 * n.val = n.val; omega)
    | ⟨1, _⟩ => Fin.ext (by show 1 + 2 * k.val = 2 * k.val + 1; omega))

theorem evenRow_apply {α : Type} (x : S11520x2880.Idx → α) (n : Fin 5760) (k : Fin 2880) :
    Host.slice S5760x2880 ![0, 0] ![2, 1] x slicesBy_S11520x2880_S5760x2880_0s2_0s1 (ix2 n k) = x (ix2 ⟨2 * n.val, by omega⟩ k) :=
  congrArg x (funext fun a => match a with
    | ⟨0, _⟩ => Fin.ext (by show 0 + 2 * n.val = 2 * n.val; omega)
    | ⟨1, _⟩ => Fin.ext (by show 0 + 1 * k.val = k.val; omega))

theorem oddRow_apply {α : Type} (x : S11520x2880.Idx → α) (n : Fin 5760) (k : Fin 2880) :
    Host.slice S5760x2880 ![1, 0] ![2, 1] x slicesBy_S11520x2880_S5760x2880_1s2_0s1 (ix2 n k) = x (ix2 ⟨2 * n.val + 1, by omega⟩ k) :=
  congrArg x (funext fun a => match a with
    | ⟨0, _⟩ => Fin.ext (by show 1 + 2 * n.val = 2 * n.val + 1; omega)
    | ⟨1, _⟩ => Fin.ext (by show 0 + 1 * k.val = k.val; omega))

theorem evenLane_apply {α : Type} (x : S2x128x2880.Idx → α) (b : Fin 2) (s : Fin 128) (k : Fin 1440) :
    Host.slice S2x128x1440 ![0, 0, 0] ![1, 1, 2] x slicesBy_S2x128x2880_S2x128x1440_0s1_0s1_0s2 (ix3 b s k) = x (ix3 b s ⟨2 * k.val, by omega⟩) :=
  congrArg x (funext fun a => match a with
    | ⟨0, _⟩ => Fin.ext (by show 0 + 1 * b.val = b.val; omega)
    | ⟨1, _⟩ => Fin.ext (by show 0 + 1 * s.val = s.val; omega)
    | ⟨2, _⟩ => Fin.ext (by show 0 + 2 * k.val = 2 * k.val; omega))

theorem oddLane_apply {α : Type} (x : S2x128x2880.Idx → α) (b : Fin 2) (s : Fin 128) (k : Fin 1440) :
    Host.slice S2x128x1440 ![0, 0, 1] ![1, 1, 2] x slicesBy_S2x128x2880_S2x128x1440_0s1_0s1_1s2 (ix3 b s k) = x (ix3 b s ⟨2 * k.val + 1, by omega⟩) :=
  congrArg x (funext fun a => match a with
    | ⟨0, _⟩ => Fin.ext (by show 0 + 1 * b.val = b.val; omega)
    | ⟨1, _⟩ => Fin.ext (by show 0 + 1 * s.val = s.val; omega)
    | ⟨2, _⟩ => Fin.ext (by show 1 + 2 * k.val = 2 * k.val + 1; omega))

/-- Two codes in a byte: joined as words and cut, or joined as bytes. -/
theorem pack_word (x y : BitVec 8) :
    (IntOp.ori (x.setWidth 32) (IntOp.shli .host (y.setWidth 32) 4#32)).setWidth 8 = pack x y := by
  have e : IntOp.shli .host (y.setWidth 32) 4#32 = (y.setWidth 32) <<< 4 := rfl
  rw [e]
  show ((x.setWidth 32) ||| ((y.setWidth 32) <<< 4)).setWidth 8 = x ||| (y <<< 4)
  apply BitVec.eq_of_getLsbD_eq
  intro i hi
  simp only [BitVec.getLsbD_setWidth, BitVec.getLsbD_or, BitVec.getLsbD_shiftLeft]
  have h32 : i < 32 := by omega
  have h4 : i - 4 < 32 := by omega
  simp [hi, h32, h4]

variable {r1 : FVec Ideal S720x180 .f32} {r2 : FVec Ideal S720x180 .bf16} {e0 : FVec Ideal S1 .f32} {e1 : FVec Ideal S720x16x180x16 .f32}
variable {A : ℕ → ℕ → EReal} {g : Fin 16 → EReal}

/-- What the reference's quantiser is given: the block scales, the tensor scale and the rotated weights. -/
structure Given (r1 : FVec Ideal S720x180 .f32) (e0 : FVec Ideal S1 .f32) (e1 : FVec Ideal S720x16x180x16 .f32) (A : ℕ → ℕ → EReal) (g : Fin 16 → EReal) : Prop where
  h1 : ∀ (I : Fin 720) (K : Fin 180), r1 (ix2 I K) = sB (rotAt A g) I.val K.val
  h0 : ∀ i, e0 i = sT (rotAt A g)
  hB : ∀ (I : Fin 720) (a : Fin 16) (K : Fin 180) (b : Fin 16), e1 (ix4 I a K b) = rotAt A g (16 * I.val + a.val) (16 * K.val + b.val)

theorem v42_nk (h : Given r1 e0 e1 A g) (n : Fin 11520) (k : Fin 2880) :
    val_main_v42 (F := Ideal) r1 e0 e1 (ix4 ⟨n.val / 16, by omega⟩ ⟨n.val % 16, by omega⟩ ⟨k.val / 16, by omega⟩ ⟨k.val % 16, by omega⟩)
      = qv A g (iV (rotAt A g)) n.val k.val := by
  rw [v42_apply h.h1 h.h0 h.hB]
  show clip (rotAt A g (16 * (n.val / 16) + n.val % 16) (16 * (k.val / 16) + k.val % 16) * _) = _
  rw [Nat.div_add_mod, Nat.div_add_mod]
  rfl

theorem v82_apply (h : Given r1 e0 e1 A g) (n : Fin 11520) (k : Fin 2880) :
    val_main_v82 (F := Ideal) r1 e0 e1 (ix2 n k) = (kerC (qv A g (iV (rotAt A g)) n.val k.val)).setWidth 32 := by
  unfold val_main_v82
  refine (cast16_apply _ n k).trans ?_
  rw [v81_apply, v42_nk h]
  exact ((ker_ref_C _).1).symm

theorem v98_apply (h : Given r1 e0 e1 A g) (n : Fin 11520) (k : Fin 2880) :
    val_main_v98 (F := Ideal) r1 e0 e1 (ix2 n k) = kerQ (qv A g (iV (rotAt A g)) n.val k.val) := by
  unfold val_main_v98
  refine (cast16_apply _ n k).trans ?_
  rw [v97_apply, v42_nk h]
  exact (ker_ref_Q _).symm

/-- The codes packed along a row. -/
theorem v127_apply (h : Given r1 e0 e1 A g) (n : Fin 11520) (j : Fin 1440) :
    val_main_v127 (F := Ideal) r1 e0 e1 (ix2 n j) = ckAt A g (iV (rotAt A g)) n.val j.val := by
  have e : val_main_v127 (F := Ideal) r1 e0 e1 (ix2 n j) = (IntOp.ori (val_main_v83 (F := Ideal) r1 e0 e1 (ix2 n j)) (IntOp.shli .host (val_main_v84 (F := Ideal) r1 e0 e1 (ix2 n j)) 4#32)).setWidth 8 := by
    unfold val_main_v127 val_main_v87 val_main_v86 val_main_v85
    generalize val_main_v83 (F := Ideal) r1 e0 e1 = u
    generalize val_main_v84 (F := Ideal) r1 e0 e1 = w
    rfl
  rw [e]
  have e3 : val_main_v83 (F := Ideal) r1 e0 e1 (ix2 n j) = _ := evenCol_apply (val_main_v82 (F := Ideal) r1 e0 e1) n j
  have e4 : val_main_v84 (F := Ideal) r1 e0 e1 (ix2 n j) = _ := oddCol_apply (val_main_v82 (F := Ideal) r1 e0 e1) n j
  rw [e3, e4, v82_apply h, v82_apply h]
  exact pack_word _ _

/-- The codes packed along a column, of the transposed weights. -/
theorem v128_apply (h : Given r1 e0 e1 A g) (k : Fin 2880) (j : Fin 5760) :
    val_main_v128 (F := Ideal) r1 e0 e1 (ix2 k j) = cnAt A g (iV (rotAt A g)) k.val j.val := by
  have e : val_main_v128 (F := Ideal) r1 e0 e1 (ix2 k j) = (IntOp.ori (val_main_v88 (F := Ideal) r1 e0 e1 (ix2 j k)) (IntOp.shli .host (val_main_v89 (F := Ideal) r1 e0 e1 (ix2 j k)) 4#32)).setWidth 8 := by
    unfold val_main_v128 val_main_v93 val_main_v92 val_main_v91 val_main_v90
    generalize val_main_v88 (F := Ideal) r1 e0 e1 = u
    generalize val_main_v89 (F := Ideal) r1 e0 e1 = w
    pointwise
    rfl
  rw [e]
  have e3 : val_main_v88 (F := Ideal) r1 e0 e1 (ix2 j k) = _ := evenRow_apply (val_main_v82 (F := Ideal) r1 e0 e1) j k
  have e4 : val_main_v89 (F := Ideal) r1 e0 e1 (ix2 j k) = _ := oddRow_apply (val_main_v82 (F := Ideal) r1 e0 e1) j k
  rw [e3, e4, v82_apply h, v82_apply h]
  exact pack_word _ _

end Cert.Maths
-- ==== Proof.Maths.Sums.lean ====
module

public import proofs.«01_k».proof.Proof.Maths.Pieces

/-! The product's sum over the lanes of the padded array, rewritten as the sum over the even and the odd columns. -/

@[expose] public section

set_option maxRecDepth 16384

noncomputable section

namespace Cert.Maths

theorem colOf_lt' : ∀ r : Fin 256, colOf r.val < 256 := by decide +kernel

/-- Within 256 lanes, the lanes `2j` and `2j+1` (first half and second half) carry between them every column once. -/
theorem sum_colOf (f : ℕ → EReal) : (∑ r : Fin 256, f (colOf r.val)) = ∑ r : Fin 256, f r.val := by
  have hs : Function.Surjective (fun r : Fin 256 => (⟨colOf r.val, colOf_lt' r⟩ : Fin 256)) := by decide +kernel
  exact Fintype.sum_bijective _ (Finite.surjective_iff_bijective.mp hs) _ _ (fun r => rfl)

theorem sum_blocks (f : ℕ → EReal) (n : ℕ) : ∀ q, (∑ C ∈ Finset.range (n * q), f C) = ∑ Q ∈ Finset.range q, ∑ r ∈ Finset.range n, f (n * Q + r)
  | 0 => by simp
  | q + 1 => by rw [Nat.mul_succ, Finset.sum_range_add, sum_blocks f n q, Finset.sum_range_succ]

/-- The sum over the lanes is the sum over the columns. -/
theorem sum_tcol (f : ℕ → EReal) : (∑ C : Fin 3072, f (tcol C.val)) = ∑ k ∈ Finset.range 3072, f k := by
  rw [Finset.sum_fin_eq_sum_range, Finset.sum_congr (g := fun C => f (tcol C)) rfl (fun C hC => by rw [dif_pos (Finset.mem_range.mp hC)])]
  rw [sum_blocks (fun C => f (tcol C)) 256 12, sum_blocks f 256 12]
  refine Finset.sum_congr rfl fun Q _ => ?_
  rw [← Fin.sum_univ_eq_sum_range (fun r => f (tcol (256 * Q + r))) 256, ← Fin.sum_univ_eq_sum_range (fun r => f (256 * Q + r)) 256, ← sum_colOf (fun r => f (256 * Q + r))]
  refine Finset.sum_congr rfl fun r _ => ?_
  have h1 : (256 * Q + r.val) / 256 = Q := by omega
  have h2 : (256 * Q + r.val) % 256 = r.val := by omega
  unfold tcol
  rw [h1, h2]

theorem sum_pairs (f : ℕ → EReal) : ∀ n, (∑ k ∈ Finset.range (2 * n), f k) = (∑ m ∈ Finset.range n, f (2 * m)) + ∑ m ∈ Finset.range n, f (2 * m + 1)
  | 0 => by simp
  | n + 1 => by
    rw [Nat.mul_succ, Finset.sum_range_succ, Finset.sum_range_succ, sum_pairs f n, Finset.sum_range_succ, Finset.sum_range_succ]
    abel

/-- The sum over the lanes of a function that is zero beyond column 2880: the even columns' sum plus the odd columns' sum. -/
theorem sum_lanes (f : ℕ → EReal) (h : ∀ k, 2880 ≤ k → f k = 0) :
    (∑ C : Fin 3072, f (tcol C.val)) = (∑ m : Fin 1440, f (2 * m.val)) + ∑ m : Fin 1440, f (2 * m.val + 1) := by
  rw [sum_tcol, show (3072 : ℕ) = 2880 + 192 from rfl, Finset.sum_range_add]
  rw [Finset.sum_eq_zero (s := Finset.range 192) (fun k _ => h _ (by omega)), add_zero, show (2880 : ℕ) = 2 * 1440 from rfl, sum_pairs]
  rw [Fin.sum_univ_eq_sum_range (fun m => f (2 * m)), Fin.sum_univ_eq_sum_range (fun m => f (2 * m + 1))]

end Cert.Maths
-- ==== Proof.Maths.Arrays0.lean ====
module

public import proofs.«01_k».proof.Proof.Maths.Scales
public import proofs.«01_k».proof.Proof.HandKernelIdeal.Run
public import Idealize.ShloMosaic.Lib.Pipeline.ValueKit.Geometry

/-! What the first region leaves: the block maxima of the rotated weights, and the rotated activations. -/

@[expose] public section

set_option maxRecDepth 16384

noncomputable section

namespace Cert.Maths

open Cert.KernelIdeal Cert.KernelIdeal.Gen Cert.KernelIdeal.Hand
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem ix0_2 : ∀ t : Fin cfg0.N, win0_2.index t = ![(grid0.coords t 0).val, 0] := by decide +kernel
theorem ix0_3 : ∀ t : Fin cfg0.N, win0_3.index t = ![(grid0.coords t 0).val, 0] := by decide +kernel
theorem ix0_1 : ∀ t : Fin cfg0.N, win0_1.index t = ![0, 0] := by decide +kernel
theorem ix0_0 : ∀ t : Fin cfg0.N, win0_0.index t = ![0] := by decide +kernel
theorem gc0 : ∀ t : Fin cfg0.N, (grid0.coords t 0).val = t.val := by decide +kernel

/-- The weights, the activations and the signs a region is entered with. -/
def wIn (c : Dev nD) : Vec Ideal S11520x2880 .bf16 := V c main_arg1
def xIn (c : Dev nD) : Vec Ideal S256x2880 .bf16 := V c main_v0
def gIn (c : Dev nD) : Fin 16 → EReal := fun i => (V c main_arg2 : Vec Ideal S16 .f32) (ix1 i)

theorem iblk0_2 (c : Dev nD) (t : Fin cfg0.N) (p : Fin 256) (k : Fin 2880) :
    (iblk0 V c 2 t : Vec Ideal S256x2880 .bf16) (ix2 p k) = at2 (wIn V c) (256 * t.val + p.val) k.val := by
  have ht : t.val < 45 := t.isLt
  rw [at2_in (wIn V c) (256 * t.val + p.val) k.val (by omega) k.isLt]
  show wIn V c ((((cfg0.win 2).blk t).view.emb (ix2 p k))) = _
  congr 1
  blk_ext [ix0_2, gc0]

theorem iblk0_1 (c : Dev nD) (t : Fin cfg0.N) : (iblk0 V c 1 t : Vec Ideal S256x2880 .bf16) = xIn V c := by
  funext y
  show xIn V c ((((cfg0.win 1).blk t).view.emb y)) = _
  congr 1
  blk_ext [ix0_1]

theorem sign_ld (x : Vec Ideal S16 .f32) (j : ℕ) (hj : j < 16) (inb : ∀ a, ![j] a + S1.size a ≤ S16.size a) (h : 0 < S1.numel) :
    View.ld x (Rect.unit (s := S16) ![j] S1.size inb) (Shape.Idx.first h) = x (ix1 (⟨j, hj⟩ : Fin 16)) :=
  congrArg x (funext fun a => match a with
    | ⟨0, _⟩ => Fin.ext (by
      show j + 1 * (Shape.Idx.first h 0).val = j
      have h1 : (Shape.Idx.first h 0).val < 1 := (Shape.Idx.first h 0).isLt
      omega))

theorem signs_eq (c : Dev nD) : signs (F := Ideal) (V c main_arg2 : Vec Ideal S16 .f32) = gIn V c := by
  have h : ∀ i, signs (F := Ideal) (V c main_arg2 : Vec Ideal S16 .f32) i = gIn V c i := by
    intro i
    match i with
    | ⟨0, _⟩ => exact sign_ld _ 0 (by decide) inb_S16_S1_0 _
    | ⟨1, _⟩ => exact sign_ld _ 1 (by decide) inb_S16_S1_1 _
    | ⟨2, _⟩ => exact sign_ld _ 2 (by decide) inb_S16_S1_2 _
    | ⟨3, _⟩ => exact sign_ld _ 3 (by decide) inb_S16_S1_3 _
    | ⟨4, _⟩ => exact sign_ld _ 4 (by decide) inb_S16_S1_4 _
    | ⟨5, _⟩ => exact sign_ld _ 5 (by decide) inb_S16_S1_5 _
    | ⟨6, _⟩ => exact sign_ld _ 6 (by decide) inb_S16_S1_6 _
    | ⟨7, _⟩ => exact sign_ld _ 7 (by decide) inb_S16_S1_7 _
    | ⟨8, _⟩ => exact sign_ld _ 8 (by decide) inb_S16_S1_8 _
    | ⟨9, _⟩ => exact sign_ld _ 9 (by decide) inb_S16_S1_9 _
    | ⟨10, _⟩ => exact sign_ld _ 10 (by decide) inb_S16_S1_10 _
    | ⟨11, _⟩ => exact sign_ld _ 11 (by decide) inb_S16_S1_11 _
    | ⟨12, _⟩ => exact sign_ld _ 12 (by decide) inb_S16_S1_12 _
    | ⟨13, _⟩ => exact sign_ld _ 13 (by decide) inb_S16_S1_13 _
    | ⟨14, _⟩ => exact sign_ld _ 14 (by decide) inb_S16_S1_14 _
    | ⟨15, _⟩ => exact sign_ld _ 15 (by decide) inb_S16_S1_15 _
    | ⟨n + 16, h⟩ => exact absurd h (by omega)
  exact funext h

theorem signs0 (c : Dev nD) (t : Fin cfg0.N) : signs (F := Ideal) (iblk0 V c 0 t) = gIn V c := by
  have e : (iblk0 V c 0 t : Vec Ideal S16 .f32) = V c main_arg2 := by
    funext y
    show (V c main_arg2 : Vec Ideal S16 .f32) ((((cfg0.win 0).blk t).view.emb y)) = _
    congr 1
    blk_ext [ix0_0]
  exact (congrArg (signs (F := Ideal)) e).trans (signs_eq V c)

/-- The weights of point `t`, rows of the whole array. -/
theorem rows0 (c : Dev nD) (t : Fin cfg0.N) : IsRows (iblk0 V c 2 t : Vec Ideal S256x2880 .bf16) (at2 (wIn V c)) (256 * t.val) :=
  ⟨fun p k => iblk0_2 V c t p k, fun n k hk => at2_out (wIn V c) n k hk⟩

theorem rot0_eq (c : Dev nD) : rot0 V c = rotTile (F := Ideal) (gIn V c) := congrArg (rotTile (F := Ideal)) (signs0 V c t0_0)

theorem amax_at (c : Dev nD) (t : Fin cfg0.N) (y : S16x1536.Idx) (hy : (y 1).val % 8 = 7) :
    View.canon (amaxPieces (rot0 V c) (iblk0 V c 2 t)) y = blockMax (rotAt (at2 (wIn V c)) (gIn V c)) (t.val * 16 + (y 0).val) ((y 1).val / 8) := by
  obtain ⟨q, l, rfl⟩ := ex2 y
  rw [rot0_eq]
  have h : View.canon (amaxPieces (rotTile (F := Ideal) (gIn V c)) (iblk0 V c 2 t)) (ix2 q l) = blockMax (rotAt (at2 (wIn V c)) (gIn V c)) (16 * t.val + q.val) (l.val / 8) :=
    amax_canon (rows0 V c t) q l hy
  have e : t.val * 16 + q.val = 16 * t.val + q.val := by omega
  show _ = blockMax _ (t.val * 16 + q.val) (l.val / 8)
  rw [h, e]

/-- The first region's first result: the block maxima. -/
theorem arr0_3 (c : Dev nD) : IsMax ((dat0 V c).arrAt 3 cfg0.N : Vec Ideal S720x1536 .f32) (rotAt (at2 (wIn V c)) (gIn V c)) := by
  refine ⟨fun I L => ?_, fun n k hk => ?_⟩
  · refine (dat0 V c).arrAt_forall_of_covers 3 (fun i v => (i 1).val % 8 = 7 → v = blockMax (rotAt (at2 (wIn V c)) (gIn V c)) (i 0).val ((i 1).val / 8)) (by decide +kernel) (fun t hf y => ?_) (ix2 I L)
    blk_simp [ix0_3, gc0]
    rw [after0_3]
    exact amax_at V c t y
  · exact rotAt_out (b := 180) _ (fun k hk => at2_out _ _ _ hk) k hk

theorem xrows0 (c : Dev nD) : IsRows (xIn V c) (at2 (xIn V c)) 0 :=
  ⟨fun p k => by rw [Nat.zero_add, at2_in _ _ _ p.isLt k.isLt], fun n k hk => at2_out _ _ _ hk⟩

/-- The first region's second result: the rotated activations, the columns of each tile reordered. -/
theorem arr0_4 (c : Dev nD) (p : Fin 256) (C : Fin 3072) :
    ((dat0 V c).arrAt 4 cfg0.N : Vec Ideal S256x3072 .bf16) (ix2 p C) = rotAt (at2 (xIn V c)) (gIn V c) p.val (tcol C.val) := by
  refine ((dat0 V c).arrAt_emb_eq_after_last 4 (⟨44, by decide +kernel⟩ : Fin cfg0.N) (by decide +kernel) (ix2 p C)).trans ?_
  refine (congrFun (after0_4 V c (⟨44, by decide +kernel⟩ : Fin cfg0.N)) (ix2 p C)).trans ?_
  have h : View.canon (xpPieces (rotTile (F := Ideal) (gIn V c)) (xIn V c)) (ix2 p C) = rotAt (at2 (xIn V c)) (gIn V c) (0 + p.val) (tcol C.val) := xp_canon (xrows0 V c) p C
  rw [Nat.zero_add] at h
  rw [← h, rot0_eq, iblk0_1]

end Cert.Maths
-- ==== Proof.Maths.Arrays1.lean ====
module

public import proofs.«01_k».proof.Proof.Maths.Arrays0

/-! What the second region leaves: the scales. -/

@[expose] public section

set_option maxRecDepth 16384

noncomputable section

namespace Cert.Maths

open Cert.KernelIdeal Cert.KernelIdeal.Gen Cert.KernelIdeal.Hand
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem ix1_0 : ∀ t : Fin cfg1.N, win1_0.index t = ![0, 0] := by decide +kernel

theorem iblk1_0 (c : Dev nD) (t : Fin cfg1.N) : (iblk1 V c 0 t : Vec Ideal S720x1536 .f32) = V c main_v1_0 := by
  funext y
  show (V c main_v1_0 : Vec Ideal S720x1536 .f32) ((((cfg1.win 0).blk t).view.emb y)) = _
  congr 1
  blk_ext [ix1_0]

variable {R : ℕ → ℕ → EReal}

theorem arr1_1 (c : Dev nD) (hx : IsMax (V c main_v1_0) R) (I : Fin 720) (L : Fin 1536) : ((dat1 V c).arrAt 1 cfg1.N : Vec Ideal S720x1536 .f32) (ix2 I L) = iV R I.val (L.val / 8) := by
  refine ((dat1 V c).arrAt_emb_eq_after_last 1 (⟨0, by decide +kernel⟩ : Fin cfg1.N) (by decide +kernel) (ix2 I L)).trans ?_
  refine (congrFun (after1_1 V c (⟨0, by decide +kernel⟩ : Fin cfg1.N)) (ix2 I L)).trans ?_
  refine (congrFun (congrArg (out1_1 (F := Ideal)) (iblk1_0 V c _)) _).trans ?_
  exact inv_canon hx I L

theorem arr1_2 (c : Dev nD) (hx : IsMax (V c main_v1_0) R) (I : Fin 720) (L : Fin 180) : ((dat1 V c).arrAt 2 cfg1.N : Vec Ideal S720x180 .fp8e4m3) (ix2 I L) = sB R I.val L.val := by
  refine ((dat1 V c).arrAt_emb_eq_after_last 2 (⟨0, by decide +kernel⟩ : Fin cfg1.N) (by decide +kernel) (ix2 I L)).trans ?_
  refine (congrFun (after1_2 V c (⟨0, by decide +kernel⟩ : Fin cfg1.N)) (ix2 I L)).trans ?_
  refine (congrFun (congrArg (out1_2 (F := Ideal)) (iblk1_0 V c _)) _).trans ?_
  exact sb_canon hx I L

theorem arr1_3 (c : Dev nD) (hx : IsMax (V c main_v1_0) R) (I : Fin 720) (L : Fin 1536) : ((dat1 V c).arrAt 3 cfg1.N : Vec Ideal S720x1536 .bf16) (ix2 I L) = sB R I.val (L.val / 8) := by
  refine ((dat1 V c).arrAt_emb_eq_after_last 3 (⟨0, by decide +kernel⟩ : Fin cfg1.N) (by decide +kernel) (ix2 I L)).trans ?_
  refine (congrFun (after1_3 V c (⟨0, by decide +kernel⟩ : Fin cfg1.N)) (ix2 I L)).trans ?_
  refine (congrFun (congrArg (out1_3 (F := Ideal)) (iblk1_0 V c _)) _).trans ?_
  exact s8_canon hx I L

theorem arr1_4 (c : Dev nD) (hx : IsMax (V c main_v1_0) R) (i : S1x1.Idx) : ((dat1 V c).arrAt 4 cfg1.N : Vec Ideal S1x1 .f32) i = sT R := by
  refine ((dat1 V c).arrAt_emb_eq_after_last 4 (⟨0, by decide +kernel⟩ : Fin cfg1.N) (by decide +kernel) i).trans ?_
  refine (congrFun (after1_4 V c (⟨0, by decide +kernel⟩ : Fin cfg1.N)) (i)).trans ?_
  refine (congrFun (congrArg (out1_4 (F := Ideal)) (iblk1_0 V c _)) _).trans ?_
  exact st_canon hx _

end Cert.Maths
-- ==== Proof.Maths.Arrays2.lean ====
module

public import proofs.«01_k».proof.Proof.Maths.Arrays1

/-! What the third region leaves: the product and the two packings. -/

@[expose] public section

set_option maxRecDepth 16384

noncomputable section

namespace Cert.Maths

open Cert.KernelIdeal Cert.KernelIdeal.Gen Cert.KernelIdeal.Hand
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem ix2_0 : ∀ t : Fin cfg2.N, win2_0.index t = ![0] := by decide +kernel
theorem ix2_1 : ∀ t : Fin cfg2.N, win2_1.index t = ![0] := by decide +kernel
theorem ix2_2 : ∀ t : Fin cfg2.N, win2_2.index t = ![0, 0] := by decide +kernel
theorem ix2_3 : ∀ t : Fin cfg2.N, win2_3.index t = ![(grid2.coords t 0).val, 0] := by decide +kernel
theorem ix2_4 : ∀ t : Fin cfg2.N, win2_4.index t = ![(grid2.coords t 0).val, 0] := by decide +kernel
theorem ix2_5 : ∀ t : Fin cfg2.N, win2_5.index t = ![(grid2.coords t 0).val, 0] := by decide +kernel
theorem ix2_6 : ∀ t : Fin cfg2.N, win2_6.index t = ![0, (grid2.coords t 0).val] := by decide +kernel
theorem ix2_7 : ∀ t : Fin cfg2.N, win2_7.index t = ![(grid2.coords t 0).val, 0] := by decide +kernel
theorem ix2_8 : ∀ t : Fin cfg2.N, win2_8.index t = ![0, (grid2.coords t 0).val] := by decide +kernel
theorem gc2 : ∀ t : Fin cfg2.N, (grid2.coords t 0).val = t.val := by decide +kernel

theorem iblk2_3 (c : Dev nD) (t : Fin cfg2.N) (p : Fin 256) (k : Fin 2880) :
    (iblk2 V c 3 t : Vec Ideal S256x2880 .bf16) (ix2 p k) = at2 (wIn V c) (256 * t.val + p.val) k.val := by
  have ht : t.val < 45 := t.isLt
  rw [at2_in (wIn V c) (256 * t.val + p.val) k.val (by omega) k.isLt]
  show wIn V c ((((cfg2.win 3).blk t).view.emb (ix2 p k))) = _
  congr 1
  blk_ext [ix2_3, gc2]

theorem rows2 (c : Dev nD) (t : Fin cfg2.N) : IsRows (iblk2 V c 3 t : Vec Ideal S256x2880 .bf16) (at2 (wIn V c)) (256 * t.val) :=
  ⟨fun p k => iblk2_3 V c t p k, fun n k hk => at2_out (wIn V c) n k hk⟩

theorem signs2 (c : Dev nD) (t : Fin cfg2.N) : signs (F := Ideal) (iblk2 V c 0 t) = gIn V c := by
  have e : (iblk2 V c 0 t : Vec Ideal S16 .f32) = V c main_arg2 := by
    funext y
    show (V c main_arg2 : Vec Ideal S16 .f32) ((((cfg2.win 0).blk t).view.emb y)) = _
    congr 1
    blk_ext [ix2_0]
  exact (congrArg (signs (F := Ideal)) e).trans (signs_eq V c)

theorem rot2_eq (c : Dev nD) : rot2 V c = rotTile (F := Ideal) (gIn V c) := congrArg (rotTile (F := Ideal)) (signs2 V c t0_2)

theorem iblk2_2 (c : Dev nD) (t : Fin cfg2.N) : (iblk2 V c 2 t : Vec Ideal S256x3072 .bf16) = V c main_v1_1 := by
  funext y
  show (V c main_v1_1 : Vec Ideal S256x3072 .bf16) ((((cfg2.win 2).blk t).view.emb y)) = _
  congr 1
  blk_ext [ix2_2]

theorem iblk2_1 (c : Dev nD) (t : Fin cfg2.N) : (iblk2 V c 1 t : Vec Ideal S1 .f32) = V c main_v3 := by
  funext y
  show (V c main_v3 : Vec Ideal S1 .f32) ((((cfg2.win 1).blk t).view.emb y)) = _
  congr 1
  blk_ext [ix2_1]

variable {iv sc xf : ℕ → ℕ → EReal} {st : EReal}

theorem lanes4 (c : Dev nD) (t : Fin cfg2.N) (h : ∀ (I : Fin 720) (L : Fin 1536), (V c main_v2_0 : Vec Ideal S720x1536 .f32) (ix2 I L) = iv I.val (L.val / 8)) :
    IsLanes (iblk2 V c 4 t : Vec Ideal S16x1536 .f32) id iv t.val := by
  intro q L
  have ht : t.val < 45 := t.isLt
  refine Eq.trans ?_ (h ⟨16 * t.val + q.val, by omega⟩ L)
  show (V c main_v2_0 : Vec Ideal S720x1536 .f32) ((((cfg2.win 4).blk t).view.emb (ix2 q L))) = _
  congr 1
  blk_ext [ix2_4, gc2]

theorem lanes5 (c : Dev nD) (t : Fin cfg2.N) (h : ∀ (I : Fin 720) (L : Fin 1536), (V c main_v2_2 : Vec Ideal S720x1536 .bf16) (ix2 I L) = sc I.val (L.val / 8)) :
    IsLanes (iblk2 V c 5 t : Vec Ideal S16x1536 .bf16) id sc t.val := by
  intro q L
  have ht : t.val < 45 := t.isLt
  refine Eq.trans ?_ (h ⟨16 * t.val + q.val, by omega⟩ L)
  show (V c main_v2_2 : Vec Ideal S720x1536 .bf16) ((((cfg2.win 5).blk t).view.emb (ix2 q L))) = _
  congr 1
  blk_ext [ix2_5, gc2]

/-! ## The packings -/

theorem ck_at (c : Dev nD) (t : Fin cfg2.N) (h : ∀ (I : Fin 720) (L : Fin 1536), (V c main_v2_0 : Vec Ideal S720x1536 .f32) (ix2 I L) = iv I.val (L.val / 8)) (y : S256x1440.Idx) :
    View.canon (ckPieces (rot2 V c) (iblk2 V c 3 t) (iblk2 V c 4 t)) y = ckAt (at2 (wIn V c)) (gIn V c) iv (t.val * 256 + (y 0).val) (y 1).val := by
  obtain ⟨q, l, rfl⟩ := ex2 y
  rw [rot2_eq]
  have h : View.canon (ckPieces (rotTile (F := Ideal) (gIn V c)) (iblk2 V c 3 t) (iblk2 V c 4 t)) (ix2 q l) = ckAt (at2 (wIn V c)) (gIn V c) iv (256 * t.val + q.val) l.val :=
    ck_canon (rows2 V c t) (lanes4 V c t h) q l
  rw [h, Nat.mul_comm]
  rfl

theorem arr2_7 (c : Dev nD) (h : ∀ (I : Fin 720) (L : Fin 1536), (V c main_v2_0 : Vec Ideal S720x1536 .f32) (ix2 I L) = iv I.val (L.val / 8)) (n : Fin 11520) (j : Fin 1440) :
    ((dat2 V c).arrAt 7 cfg2.N : S11520x1440.Idx → BitVec 8) (ix2 n j) = ckAt (at2 (wIn V c)) (gIn V c) iv n.val j.val := by
  refine (dat2 V c).arrAt_forall_of_covers 7 (fun i v => v = ckAt (at2 (wIn V c)) (gIn V c) iv (i 0).val (i 1).val) (by decide +kernel) (fun t hf y => ?_) (ix2 n j)
  blk_simp [ix2_7, gc2]
  rw [after2_7]
  exact ck_at V c t h y

theorem cn_at (c : Dev nD) (t : Fin cfg2.N) (h : ∀ (I : Fin 720) (L : Fin 1536), (V c main_v2_0 : Vec Ideal S720x1536 .f32) (ix2 I L) = iv I.val (L.val / 8)) (y : S2880x128.Idx) :
    View.canon (cnPieces (rot2 V c) (iblk2 V c 3 t) (iblk2 V c 4 t)) y = cnAt (at2 (wIn V c)) (gIn V c) iv (y 0).val (t.val * 128 + (y 1).val) := by
  obtain ⟨q, l, rfl⟩ := ex2 y
  rw [rot2_eq]
  have h : View.canon (cnPieces (rotTile (F := Ideal) (gIn V c)) (iblk2 V c 3 t) (iblk2 V c 4 t)) (ix2 q l) = cnAt (at2 (wIn V c)) (gIn V c) iv q.val (128 * t.val + l.val) :=
    cn_canon (rows2 V c t) (lanes4 V c t h) q l
  rw [h, Nat.mul_comm]
  rfl

theorem arr2_8 (c : Dev nD) (h : ∀ (I : Fin 720) (L : Fin 1536), (V c main_v2_0 : Vec Ideal S720x1536 .f32) (ix2 I L) = iv I.val (L.val / 8)) (k : Fin 2880) (j : Fin 5760) :
    ((dat2 V c).arrAt 8 cfg2.N : S2880x5760.Idx → BitVec 8) (ix2 k j) = cnAt (at2 (wIn V c)) (gIn V c) iv k.val j.val := by
  refine (dat2 V c).arrAt_forall_of_covers 8 (fun i v => v = cnAt (at2 (wIn V c)) (gIn V c) iv (i 0).val (i 1).val) (by decide +kernel) (fun t hf y => ?_) (ix2 k j)
  blk_simp [ix2_8, gc2]
  rw [after2_8]
  exact cn_at V c t h y

/-! ## The product -/

theorem ld_sq {e : EltTy} (x : Vec Ideal S256x3072 e) : View.ld x (Rect.unit (s := S256x3072) ![0, 0] S256x3072.size inb_S256x3072_S256x3072_0_0) = x :=
  funext fun i => congrArg x (funext fun a => match a with
    | ⟨0, _⟩ => Fin.ext (by show 0 + 1 * (i 0).val = (i 0).val; omega)
    | ⟨1, _⟩ => Fin.ext (by show 0 + 1 * (i 1).val = (i 1).val; omega))

theorem ld_one (x : Vec Ideal S1 .f32) (h : 0 < S1.numel) : View.ld x (Rect.unit (s := S1) ![0] S1.size inb_S1_S1_0) (Shape.Idx.first h) = x (ix1 (0 : Fin 1)) :=
  congrArg x (funext fun a => match a with | ⟨0, _⟩ => Subsingleton.elim (α := Fin 1) _ _)

theorem yOf_apply (x w : Vec Ideal S256x3072 .bf16) (st : EReal) (p c : Fin 256) :
    yOf (F := Ideal) x w st (ix2 p c) = (∑ C : Fin 3072, x (ix2 p C) * w (ix2 c C)) * st := by
  pointwise [yOf]

/-- An entry of the product: the rotated activations' row times the scaled weights' row, times the scale of the whole array. -/
def yAt (A : ℕ → ℕ → EReal) (g : Fin 16 → EReal) (iv sc xf : ℕ → ℕ → EReal) (st : EReal) (p n : ℕ) : EReal :=
  (∑ C : Fin 3072, xf p (tcol C.val) * (kerQ (qv A g iv n (tcol C.val)) * sc (n / 16) (tcol C.val / 16))) * st

theorem y_at (c : Dev nD) (t : Fin cfg2.N)
    (h1 : (V c main_v3 : Vec Ideal S1 .f32) (ix1 (0 : Fin 1)) = st)
    (h2 : ∀ (p : Fin 256) (C : Fin 3072), (V c main_v1_1 : Vec Ideal S256x3072 .bf16) (ix2 p C) = xf p.val (tcol C.val))
    (h4 : ∀ (I : Fin 720) (L : Fin 1536), (V c main_v2_0 : Vec Ideal S720x1536 .f32) (ix2 I L) = iv I.val (L.val / 8))
    (h5 : ∀ (I : Fin 720) (L : Fin 1536), (V c main_v2_2 : Vec Ideal S720x1536 .bf16) (ix2 I L) = sc I.val (L.val / 8)) (y : S256x256.Idx) :
    yTile (rot2 V c) (iblk2 V c 1 t) (iblk2 V c 2 t) (iblk2 V c 3 t) (iblk2 V c 4 t) (iblk2 V c 5 t) y = yAt (at2 (wIn V c)) (gIn V c) iv sc xf st (y 0).val (t.val * 256 + (y 1).val) := by
  obtain ⟨p, n, rfl⟩ := ex2 y
  have e1 : View.ld (iblk2 V c 1 t : Vec Ideal S1 .f32) (Rect.unit (s := S1) ![0] S1.size inb_S1_S1_0) (Shape.Idx.first (numel1_S1.symm ▸ Nat.one_pos)) = st := by
    rw [ld_one, iblk2_1, h1]
  have e : yTile (rot2 V c) (iblk2 V c 1 t) (iblk2 V c 2 t) (iblk2 V c 3 t) (iblk2 V c 4 t) (iblk2 V c 5 t) (ix2 p n)
      = yOf (F := Ideal) (V c main_v1_1) (wdOf (rotTile (F := Ideal) (gIn V c)) (iblk2 V c 3 t) (iblk2 V c 4 t) (iblk2 V c 5 t)) st (ix2 p n) := by
    unfold yTile
    rw [ld_sq, ld_sq, iblk2_2, rot2_eq]
    exact congrArg (fun z => yOf (F := Ideal) _ _ z (ix2 p n)) e1
  rw [e]
  refine (yOf_apply _ _ _ _ _).trans ?_
  unfold yAt
  refine congrArg (· * st) (Finset.sum_congr rfl fun C _ => ?_)
  have e2 : wdOf (F := Ideal) (rotTile (F := Ideal) (gIn V c)) (iblk2 V c 3 t) (iblk2 V c 4 t) (iblk2 V c 5 t) (ix2 n C) = _ :=
    wd_canon (rows2 V c t) (lanes4 V c t h4) (lanes5 V c t h5) n C
  rw [e2, h2, Nat.mul_comm 256 t.val]
  rfl

theorem arr2_6 (c : Dev nD)
    (h1 : (V c main_v3 : Vec Ideal S1 .f32) (ix1 (0 : Fin 1)) = st)
    (h2 : ∀ (p : Fin 256) (C : Fin 3072), (V c main_v1_1 : Vec Ideal S256x3072 .bf16) (ix2 p C) = xf p.val (tcol C.val))
    (h4 : ∀ (I : Fin 720) (L : Fin 1536), (V c main_v2_0 : Vec Ideal S720x1536 .f32) (ix2 I L) = iv I.val (L.val / 8))
    (h5 : ∀ (I : Fin 720) (L : Fin 1536), (V c main_v2_2 : Vec Ideal S720x1536 .bf16) (ix2 I L) = sc I.val (L.val / 8)) (p : Fin 256) (n : Fin 11520) :
    ((dat2 V c).arrAt 6 cfg2.N : Vec Ideal S256x11520 .bf16) (ix2 p n) = yAt (at2 (wIn V c)) (gIn V c) iv sc xf st p.val n.val := by
  refine (dat2 V c).arrAt_forall_of_covers 6 (fun i v => v = yAt (at2 (wIn V c)) (gIn V c) iv sc xf st (i 0).val (i 1).val) (by decide +kernel) (fun t hf y => ?_) (ix2 p n)
  blk_simp [ix2_6, gc2]
  rw [after2_6]
  exact y_at V c t h1 h2 h4 h5 y

end Cert.Maths
-- ==== Proof.Maths.RefOut.lean ====
module

public import proofs.«01_k».proof.Proof.Maths.RefRead
public import proofs.«01_k».proof.Proof.Maths.Sums
public import proofs.«01_k».proof.Proof.Maths.Arrays2

/-! The reference's product at an index. -/

@[expose] public section

set_option maxRecDepth 16384

noncomputable section

namespace Cert.Maths

open Cert.ReferenceIdeal Cert.ReferenceIdeal.Gen Cert.ReferenceIdeal.Read
open Idealize.ShloMosaic Idealize.ShloMosaic.TcCoe Idealize.ShloMosaic.StableHlo Idealize.SL.Sem

variable {r1 : FVec Ideal S720x180 .f32} {r2 : FVec Ideal S720x180 .bf16} {e0 : FVec Ideal S1 .f32} {e1 : FVec Ideal S720x16x180x16 .f32}
variable {A : ℕ → ℕ → EReal} {g : Fin 16 → EReal}

theorem dot_apply (u : FVec Ideal S2x128x1440 .bf16) (w : FVec Ideal S11520x1440 .bf16) (b : Fin 2) (s : Fin 128) (n : Fin 11520) :
    (Host.dotGeneral dot_S2x128x1440_S11520x1440_S2x128x11520_2_1_01_0_n_n none u w : FVec Ideal S2x128x11520 .f32) (ix3 b s n) = ∑ m : Fin 1440, u (ix3 b s m) * w (ix2 n m) := by
  pointwise

theorem v109_apply (I : Fin 720) (a : Fin 16) (K : Fin 180) (b : Fin 8) :
    val_main_v109 (F := Ideal) r1 r2 e0 e1 (ix4 I a K b) = val_main_v104 (F := Ideal) r1 e0 e1 (ix2 ⟨I.val * 16 + a.val, by omega⟩ ⟨K.val * 8 + b.val, by omega⟩) * r2 (ix2 I K) := by
  unfold val_main_v109 val_main_v108 val_main_v107 val_main_v106 val_main_v105
  generalize val_main_v104 (F := Ideal) r1 e0 e1 = u
  pointwise

theorem v116_apply (I : Fin 720) (a : Fin 16) (K : Fin 180) (b : Fin 8) :
    val_main_v116 (F := Ideal) r1 r2 e0 e1 (ix4 I a K b) = val_main_v111 (F := Ideal) r1 e0 e1 (ix2 ⟨I.val * 16 + a.val, by omega⟩ ⟨K.val * 8 + b.val, by omega⟩) * r2 (ix2 I K) := by
  unfold val_main_v116 val_main_v115 val_main_v114 val_main_v113 val_main_v112
  generalize val_main_v111 (F := Ideal) r1 e0 e1 = u
  pointwise

/-- The scaled values of the even columns. -/
theorem v110_apply (h : Given r1 e0 e1 A g) (h2 : ∀ (I : Fin 720) (K : Fin 180), r2 (ix2 I K) = sB (rotAt A g) I.val K.val) (n : Fin 11520) (m : Fin 1440) :
    val_main_v110 (F := Ideal) r1 r2 e0 e1 (ix2 n m) = kerQ (qv A g (iV (rotAt A g)) n.val (2 * m.val)) * sB (rotAt A g) (n.val / 16) (2 * m.val / 16) := by
  unfold val_main_v110
  refine (cast8_apply _ n m).trans ?_
  rw [v109_apply, h2]
  have e : val_main_v104 (F := Ideal) r1 e0 e1 (ix2 n m) = _ := evenCol_apply (val_main_v98 (F := Ideal) r1 e0 e1) n m
  have i1 : (⟨n.val / 16 * 16 + n.val % 16, by omega⟩ : Fin 11520) = n := Fin.ext (Nat.div_add_mod' _ _)
  have i2 : (⟨m.val / 8 * 8 + m.val % 8, by omega⟩ : Fin 1440) = m := Fin.ext (Nat.div_add_mod' _ _)
  show val_main_v104 (F := Ideal) r1 e0 e1 (ix2 ⟨n.val / 16 * 16 + n.val % 16, _⟩ ⟨m.val / 8 * 8 + m.val % 8, _⟩) * sB (rotAt A g) (n.val / 16) (m.val / 8) = _
  rw [i1, i2, e, v98_apply h, show 2 * m.val / 16 = m.val / 8 by omega]

/-- The scaled values of the odd columns. -/
theorem v117_apply (h : Given r1 e0 e1 A g) (h2 : ∀ (I : Fin 720) (K : Fin 180), r2 (ix2 I K) = sB (rotAt A g) I.val K.val) (n : Fin 11520) (m : Fin 1440) :
    val_main_v117 (F := Ideal) r1 r2 e0 e1 (ix2 n m) = kerQ (qv A g (iV (rotAt A g)) n.val (2 * m.val + 1)) * sB (rotAt A g) (n.val / 16) ((2 * m.val + 1) / 16) := by
  unfold val_main_v117
  refine (cast8_apply _ n m).trans ?_
  rw [v116_apply, h2]
  have e : val_main_v111 (F := Ideal) r1 e0 e1 (ix2 n m) = _ := oddCol_apply (val_main_v98 (F := Ideal) r1 e0 e1) n m
  have i1 : (⟨n.val / 16 * 16 + n.val % 16, by omega⟩ : Fin 11520) = n := Fin.ext (Nat.div_add_mod' _ _)
  have i2 : (⟨m.val / 8 * 8 + m.val % 8, by omega⟩ : Fin 1440) = m := Fin.ext (Nat.div_add_mod' _ _)
  show val_main_v111 (F := Ideal) r1 e0 e1 (ix2 ⟨n.val / 16 * 16 + n.val % 16, _⟩ ⟨m.val / 8 * 8 + m.val % 8, _⟩) * sB (rotAt A g) (n.val / 16) (m.val / 8) = _
  rw [i1, i2, e, v98_apply h, show (2 * m.val + 1) / 16 = m.val / 8 by omega]

variable {x : FVec Ideal S2x128x2880 .bf16} {e2 : FVec Ideal S16x16 .f32} {xf : ℕ → ℕ → EReal}

/-- The product with the rotated activations. -/
theorem v126_apply (h : Given r1 e0 e1 A g) (h2 : ∀ (I : Fin 720) (K : Fin 180), r2 (ix2 I K) = sB (rotAt A g) I.val K.val)
    (hx : ∀ (b : Fin 2) (s : Fin 128) (k : Fin 2880), val_main_v103 (F := Ideal) x e2 (ix3 b s k) = xf (128 * b.val + s.val) k.val)
    (hz : ∀ p k, 2880 ≤ k → xf p k = 0) (b : Fin 2) (s : Fin 128) (n : Fin 11520) :
    val_main_v126 (F := Ideal) x r1 r2 e0 e1 e2 (ix3 b s n) = yAt A g (iV (rotAt A g)) (sB (rotAt A g)) xf (sT (rotAt A g)) (128 * b.val + s.val) n.val := by
  have e : val_main_v126 (F := Ideal) x r1 r2 e0 e1 e2 (ix3 b s n) =
      ((∑ m : Fin 1440, val_main_v118 (F := Ideal) x e2 (ix3 b s m) * val_main_v110 (F := Ideal) r1 r2 e0 e1 (ix2 n m))
        + ∑ m : Fin 1440, val_main_v120 (F := Ideal) x e2 (ix3 b s m) * val_main_v117 (F := Ideal) r1 r2 e0 e1 (ix2 n m)) * sT (rotAt A g) := by
    have e3 : val_main_v123 (F := Ideal) e0 = fun _ => sT (rotAt A g) := by
      unfold val_main_v123
      exact funext fun i => h.h0 _
    unfold val_main_v126 val_main_v125 val_main_v124 val_main_v122 val_main_v121 val_main_v119
    rw [e3, ← dot_apply, ← dot_apply]
    generalize val_main_v118 (F := Ideal) x e2 = u
    generalize val_main_v120 (F := Ideal) x e2 = u'
    generalize val_main_v110 (F := Ideal) r1 r2 e0 e1 = w
    generalize val_main_v117 (F := Ideal) r1 r2 e0 e1 = w'
    rfl
  rw [e]
  unfold yAt
  congr 1
  have hs := sum_lanes (fun k => xf (128 * b.val + s.val) k * (kerQ (qv A g (iV (rotAt A g)) n.val k) * sB (rotAt A g) (n.val / 16) (k / 16)))
    (fun k hk => by show xf _ k * _ = 0; rw [hz _ k hk, zero_mul])
  refine Eq.trans ?_ hs.symm
  refine congrArg₂ (· + ·) (Finset.sum_congr rfl fun m _ => ?_) (Finset.sum_congr rfl fun m _ => ?_)
  · have ex : val_main_v118 (F := Ideal) x e2 (ix3 b s m) = _ := evenLane_apply (val_main_v103 (F := Ideal) x e2) b s m
    rw [ex, hx, v110_apply h h2]
  · have ex : val_main_v120 (F := Ideal) x e2 (ix3 b s m) = _ := oddLane_apply (val_main_v103 (F := Ideal) x e2) b s m
    rw [ex, hx, v117_apply h h2]

end Cert.Maths
-- ==== Proof.Maths.Out.lean ====
module

public import proofs.«01_k».proof.Proof.Maths.Arrays2
public import Idealize.ShloMosaic.Lib.StableHlo.Run
public import Idealize.ShloMosaic.Lib.Claim

/-! The kernel's five results at an index, as numbers of the arguments. -/

@[expose] public section

set_option maxRecDepth 16384

noncomputable section

namespace Cert.Maths

open Cert.KernelIdeal Cert.KernelIdeal.Gen Cert.KernelIdeal.Hand
open Idealize.ShloMosaic Idealize.ShloMosaic.TcCoe Idealize.SL.Sem Idealize.ShloMosaic.Tactic
open Idealize.ShloMosaic.Pipeline (Dat Cfg Window)

variable (m : (ℓ : Loc nD τ sig) → Buf (Elt Ideal) ℓ) (ρ : Dev nD → PrngReg) (c : Dev nD)

/-- The weights at a row and a column, zero outside. -/
def WA : ℕ → ℕ → EReal := at2 (m ((c : Thread nD τ).loc main_arg1) : Vec Ideal S11520x2880 .bf16)

/-- The activations' rows one after the other. -/
def xRows (x : Vec Ideal S2x128x2880 .bf16) : Vec Ideal S256x2880 .bf16 :=
  fun i => x (ix3 (⟨(i 0).val / 128, by have h : (i 0).val < 256 := (i 0).isLt; omega⟩ : Fin 2) (⟨(i 0).val % 128, Nat.mod_lt _ (by decide)⟩ : Fin 128) (i 1))

/-- The activations at a row and a column, zero outside. -/
def XA : ℕ → ℕ → EReal := at2 (xRows (m ((c : Thread nD τ).loc main_arg0)))

/-- The signs. -/
def GA : Fin 16 → EReal := fun i => (m ((c : Thread nD τ).loc main_arg2) : Vec Ideal S16 .f32) (ix1 i)

/-- The rotated weights. -/
def RW : ℕ → ℕ → EReal := rotAt (WA m c) (GA m c)

theorem wIn1 : wIn (V1 m ρ) c = (m ((c : Thread nD τ).loc main_arg1) : Vec Ideal S11520x2880 .bf16) := W1_args m ρ c main_arg1 (by decide)
theorem gIn1 : gIn (V1 m ρ) c = GA m c := funext fun i => congrFun (W1_args m ρ c main_arg2 (by decide)) (ix1 i)
theorem wIn4 : wIn (V4 m ρ) c = (m ((c : Thread nD τ).loc main_arg1) : Vec Ideal S11520x2880 .bf16) := W4_args m ρ c main_arg1 (by decide)
theorem gIn4 : gIn (V4 m ρ) c = GA m c := funext fun i => congrFun (W4_args m ρ c main_arg2 (by decide)) (ix1 i)

theorem v1_main_v0 : V1 m ρ c main_v0 = shapeCast S256x2880 (m ((c : Thread nD τ).loc main_arg0) : Vec Ideal S2x128x2880 .bf16) shapeCasts_S2x128x2880_S256x2880 := by
  unfold_abbrev_sides
  after_results
  rfl

theorem xRows_eq (w : Vec Ideal S2x128x2880 .bf16) (h : S2x128x2880.ShapeCasts S256x2880) : shapeCast S256x2880 w h = xRows w := by
  funext i
  obtain ⟨p, k, rfl⟩ := ex2 i
  unfold xRows
  pointwise

theorem xIn1 : xIn (V1 m ρ) c = xRows (m ((c : Thread nD τ).loc main_arg0)) :=
  (v1_main_v0 m ρ c).trans (xRows_eq _ _)

/-- The block maxima the second region is entered with. -/
theorem maxes : IsMax (V2 m ρ c main_v1_0 : Vec Ideal S720x1536 .f32) (RW m c) := by
  have e : V2 m ρ c main_v1_0 = (dat0 (V1 m ρ) c).arrAt 3 cfg0.N := W2_arr m ρ c 3
  rw [e]
  have h := arr0_3 (V1 m ρ) c
  rw [wIn1, gIn1] at h
  exact h

theorem out_main_v2_1 (I : Fin 720) (K : Fin 180) : (W6 m ρ c (Proc.devRef .tc main_v2_1) : Vec Ideal S720x180 .fp8e4m3) (ix2 I K) = sB (RW m c) I.val K.val := by
  have e : W6 m ρ c (Proc.devRef .tc main_v2_1) = (dat1 (V2 m ρ) c).arrAt 2 cfg1.N :=
    (W6_of m ρ c main_v2_1 (by decide)).trans ((W5_of m ρ c main_v2_1 (by decide)).trans ((W4_of m ρ c main_v2_1 (by decide)).trans (W3_arr m ρ c 2)))
  rw [e]
  exact arr1_2 (V2 m ρ) c (maxes m ρ c) I K

/-- What the second region leaves, at the third region's entry. -/
theorem v4_main_v2_0 (I : Fin 720) (L : Fin 1536) : (V4 m ρ c main_v2_0 : Vec Ideal S720x1536 .f32) (ix2 I L) = iV (RW m c) I.val (L.val / 8) := by
  have e : V4 m ρ c main_v2_0 = (dat1 (V2 m ρ) c).arrAt 1 cfg1.N := (W4_of m ρ c main_v2_0 (by decide)).trans (W3_arr m ρ c 1)
  rw [e]
  exact arr1_1 (V2 m ρ) c (maxes m ρ c) I L

theorem v4_main_v2_2 (I : Fin 720) (L : Fin 1536) : (V4 m ρ c main_v2_2 : Vec Ideal S720x1536 .bf16) (ix2 I L) = sB (RW m c) I.val (L.val / 8) := by
  have e : V4 m ρ c main_v2_2 = (dat1 (V2 m ρ) c).arrAt 3 cfg1.N := (W4_of m ρ c main_v2_2 (by decide)).trans (W3_arr m ρ c 3)
  rw [e]
  exact arr1_3 (V2 m ρ) c (maxes m ρ c) I L

theorem v4_main_v1_1 (p : Fin 256) (C : Fin 3072) : (V4 m ρ c main_v1_1 : Vec Ideal S256x3072 .bf16) (ix2 p C) = rotAt (XA m c) (GA m c) p.val (tcol C.val) := by
  have e : V4 m ρ c main_v1_1 = (dat0 (V1 m ρ) c).arrAt 4 cfg0.N :=
    (W4_of m ρ c main_v1_1 (by decide)).trans ((W3_of_ne m ρ c main_v1_1 (by decide)).trans (W2_arr m ρ c 4))
  rw [e]
  have h := arr0_4 (V1 m ρ) c p C
  rw [xIn1, gIn1] at h
  exact h

theorem v4_main_v3 : V4 m ρ c main_v3 = shapeCast S1 (W3 m ρ c (Proc.devRef .tc main_v2_3) : Vec Ideal S1x1 .f32) shapeCasts_S1x1_S1 := by
  unfold_abbrev_sides
  after_results
  rfl

theorem one_eq (w : Vec Ideal S1x1 .f32) (h : S1x1.ShapeCasts S1) (i : S1.Idx) : ∃ j, shapeCast S1 w h i = w j := ⟨_, rfl⟩

theorem v4_main_v3_apply (i : S1.Idx) : (V4 m ρ c main_v3 : Vec Ideal S1 .f32) i = sT (RW m c) := by
  rw [v4_main_v3]
  obtain ⟨j, e⟩ := one_eq (W3 m ρ c (Proc.devRef .tc main_v2_3)) shapeCasts_S1x1_S1 i
  refine e.trans ?_
  have e' : W3 m ρ c (Proc.devRef .tc main_v2_3) = (dat1 (V2 m ρ) c).arrAt 4 cfg1.N := W3_arr m ρ c 4
  rw [e']
  exact arr1_4 (V2 m ρ) c (maxes m ρ c) j

theorem out_main_v3 (i : S1.Idx) : (W6 m ρ c (Proc.devRef .tc main_v3) : Vec Ideal S1 .f32) i = sT (RW m c) := by
  have e : W6 m ρ c (Proc.devRef .tc main_v3) = V4 m ρ c main_v3 :=
    (W6_of m ρ c main_v3 (by decide)).trans (W5_of m ρ c main_v3 (by decide))
  rw [e]
  exact v4_main_v3_apply m ρ c i

theorem out_main_v4_1 (n : Fin 11520) (j : Fin 1440) : (W6 m ρ c (Proc.devRef .tc main_v4_1) : S11520x1440.Idx → BitVec 8) (ix2 n j) = ckAt (WA m c) (GA m c) (iV (RW m c)) n.val j.val := by
  have e : W6 m ρ c (Proc.devRef .tc main_v4_1) = (dat2 (V4 m ρ) c).arrAt 7 cfg2.N := (W6_of m ρ c main_v4_1 (by decide)).trans (W5_arr m ρ c 7)
  rw [e]
  have h := arr2_7 (V4 m ρ) c (v4_main_v2_0 m ρ c) n j
  rw [wIn4, gIn4] at h
  exact h

theorem out_main_v4_2 (k : Fin 2880) (j : Fin 5760) : (W6 m ρ c (Proc.devRef .tc main_v4_2) : S2880x5760.Idx → BitVec 8) (ix2 k j) = cnAt (WA m c) (GA m c) (iV (RW m c)) k.val j.val := by
  have e : W6 m ρ c (Proc.devRef .tc main_v4_2) = (dat2 (V4 m ρ) c).arrAt 8 cfg2.N := (W6_of m ρ c main_v4_2 (by decide)).trans (W5_arr m ρ c 8)
  rw [e]
  have h := arr2_8 (V4 m ρ) c (v4_main_v2_0 m ρ c) k j
  rw [wIn4, gIn4] at h
  exact h

theorem w5_main_v4_0 (p : Fin 256) (n : Fin 11520) : (W5 m ρ c (Proc.devRef .tc main_v4_0) : Vec Ideal S256x11520 .bf16) (ix2 p n)
    = yAt (WA m c) (GA m c) (iV (RW m c)) (sB (RW m c)) (rotAt (XA m c) (GA m c)) (sT (RW m c)) p.val n.val := by
  have e : W5 m ρ c (Proc.devRef .tc main_v4_0) = (dat2 (V4 m ρ) c).arrAt 6 cfg2.N := W5_arr m ρ c 6
  rw [e]
  have h := arr2_6 (V4 m ρ) c (v4_main_v3_apply m ρ c _) (v4_main_v1_1 m ρ c) (v4_main_v2_0 m ρ c) (v4_main_v2_2 m ρ c) p n
  rw [wIn4, gIn4] at h
  exact h

theorem w6_main_v5 : W6 m ρ c (Proc.devRef .tc main_v5) = shapeCast S2x128x11520 (W5 m ρ c (Proc.devRef .tc main_v4_0) : Vec Ideal S256x11520 .bf16) shapeCasts_S256x11520_S2x128x11520 := by
  unfold_abbrev_sides
  after_results
  rfl

theorem y_rows (w : Vec Ideal S256x11520 .bf16) (h : S256x11520.ShapeCasts S2x128x11520) (b : Fin 2) (s : Fin 128) (n : Fin 11520) :
    shapeCast S2x128x11520 w h (ix3 b s n) = w (ix2 (⟨b.val * 128 + s.val, by omega⟩ : Fin 256) n) := by
  pointwise

theorem out_main_v5 (b : Fin 2) (s : Fin 128) (n : Fin 11520) : (W6 m ρ c (Proc.devRef .tc main_v5) : Vec Ideal S2x128x11520 .bf16) (ix3 b s n)
    = yAt (WA m c) (GA m c) (iV (RW m c)) (sB (RW m c)) (rotAt (XA m c) (GA m c)) (sT (RW m c)) (128 * b.val + s.val) n.val := by
  rw [w6_main_v5]
  rw [Nat.mul_comm 128 b.val]
  exact (y_rows _ _ b s n).trans (w5_main_v4_0 m ρ c _ n)

end Cert.Maths
-- ==== Proof.Maths.RefResults.lean ====
module

public import proofs.«01_k».proof.Proof.Maths.RefOut
public import proofs.«01_k».proof.Proof.Maths.Out

/-! The reference's results, from its arguments. -/

@[expose] public section

set_option maxRecDepth 16384

noncomputable section

namespace Cert.Maths.Ref

open Cert.ReferenceIdeal Cert.ReferenceIdeal.Gen Cert.ReferenceIdeal.Value Cert.ReferenceIdeal.Read
open Idealize.ShloMosaic Idealize.ShloMosaic.TcCoe Idealize.ShloMosaic.StableHlo Idealize.SL.Sem

variable (m : (ℓ : Loc nD τ sig) → Buf (Elt Ideal) ℓ) (c : Dev nD)

/-- The signs. -/
def gR : Fin 16 → EReal := fun i => rG m c (ix1 i)

/-- The rotated activations' rows. -/
def xR : ℕ → ℕ → EReal := rotAt (at2 (xRows (rX m c))) (gR m c)

/-- What the quantiser is given. -/
theorem given : Given (exitV m c (Proc.devRef .tc main_v31_1)) (exitV m c (Proc.devRef .tc main_v27)) (exitV m c (Proc.devRef .tc main_v28)) (at2 (rW m c)) (gR m c) where
  h1 I K := (congrFun (exit_main_v31_1 m c) (ix2 I K)).trans (reg_1 m c I K)
  h0 i := exit_S_apply m c i
  hB I a K b := (congrFun (exit_B m c) (ix4 I a K b)).trans (refB_apply _ _ I a K b)

theorem given2 (I : Fin 720) (K : Fin 180) : (exitV m c (Proc.devRef .tc main_v31_2) : FVec Ideal S720x180 .bf16) (ix2 I K) = sB (rotAt (at2 (rW m c)) (gR m c)) I.val K.val :=
  (congrFun (exit_main_v31_2 m c) (ix2 I K)).trans (reg_2 m c I K)

/-- The rotated activations. -/
theorem rotX (x : FVec Ideal S2x128x2880 .bf16) (g : FVec Ideal S16 .f32) (b : Fin 2) (s : Fin 128) (k : Fin 2880) :
    val_main_v103 (F := Ideal) x (refT g) (ix3 b s k) = rotAt (at2 (xRows x)) (fun i => g (ix1 i)) (128 * b.val + s.val) k.val := by
  rw [refX_apply]
  unfold rotAt
  refine Finset.sum_congr rfl fun i _ => congrArg (· * _) ?_
  rw [at2_in _ _ _ (show 128 * b.val + s.val < 256 by omega) (show 16 * (k.val / 16) + i.val < 2880 by omega)]
  unfold xRows
  refine congrArg x (funext fun a => match a with
    | ⟨0, _⟩ => Fin.ext (by show b.val = (128 * b.val + s.val) / 128; omega)
    | ⟨1, _⟩ => Fin.ext (by show s.val = (128 * b.val + s.val) % 128; omega)
    | ⟨2, _⟩ => Fin.ext (by show k.val / 16 * 16 + i.val = 16 * (k.val / 16) + i.val; omega))

/-- The product. -/
theorem out_y (b : Fin 2) (s : Fin 128) (n : Fin 11520) :
    val_main_v126 (F := Ideal) (exitV m c (Proc.devRef .tc main_arg0)) (exitV m c (Proc.devRef .tc main_v31_1)) (exitV m c (Proc.devRef .tc main_v31_2)) (exitV m c (Proc.devRef .tc main_v27)) (exitV m c (Proc.devRef .tc main_v28)) (exitV m c (Proc.devRef .tc main_v19)) (ix3 b s n)
      = yAt (at2 (rW m c)) (gR m c) (iV (rotAt (at2 (rW m c)) (gR m c))) (sB (rotAt (at2 (rW m c)) (gR m c))) (xR m c) (sT (rotAt (at2 (rW m c)) (gR m c))) (128 * b.val + s.val) n.val := by
  refine v126_apply (given m c) (given2 m c) (fun b s k => ?_) (fun p k hk => ?_) b s n
  · rw [exit_T, exit_main_arg0]
    exact rotX _ _ b s k
  · exact rotAt_out _ (b := 180) (fun k hk => at2_out _ _ _ hk) k hk

end Cert.Maths.Ref
-- ==== Proof.lean ====
/- The proof of the certificate's claim: the programs run and leave their arguments, and at exact arithmetic the
    kernel's five results are the reference's. -/
module

public import proofs.«01_k».proof.Defs
public import proofs.«01_k».proof.Proof.HandKernel.Run
public import proofs.«01_k».proof.Proof.HandKernelIdeal.Run
public import proofs.«01_k».proof.Proof.Gen.ReferenceIdeal.Frame
public import proofs.«01_k».proof.Proof.Maths.RefResults

@[expose] public section

set_option maxRecDepth 16384

noncomputable section

namespace Cert.Proof

open Idealize.ShloMosaic Idealize.ShloMosaic.TcCoe Idealize.ShloMosaic.StableHlo Idealize.SL.Sem Cert.Maths

/-- A three-dimensional index. -/
theorem ex3 {a b d : ℕ} (z : (⟨3, ![a, b, d]⟩ : Shape).Idx) : ∃ (p : Fin a) (q : Fin b) (r : Fin d), z = ix3 p q r :=
  ⟨z 0, z 1, z 2, funext fun i => match i with | ⟨0, _⟩ => rfl | ⟨1, _⟩ => rfl | ⟨2, _⟩ => rfl⟩

section

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The arguments are the same. -/
structure Same : Prop where
  x : Ref.rX m' c = m ((c.tc : Thread Cert.KernelIdeal.nD Cert.KernelIdeal.τ).loc Cert.KernelIdeal.main_arg0)
  w : Ref.rW m' c = m ((c.tc : Thread Cert.KernelIdeal.nD Cert.KernelIdeal.τ).loc Cert.KernelIdeal.main_arg1)
  g : Ref.rG m' c = m ((c.tc : Thread Cert.KernelIdeal.nD Cert.KernelIdeal.τ).loc Cert.KernelIdeal.main_arg2)

variable {m m' c}

theorem Same.wa (h : Same m m' c) : at2 (Ref.rW m' c) = WA m c := congrArg at2 h.w
theorem Same.ga (h : Same m m' c) : Ref.gR m' c = GA m c := funext fun i => congrFun h.g (ix1 i)
theorem Same.xa (h : Same m m' c) : at2 (xRows (Ref.rX m' c)) = XA m c := congrArg (fun x => at2 (xRows x)) h.x
theorem Same.rw (h : Same m m' c) : Ref.RR m' c = RW m c := by
  show rotAt (at2 (Ref.rW m' c)) (Ref.gR m' c) = _
  rw [h.wa, h.ga]
  rfl

/-- The scale of the whole array. -/
theorem eq_st (h : Same m m' c) (z : FVec Ideal Cert.KernelIdeal.S1 .f32) (hz : z = Cert.ReferenceIdeal.Value.exitV m' c (Proc.devRef .tc Cert.ReferenceIdeal.main_v27)) :
    z = Cert.KernelIdeal.Hand.W6 m ρ c (Proc.devRef .tc Cert.KernelIdeal.main_v3) := by
  rw [hz]
  funext i
  refine (Ref.exit_S_apply m' c i).trans (Eq.trans ?_ (out_main_v3 m ρ c i).symm)
  rw [h.rw]

/-- The scales of the blocks. -/
theorem eq_sb (h : Same m m' c) (z : FVec Ideal Cert.KernelIdeal.S720x180 .fp8e4m3) (hz : z = Cert.ReferenceIdeal.Value.reg_main_v31_0 m' c) :
    z = Cert.KernelIdeal.Hand.W6 m ρ c (Proc.devRef .tc Cert.KernelIdeal.main_v2_1) := by
  rw [hz]
  funext i
  obtain ⟨I, K, rfl⟩ := ex2 i
  refine (Ref.reg_0 m' c I K).trans (Eq.trans ?_ (out_main_v2_1 m ρ c I K).symm)
  rw [h.rw]

/-- The codes packed along the rows. -/
theorem eq_ck (h : Same m m' c) (z : Cert.KernelIdeal.S11520x1440.Idx → BitVec 8)
    (hz : z = Cert.ReferenceIdeal.Read.val_main_v127 (F := Ideal) (Cert.ReferenceIdeal.Value.exitV m' c (Proc.devRef .tc Cert.ReferenceIdeal.main_v31_1)) (Cert.ReferenceIdeal.Value.exitV m' c (Proc.devRef .tc Cert.ReferenceIdeal.main_v27)) (Cert.ReferenceIdeal.Value.exitV m' c (Proc.devRef .tc Cert.ReferenceIdeal.main_v28))) :
    z = Cert.KernelIdeal.Hand.W6 m ρ c (Proc.devRef .tc Cert.KernelIdeal.main_v4_1) := by
  rw [hz]
  funext i
  obtain ⟨n, j, rfl⟩ := ex2 i
  refine (v127_apply (Ref.given m' c) n j).trans (Eq.trans ?_ (out_main_v4_1 m ρ c n j).symm)
  rw [h.wa, h.ga]
  rfl

/-- The codes packed along the columns. -/
theorem eq_cn (h : Same m m' c) (z : Cert.KernelIdeal.S2880x5760.Idx → BitVec 8)
    (hz : z = Cert.ReferenceIdeal.Read.val_main_v128 (F := Ideal) (Cert.ReferenceIdeal.Value.exitV m' c (Proc.devRef .tc Cert.ReferenceIdeal.main_v31_1)) (Cert.ReferenceIdeal.Value.exitV m' c (Proc.devRef .tc Cert.ReferenceIdeal.main_v27)) (Cert.ReferenceIdeal.Value.exitV m' c (Proc.devRef .tc Cert.ReferenceIdeal.main_v28))) :
    z = Cert.KernelIdeal.Hand.W6 m ρ c (Proc.devRef .tc Cert.KernelIdeal.main_v4_2) := by
  rw [hz]
  funext i
  obtain ⟨k, j, rfl⟩ := ex2 i
  refine (v128_apply (Ref.given m' c) k j).trans (Eq.trans ?_ (out_main_v4_2 m ρ c k j).symm)
  rw [h.wa, h.ga]
  rfl

/-- The product. -/
theorem eq_y (h : Same m m' c) (z : FVec Ideal Cert.KernelIdeal.S2x128x11520 .bf16)
    (hz : z = Cert.ReferenceIdeal.Read.val_main_v126 (F := Ideal) (Cert.ReferenceIdeal.Value.exitV m' c (Proc.devRef .tc Cert.ReferenceIdeal.main_arg0)) (Cert.ReferenceIdeal.Value.exitV m' c (Proc.devRef .tc Cert.ReferenceIdeal.main_v31_1)) (Cert.ReferenceIdeal.Value.exitV m' c (Proc.devRef .tc Cert.ReferenceIdeal.main_v31_2)) (Cert.ReferenceIdeal.Value.exitV m' c (Proc.devRef .tc Cert.ReferenceIdeal.main_v27)) (Cert.ReferenceIdeal.Value.exitV m' c (Proc.devRef .tc Cert.ReferenceIdeal.main_v28)) (Cert.ReferenceIdeal.Value.exitV m' c (Proc.devRef .tc Cert.ReferenceIdeal.main_v19))) :
    z = Cert.KernelIdeal.Hand.W6 m ρ c (Proc.devRef .tc Cert.KernelIdeal.main_v5) := by
  rw [hz]
  funext i
  obtain ⟨b, s, n, rfl⟩ := ex3 i
  refine (Ref.out_y m' c b s n).trans (Eq.trans ?_ (out_main_v5 m ρ c b s n).symm)
  unfold Ref.xR
  rw [h.wa, h.ga, h.xa]
  rfl

end

theorem algebraic : letI := Cert.KernelIdeal.Gen.facts; letI := Cert.ReferenceIdeal.Gen.facts; Cert.algebraic_KernelIdeal_ReferenceIdeal := by
  intro m ρ m' ρ' _ ha
  have hs : ∀ c, Same m m' c := fun c => ⟨(ha c).1, (ha c).2.1, (ha c).2.2⟩
  refine ⟨fun c => Cert.KernelIdeal.Hand.W6 m ρ c (Proc.devRef .tc Cert.KernelIdeal.main_v5), fun c => Cert.KernelIdeal.Hand.W6 m ρ c (Proc.devRef .tc Cert.KernelIdeal.main_v4_1),
    fun c => Cert.KernelIdeal.Hand.W6 m ρ c (Proc.devRef .tc Cert.KernelIdeal.main_v4_2), fun c => Cert.KernelIdeal.Hand.W6 m ρ c (Proc.devRef .tc Cert.KernelIdeal.main_v2_1),
    fun c => Cert.KernelIdeal.Hand.W6 m ρ c (Proc.devRef .tc Cert.KernelIdeal.main_v3), Cert.KernelIdeal.Hand.results m ρ, ?_⟩
  refine (θ_run _ _ _).mono (fun r h c => ?_) (Cert.ReferenceIdeal.Value.run m' ρ')
  obtain ⟨h0, h1, h2, h3, h4, h5⟩ := h c
  exact ⟨eq_y ρ (hs c) _ (h0.trans (Cert.ReferenceIdeal.Read.val_main_v126_eq (F := Ideal) (Cert.ReferenceIdeal.Value.exitV m' c))),
    eq_ck ρ (hs c) _ (h1.trans (Cert.ReferenceIdeal.Read.val_main_v127_eq (F := Ideal) (Cert.ReferenceIdeal.Value.exitV m' c))),
    eq_cn ρ (hs c) _ (h2.trans (Cert.ReferenceIdeal.Read.val_main_v128_eq (F := Ideal) (Cert.ReferenceIdeal.Value.exitV m' c))),
    eq_sb ρ (hs c) _ h3,
    eq_st ρ (hs c) _ (h4.trans (Cert.ReferenceIdeal.Value.exit_main_v27 m' c).symm), h5⟩

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ,
    trivial, algebraic⟩

end Cert.Proof
